-- ==== Defs.lean ====
def Pre_Kernel [hPre_pre_vals : Cert.Pre_pre_vals.Facts] (m : (ℓ : Loc Cert.Kernel.nD Cert.Kernel.τ Cert.Kernel.sig) → Buf (Elt Bits) ℓ) : Prop :=
  ∀ c : Dev Cert.Kernel.nD,
    (Cert.Pre_pre_vals.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_pre_vals : Cert.Pre_pre_vals.Facts] (m : (ℓ : Loc Cert.KernelIdeal.nD Cert.KernelIdeal.τ Cert.KernelIdeal.sig) → Buf (Elt Ideal) ℓ) : Prop :=
  ∀ c : Dev Cert.KernelIdeal.nD,
    (Cert.Pre_pre_vals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_vals [hPre_pre_vals : Cert.Pre_pre_vals.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_vals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_pre_vals : Cert.Pre_pre_vals.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_pre_vals : Cert.Pre_pre_vals.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_pre_vals [hReferenceIdeal : Cert.ReferenceIdeal.Facts] [hPre_pre_vals : Cert.Pre_pre_vals.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_vals m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre_vals : Cert.Pre_pre_vals.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_pre_vals : Cert.Pre_pre_vals.Facts),
    quiescent_Kernel (hKernel := hKernel) (hPre_pre_vals := hPre_pre_vals)
    ∧ quiescent_KernelIdeal (hKernelIdeal := hKernelIdeal) (hPre_pre_vals := hPre_pre_vals)
    ∧ quiescent_ReferenceIdeal (hReferenceIdeal := hReferenceIdeal)
    ∧ quiescent_ReferenceIdeal_pre_pre_vals (hReferenceIdeal := hReferenceIdeal) (hPre_pre_vals := hPre_pre_vals)
    ∧ preserves_Kernel_KernelIdeal
    ∧ algebraic_KernelIdeal_ReferenceIdeal (hKernelIdeal := hKernelIdeal) (hReferenceIdeal := hReferenceIdeal) (hPre_pre_vals := hPre_pre_vals)
-- ==== Pre_pre_vals.lean ====
abbrev S16x32x1024 : Shape := ⟨3, ![16, 32, 1024]⟩
abbrev S16x32x32x1024 : Shape := ⟨4, ![16, 32, 32, 1024]⟩
abbrev S16x32x32 : Shape := ⟨3, ![16, 32, 32]⟩
abbrev S1x2048 : Shape := ⟨2, ![1, 2048]⟩
abbrev S1 : Shape := ⟨1, ![1]⟩
abbrev S1024x2048 : Shape := ⟨2, ![1024, 2048]⟩
abbrev S1024 : Shape := ⟨1, ![1024]⟩
abbrev S1x1024 : Shape := ⟨2, ![1, 1024]⟩
abbrev S_ : Shape := ⟨0, ![]⟩

class Facts : Prop where
  bcast_S_S16x32x32 : S_.BroadcastsInDim S16x32x32 (![] : Fin 0 → Fin S16x32x32.rank)
  reducesTo_S16x32x32_S_d0_1_2 : S16x32x32.ReducesTo [0, 1, 2] S_
  h_S_ : 0 < S_.numel

variable [Facts]

def fn {F : FTy → Type} [FloatOps F] (main_arg0 : FVec F S16x32x1024 .f32) (main_arg1 : FVec F S16x32x32x1024 .f32) (main_arg2 : IVec S16x32x32 32) (main_arg3 : FVec F S16x32x32 .f32) (main_arg4 : FVec F S1x2048 .f32) (main_arg5 : FVec F S1 .f32) (main_arg6 : FVec F S1024x2048 .f32) (main_arg7 : FVec F S1024 .f32) (main_arg8 : FVec F S1x1024 .f32) (main_arg9 : FVec F S1 .f32) : IVec S_ 1 :=
  let main_c : IVec S_ 32 := constantI S_ 32 0#32
  let main_v0 : IVec S16x32x32 32 := broadcastInDim S16x32x32 ![] bcast_S_S16x32x32 main_c
  let main_v1 : IVec S16x32x32 1 := cmpi .sge main_arg2 main_v0
  let main_c_0 : IVec S_ 32 := constantI S_ 32 42024#32
  let main_v2 : IVec S16x32x32 32 := broadcastInDim S16x32x32 ![] bcast_S_S16x32x32 main_c_0
  let main_v3 : IVec S16x32x32 1 := cmpi .slt main_arg2 main_v2
  let main_v4 : IVec S16x32x32 1 := andi main_v1 main_v3
  let main_c_1 : IVec S_ 1 := constantI S_ 1 1#1
  let main_v5 : IVec S_ 1 := (fun x v => Host.reduce IntOp.andi x v reducesTo_S16x32x32_S_d0_1_2 h_S_) main_v4 main_c_1
  main_v5
-- ==== Kernel.lean ====
abbrev S16x32x1024 : Shape := ⟨3, ![16, 32, 1024]⟩
abbrev S16x32x32x1024 : Shape := ⟨4, ![16, 32, 32, 1024]⟩
abbrev S16x32x32 : Shape := ⟨3, ![16, 32, 32]⟩
abbrev S1x2048 : Shape := ⟨2, ![1, 2048]⟩
abbrev S1 : Shape := ⟨1, ![1]⟩
abbrev S1024x2048 : Shape := ⟨2, ![1024, 2048]⟩
abbrev S1024 : Shape := ⟨1, ![1024]⟩
abbrev S1x1024 : Shape := ⟨2, ![1, 1024]⟩
abbrev S512x1024 : Shape := ⟨2, ![512, 1024]⟩
abbrev S512x32x1024 : Shape := ⟨3, ![512, 32, 1024]⟩
abbrev S512x32 : Shape := ⟨2, ![512, 32]⟩
abbrev S1x1 : Shape := ⟨2, ![1, 1]⟩
abbrev S512x2048 : Shape := ⟨2, ![512, 2048]⟩
abbrev S32x1024 : Shape := ⟨2, ![32, 1024]⟩
abbrev S32x32x1024 : Shape := ⟨3, ![32, 32, 1024]⟩
abbrev S32x32 : Shape := ⟨2, ![32, 32]⟩
abbrev S32x2048 : Shape := ⟨2, ![32, 2048]⟩
abbrev S32x1x1024 : Shape := ⟨3, ![32, 1, 1024]⟩
abbrev S32 : Shape := ⟨1, ![32]⟩
abbrev S32x1 : Shape := ⟨2, ![32, 1]⟩
abbrev S512x1 : Shape := ⟨2, ![512, 1]⟩
abbrev S512 : Shape := ⟨1, ![512]⟩
abbrev S512x42024 : Shape := ⟨2, ![512, 42024]⟩
abbrev S8x42024 : Shape := ⟨2, ![8, 42024]⟩
abbrev S21516288 : Shape := ⟨1, ![21516288]⟩
abbrev S16384 : Shape := ⟨1, ![16384]⟩
abbrev S42032 : Shape := ⟨1, ![42032]⟩
abbrev S_ : Shape := ⟨0, ![]⟩
abbrev S16 : Shape := ⟨1, ![16]⟩
abbrev S16x32x42024 : Shape := ⟨3, ![16, 32, 42024]⟩
abbrev S16x32x1 : Shape := ⟨3, ![16, 32, 1]⟩

abbrev nBuf : Table → Nat
  | .hbm => 26
  | .local .tc .vmem => 20
  | .local .scVector .vmem => 5
  | _ => 0

abbrev bufTy : (tb : Table) → Fin (nBuf tb) → BufTy
  | .hbm, ⟨0, _⟩ => ⟨S16x32x1024, .f32⟩
  | .hbm, ⟨1, _⟩ => ⟨S16x32x32x1024, .f32⟩
  | .hbm, ⟨2, _⟩ => ⟨S16x32x32, .i32⟩
  | .hbm, ⟨3, _⟩ => ⟨S16x32x32, .f32⟩
  | .hbm, ⟨4, _⟩ => ⟨S1x2048, .f32⟩
  | .hbm, ⟨5, _⟩ => ⟨S1, .f32⟩
  | .hbm, ⟨6, _⟩ => ⟨S1024x2048, .f32⟩
  | .hbm, ⟨7, _⟩ => ⟨S1024, .f32⟩
  | .hbm, ⟨8, _⟩ => ⟨S1x1024, .f32⟩
  | .hbm, ⟨9, _⟩ => ⟨S1, .f32⟩
  | .hbm, ⟨10, _⟩ => ⟨S512x1024, .f32⟩
  | .hbm, ⟨11, _⟩ => ⟨S512x32x1024, .f32⟩
  | .hbm, ⟨12, _⟩ => ⟨S512x32, .f32⟩
  | .hbm, ⟨13, _⟩ => ⟨S1x1, .f32⟩
  | .hbm, ⟨14, _⟩ => ⟨S512x32, .f32⟩
  | .hbm, ⟨15, _⟩ => ⟨S512x2048, .f32⟩
  | .hbm, ⟨16, _⟩ => ⟨S1x1024, .f32⟩
  | .hbm, ⟨17, _⟩ => ⟨S1x1, .f32⟩
  | .hbm, ⟨18, _⟩ => ⟨S512x1, .f32⟩
  | .hbm, ⟨19, _⟩ => ⟨S512x42024, .f32⟩
  | .hbm, ⟨20, _⟩ => ⟨S21516288, .f32⟩
  | .hbm, ⟨21, _⟩ => ⟨S16384, .i32⟩
  | .hbm, ⟨22, _⟩ => ⟨S16384, .f32⟩
  | .hbm, ⟨23, _⟩ => ⟨S21516288, .f32⟩
  | .hbm, ⟨24, _⟩ => ⟨S16x32x42024, .f32⟩
  | .hbm, ⟨25, _⟩ => ⟨S16x32x1, .f32⟩
  | .local .tc .vmem, ⟨0, _⟩ => ⟨S32x1024, .f32⟩
  | .local .tc .vmem, ⟨1, _⟩ => ⟨S32x1024, .f32⟩
  | .local .tc .vmem, ⟨2, _⟩ => ⟨S32x32x1024, .f32⟩
  | .local .tc .vmem, ⟨3, _⟩ => ⟨S32x32x1024, .f32⟩
  | .local .tc .vmem, ⟨4, _⟩ => ⟨S32x32, .f32⟩
  | .local .tc .vmem, ⟨5, _⟩ => ⟨S32x32, .f32⟩
  | .local .tc .vmem, ⟨6, _⟩ => ⟨S1x2048, .f32⟩
  | .local .tc .vmem, ⟨7, _⟩ => ⟨S1x1, .f32⟩
  | .local .tc .vmem, ⟨8, _⟩ => ⟨S32x32, .f32⟩
  | .local .tc .vmem, ⟨9, _⟩ => ⟨S32x32, .f32⟩
  | .local .tc .vmem, ⟨10, _⟩ => ⟨S32x2048, .f32⟩
  | .local .tc .vmem, ⟨11, _⟩ => ⟨S32x2048, .f32⟩
  | .local .tc .vmem, ⟨12, _⟩ => ⟨S512x2048, .f32⟩
  | .local .tc .vmem, ⟨13, _⟩ => ⟨S1024x2048, .f32⟩
  | .local .tc .vmem, ⟨14, _⟩ => ⟨S1x1024, .f32⟩
  | .local .tc .vmem, ⟨15, _⟩ => ⟨S1x1024, .f32⟩
  | .local .tc .vmem, ⟨16, _⟩ => ⟨S1x1, .f32⟩
  | .local .tc .vmem, ⟨17, _⟩ => ⟨S512x1, .f32⟩
  | .local .tc .vmem, ⟨18, _⟩ => ⟨S8x42024, .f32⟩
  | .local .tc .vmem, ⟨19, _⟩ => ⟨S8x42024, .f32⟩
  | .local .scVector .vmem, ⟨0, _⟩ => ⟨S512, .i32⟩
  | .local .scVector .vmem, ⟨1, _⟩ => ⟨S512, .f32⟩
  | .local .scVector .vmem, ⟨2, _⟩ => ⟨S512, .i32⟩
  | .local .scVector .vmem, ⟨3, _⟩ => ⟨S512, .f32⟩
  | .local .scVector .vmem, ⟨4, _⟩ => ⟨S42032, .f32⟩
  | _, _ => ⟨S16x32x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v12_scv : Ref sig .scVector := ⟨.hbm, 23, rfl⟩
abbrev main_v10_scv : Ref sig .scVector := ⟨.hbm, 21, rfl⟩
abbrev main_v11_scv : Ref sig .scVector := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc2_stg0_0 : Ref sig .tc := ⟨.vmem, 18, rfl⟩
abbrev cc2_stg0_1 : Ref sig .tc := ⟨.vmem, 19, rfl⟩
abbrev cc3_scratch0 : Ref sig .scVector := ⟨.vmem, 0, rfl⟩
abbrev cc3_scratch1 : Ref sig .scVector := ⟨.vmem, 1, rfl⟩
abbrev cc3_scratch2 : Ref sig .scVector := ⟨.vmem, 2, rfl⟩
abbrev cc3_scratch3 : Ref sig .scVector := ⟨.vmem, 3, rfl⟩
abbrev cc3_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc2_sem0_0 : DmaSem sig := 18
abbrev cc2_sem0_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

abbrev stage1_0 : Fin 1 → Memref sig .tc .vmem S512x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x42024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c32_i32 : BitVec 32 := 32#32
  let v3 : BitVec 32 := Scalar.muli v2 c32_i32
  ![v3.toNat]

def k3_chk1 (v39 : IVec S16 32) : Prop :=
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a) ∧
  (∀ a x, ((![v39] : Fin 1 → IVec S16 32) a x).toNat < S42032.size a)
theorem k3_idx1_inb : ∀ (v39 : IVec S16 32) (k3_hw1 : k3_chk1 v39), ∀ a x, ((![v39] : Fin 1 → IVec S16 32) a x).toNat < S42032.size a := fun v39 k3_hw1 => k3_hw1.1
theorem k3_idx3_inb : ∀ (v39 : IVec S16 32) (k3_hw1 : k3_chk1 v39), ∀ a x, ((![v39] : Fin 1 → IVec S16 32) a x).toNat < S42032.size a := fun v39 k3_hw1 => k3_hw1.2.1
theorem k3_idx5_inb : ∀ (v39 : IVec S16 32) (k3_hw1 : k3_chk1 v39), ∀ a x, ((![v39] : Fin 1 → IVec S16 32) a x).toNat < S42032.size a := fun v39 k3_hw1 => k3_hw1.2.2.1
theorem k3_idx7_inb : ∀ (v39 : IVec S16 32) (k3_hw1 : k3_chk1 v39), ∀ a x, ((![v39] : Fin 1 → IVec S16 32) a x).toNat < S42032.size a := fun v39 k3_hw1 => k3_hw1.2.2.2.1
theorem k3_idx9_inb : ∀ (v39 : IVec S16 32) (k3_hw1 : k3_chk1 v39), ∀ a x, ((![v39] : Fin 1 → IVec S16 32) a x).toNat < S42032.size a := fun v39 k3_hw1 => k3_hw1.2.2.2.2.1
theorem k3_idx11_inb : ∀ (v39 : IVec S16 32) (k3_hw1 : k3_chk1 v39), ∀ a x, ((![v39] : Fin 1 → IVec S16 32) a x).toNat < S42032.size a := fun v39 k3_hw1 => k3_hw1.2.2.2.2.2.1
theorem k3_idx13_inb : ∀ (v39 : IVec S16 32) (k3_hw1 : k3_chk1 v39), ∀ a x, ((![v39] : Fin 1 → IVec S16 32) a x).toNat < S42032.size a := fun v39 k3_hw1 => k3_hw1.2.2.2.2.2.2.1
theorem k3_idx15_inb : ∀ (v39 : IVec S16 32) (k3_hw1 : k3_chk1 v39), ∀ a x, ((![v39] : Fin 1 → IVec S16 32) a x).toNat < S42032.size a := fun v39 k3_hw1 => k3_hw1.2.2.2.2.2.2.2.1
theorem k3_idx17_inb : ∀ (v39 : IVec S16 32) (k3_hw1 : k3_chk1 v39), ∀ a x, ((![v39] : Fin 1 → IVec S16 32) a x).toNat < S42032.size a := fun v39 k3_hw1 => k3_hw1.2.2.2.2.2.2.2.2.1
theorem k3_idx19_inb : ∀ (v39 : IVec S16 32) (k3_hw1 : k3_chk1 v39), ∀ a x, ((![v39] : Fin 1 → IVec S16 32) a x).toNat < S42032.size a := fun v39 k3_hw1 => k3_hw1.2.2.2.2.2.2.2.2.2.1
theorem k3_idx21_inb : ∀ (v39 : IVec S16 32) (k3_hw1 : k3_chk1 v39), ∀ a x, ((![v39] : Fin 1 → IVec S16 32) a x).toNat < S42032.size a := fun v39 k3_hw1 => k3_hw1.2.2.2.2.2.2.2.2.2.2.1
theorem k3_idx23_inb : ∀ (v39 : IVec S16 32) (k3_hw1 : k3_chk1 v39), ∀ a x, ((![v39] : Fin 1 → IVec S16 32) a x).toNat < S42032.size a := fun v39 k3_hw1 => k3_hw1.2.2.2.2.2.2.2.2.2.2.2.1
theorem k3_idx25_inb : ∀ (v39 : IVec S16 32) (k3_hw1 : k3_chk1 v39), ∀ a x, ((![v39] : Fin 1 → IVec S16 32) a x).toNat < S42032.size a := fun v39 k3_hw1 => k3_hw1.2.2.2.2.2.2.2.2.2.2.2.2.1
theorem k3_idx27_inb : ∀ (v39 : IVec S16 32) (k3_hw1 : k3_chk1 v39), ∀ a x, ((![v39] : Fin 1 → IVec S16 32) a x).toNat < S42032.size a := fun v39 k3_hw1 => k3_hw1.2.2.2.2.2.2.2.2.2.2.2.2.2.1
theorem k3_idx29_inb : ∀ (v39 : IVec S16 32) (k3_hw1 : k3_chk1 v39), ∀ a x, ((![v39] : Fin 1 → IVec S16 32) a x).toNat < S42032.size a := fun v39 k3_hw1 => k3_hw1.2.2.2.2.2.2.2.2.2.2.2.2.2.2.1
theorem k3_idx31_inb : ∀ (v39 : IVec S16 32) (k3_hw1 : k3_chk1 v39), ∀ a x, ((![v39] : Fin 1 → IVec S16 32) a x).toNat < S42032.size a := fun v39 k3_hw1 => k3_hw1.2.2.2.2.2.2.2.2.2.2.2.2.2.2.2.1
theorem k3_idx33_inb : ∀ (v39 : IVec S16 32) (k3_hw1 : k3_chk1 v39), ∀ a x, ((![v39] : Fin 1 → IVec S16 32) a x).toNat < S42032.size a := fun v39 k3_hw1 => k3_hw1.2.2.2.2.2.2.2.2.2.2.2.2.2.2.2.2.1
theorem k3_idx35_inb : ∀ (v39 : IVec S16 32) (k3_hw1 : k3_chk1 v39), ∀ a x, ((![v39] : Fin 1 → IVec S16 32) a x).toNat < S42032.size a := fun v39 k3_hw1 => k3_hw1.2.2.2.2.2.2.2.2.2.2.2.2.2.2.2.2.2

def k3_chk2 (v40 : IVec S16 32) : Prop :=
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a) ∧
  (∀ a x, ((![v40] : Fin 1 → IVec S16 32) a x).toNat < S42032.size a)
theorem k3_idx2_inb : ∀ (v40 : IVec S16 32) (k3_hw2 : k3_chk2 v40), ∀ a x, ((![v40] : Fin 1 → IVec S16 32) a x).toNat < S42032.size a := fun v40 k3_hw2 => k3_hw2.1
theorem k3_idx4_inb : ∀ (v40 : IVec S16 32) (k3_hw2 : k3_chk2 v40), ∀ a x, ((![v40] : Fin 1 → IVec S16 32) a x).toNat < S42032.size a := fun v40 k3_hw2 => k3_hw2.2.1
theorem k3_idx6_inb : ∀ (v40 : IVec S16 32) (k3_hw2 : k3_chk2 v40), ∀ a x, ((![v40] : Fin 1 → IVec S16 32) a x).toNat < S42032.size a := fun v40 k3_hw2 => k3_hw2.2.2.1
theorem k3_idx8_inb : ∀ (v40 : IVec S16 32) (k3_hw2 : k3_chk2 v40), ∀ a x, ((![v40] : Fin 1 → IVec S16 32) a x).toNat < S42032.size a := fun v40 k3_hw2 => k3_hw2.2.2.2.1
theorem k3_idx10_inb : ∀ (v40 : IVec S16 32) (k3_hw2 : k3_chk2 v40), ∀ a x, ((![v40] : Fin 1 → IVec S16 32) a x).toNat < S42032.size a := fun v40 k3_hw2 => k3_hw2.2.2.2.2.1
theorem k3_idx12_inb : ∀ (v40 : IVec S16 32) (k3_hw2 : k3_chk2 v40), ∀ a x, ((![v40] : Fin 1 → IVec S16 32) a x).toNat < S42032.size a := fun v40 k3_hw2 => k3_hw2.2.2.2.2.2.1
theorem k3_idx14_inb : ∀ (v40 : IVec S16 32) (k3_hw2 : k3_chk2 v40), ∀ a x, ((![v40] : Fin 1 → IVec S16 32) a x).toNat < S42032.size a := fun v40 k3_hw2 => k3_hw2.2.2.2.2.2.2.1
theorem k3_idx16_inb : ∀ (v40 : IVec S16 32) (k3_hw2 : k3_chk2 v40), ∀ a x, ((![v40] : Fin 1 → IVec S16 32) a x).toNat < S42032.size a := fun v40 k3_hw2 => k3_hw2.2.2.2.2.2.2.2.1
theorem k3_idx18_inb : ∀ (v40 : IVec S16 32) (k3_hw2 : k3_chk2 v40), ∀ a x, ((![v40] : Fin 1 → IVec S16 32) a x).toNat < S42032.size a := fun v40 k3_hw2 => k3_hw2.2.2.2.2.2.2.2.2.1
theorem k3_idx20_inb : ∀ (v40 : IVec S16 32) (k3_hw2 : k3_chk2 v40), ∀ a x, ((![v40] : Fin 1 → IVec S16 32) a x).toNat < S42032.size a := fun v40 k3_hw2 => k3_hw2.2.2.2.2.2.2.2.2.2.1
theorem k3_idx22_inb : ∀ (v40 : IVec S16 32) (k3_hw2 : k3_chk2 v40), ∀ a x, ((![v40] : Fin 1 → IVec S16 32) a x).toNat < S42032.size a := fun v40 k3_hw2 => k3_hw2.2.2.2.2.2.2.2.2.2.2.1
theorem k3_idx24_inb : ∀ (v40 : IVec S16 32) (k3_hw2 : k3_chk2 v40), ∀ a x, ((![v40] : Fin 1 → IVec S16 32) a x).toNat < S42032.size a := fun v40 k3_hw2 => k3_hw2.2.2.2.2.2.2.2.2.2.2.2.1
theorem k3_idx26_inb : ∀ (v40 : IVec S16 32) (k3_hw2 : k3_chk2 v40), ∀ a x, ((![v40] : Fin 1 → IVec S16 32) a x).toNat < S42032.size a := fun v40 k3_hw2 => k3_hw2.2.2.2.2.2.2.2.2.2.2.2.2.1
theorem k3_idx28_inb : ∀ (v40 : IVec S16 32) (k3_hw2 : k3_chk2 v40), ∀ a x, ((![v40] : Fin 1 → IVec S16 32) a x).toNat < S42032.size a := fun v40 k3_hw2 => k3_hw2.2.2.2.2.2.2.2.2.2.2.2.2.2.1
theorem k3_idx30_inb : ∀ (v40 : IVec S16 32) (k3_hw2 : k3_chk2 v40), ∀ a x, ((![v40] : Fin 1 → IVec S16 32) a x).toNat < S42032.size a := fun v40 k3_hw2 => k3_hw2.2.2.2.2.2.2.2.2.2.2.2.2.2.2.1
theorem k3_idx32_inb : ∀ (v40 : IVec S16 32) (k3_hw2 : k3_chk2 v40), ∀ a x, ((![v40] : Fin 1 → IVec S16 32) a x).toNat < S42032.size a := fun v40 k3_hw2 => k3_hw2.2.2.2.2.2.2.2.2.2.2.2.2.2.2.2.1
theorem k3_idx34_inb : ∀ (v40 : IVec S16 32) (k3_hw2 : k3_chk2 v40), ∀ a x, ((![v40] : Fin 1 → IVec S16 32) a x).toNat < S42032.size a := fun v40 k3_hw2 => k3_hw2.2.2.2.2.2.2.2.2.2.2.2.2.2.2.2.2.1
theorem k3_idx36_inb : ∀ (v40 : IVec S16 32) (k3_hw2 : k3_chk2 v40), ∀ a x, ((![v40] : Fin 1 → IVec S16 32) a x).toNat < S42032.size a := fun v40 k3_hw2 => k3_hw2.2.2.2.2.2.2.2.2.2.2.2.2.2.2.2.2.2

def k3_chk3 (v55 : IVec S16 32) : Prop :=
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a) ∧
  (∀ a x, ((![v55] : Fin 1 → IVec S16 32) a x).toNat < S42032.size a)
theorem k3_idx37_inb : ∀ (v55 : IVec S16 32) (k3_hw3 : k3_chk3 v55), ∀ a x, ((![v55] : Fin 1 → IVec S16 32) a x).toNat < S42032.size a := fun v55 k3_hw3 => k3_hw3.1
theorem k3_idx39_inb : ∀ (v55 : IVec S16 32) (k3_hw3 : k3_chk3 v55), ∀ a x, ((![v55] : Fin 1 → IVec S16 32) a x).toNat < S42032.size a := fun v55 k3_hw3 => k3_hw3.2.1
theorem k3_idx41_inb : ∀ (v55 : IVec S16 32) (k3_hw3 : k3_chk3 v55), ∀ a x, ((![v55] : Fin 1 → IVec S16 32) a x).toNat < S42032.size a := fun v55 k3_hw3 => k3_hw3.2.2.1
theorem k3_idx43_inb : ∀ (v55 : IVec S16 32) (k3_hw3 : k3_chk3 v55), ∀ a x, ((![v55] : Fin 1 → IVec S16 32) a x).toNat < S42032.size a := fun v55 k3_hw3 => k3_hw3.2.2.2.1
theorem k3_idx45_inb : ∀ (v55 : IVec S16 32) (k3_hw3 : k3_chk3 v55), ∀ a x, ((![v55] : Fin 1 → IVec S16 32) a x).toNat < S42032.size a := fun v55 k3_hw3 => k3_hw3.2.2.2.2.1
theorem k3_idx47_inb : ∀ (v55 : IVec S16 32) (k3_hw3 : k3_chk3 v55), ∀ a x, ((![v55] : Fin 1 → IVec S16 32) a x).toNat < S42032.size a := fun v55 k3_hw3 => k3_hw3.2.2.2.2.2.1
theorem k3_idx49_inb : ∀ (v55 : IVec S16 32) (k3_hw3 : k3_chk3 v55), ∀ a x, ((![v55] : Fin 1 → IVec S16 32) a x).toNat < S42032.size a := fun v55 k3_hw3 => k3_hw3.2.2.2.2.2.2.1
theorem k3_idx51_inb : ∀ (v55 : IVec S16 32) (k3_hw3 : k3_chk3 v55), ∀ a x, ((![v55] : Fin 1 → IVec S16 32) a x).toNat < S42032.size a := fun v55 k3_hw3 => k3_hw3.2.2.2.2.2.2.2.1
theorem k3_idx53_inb : ∀ (v55 : IVec S16 32) (k3_hw3 : k3_chk3 v55), ∀ a x, ((![v55] : Fin 1 → IVec S16 32) a x).toNat < S42032.size a := fun v55 k3_hw3 => k3_hw3.2.2.2.2.2.2.2.2.1
theorem k3_idx55_inb : ∀ (v55 : IVec S16 32) (k3_hw3 : k3_chk3 v55), ∀ a x, ((![v55] : Fin 1 → IVec S16 32) a x).toNat < S42032.size a := fun v55 k3_hw3 => k3_hw3.2.2.2.2.2.2.2.2.2.1
theorem k3_idx57_inb : ∀ (v55 : IVec S16 32) (k3_hw3 : k3_chk3 v55), ∀ a x, ((![v55] : Fin 1 → IVec S16 32) a x).toNat < S42032.size a := fun v55 k3_hw3 => k3_hw3.2.2.2.2.2.2.2.2.2.2.1
theorem k3_idx59_inb : ∀ (v55 : IVec S16 32) (k3_hw3 : k3_chk3 v55), ∀ a x, ((![v55] : Fin 1 → IVec S16 32) a x).toNat < S42032.size a := fun v55 k3_hw3 => k3_hw3.2.2.2.2.2.2.2.2.2.2.2.1
theorem k3_idx61_inb : ∀ (v55 : IVec S16 32) (k3_hw3 : k3_chk3 v55), ∀ a x, ((![v55] : Fin 1 → IVec S16 32) a x).toNat < S42032.size a := fun v55 k3_hw3 => k3_hw3.2.2.2.2.2.2.2.2.2.2.2.2.1
theorem k3_idx63_inb : ∀ (v55 : IVec S16 32) (k3_hw3 : k3_chk3 v55), ∀ a x, ((![v55] : Fin 1 → IVec S16 32) a x).toNat < S42032.size a := fun v55 k3_hw3 => k3_hw3.2.2.2.2.2.2.2.2.2.2.2.2.2.1
theorem k3_idx65_inb : ∀ (v55 : IVec S16 32) (k3_hw3 : k3_chk3 v55), ∀ a x, ((![v55] : Fin 1 → IVec S16 32) a x).toNat < S42032.size a := fun v55 k3_hw3 => k3_hw3.2.2.2.2.2.2.2.2.2.2.2.2.2.2.1
theorem k3_idx67_inb : ∀ (v55 : IVec S16 32) (k3_hw3 : k3_chk3 v55), ∀ a x, ((![v55] : Fin 1 → IVec S16 32) a x).toNat < S42032.size a := fun v55 k3_hw3 => k3_hw3.2.2.2.2.2.2.2.2.2.2.2.2.2.2.2.1
theorem k3_idx69_inb : ∀ (v55 : IVec S16 32) (k3_hw3 : k3_chk3 v55), ∀ a x, ((![v55] : Fin 1 → IVec S16 32) a x).toNat < S42032.size a := fun v55 k3_hw3 => k3_hw3.2.2.2.2.2.2.2.2.2.2.2.2.2.2.2.2.1
theorem k3_idx71_inb : ∀ (v55 : IVec S16 32) (k3_hw3 : k3_chk3 v55), ∀ a x, ((![v55] : Fin 1 → IVec S16 32) a x).toNat < S42032.size a := fun v55 k3_hw3 => k3_hw3.2.2.2.2.2.2.2.2.2.2.2.2.2.2.2.2.2

def k3_chk4 (v56 : IVec S16 32) : Prop :=
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a) ∧
  (∀ a x, ((![v56] : Fin 1 → IVec S16 32) a x).toNat < S42032.size a)
theorem k3_idx38_inb : ∀ (v56 : IVec S16 32) (k3_hw4 : k3_chk4 v56), ∀ a x, ((![v56] : Fin 1 → IVec S16 32) a x).toNat < S42032.size a := fun v56 k3_hw4 => k3_hw4.1
theorem k3_idx40_inb : ∀ (v56 : IVec S16 32) (k3_hw4 : k3_chk4 v56), ∀ a x, ((![v56] : Fin 1 → IVec S16 32) a x).toNat < S42032.size a := fun v56 k3_hw4 => k3_hw4.2.1
theorem k3_idx42_inb : ∀ (v56 : IVec S16 32) (k3_hw4 : k3_chk4 v56), ∀ a x, ((![v56] : Fin 1 → IVec S16 32) a x).toNat < S42032.size a := fun v56 k3_hw4 => k3_hw4.2.2.1
theorem k3_idx44_inb : ∀ (v56 : IVec S16 32) (k3_hw4 : k3_chk4 v56), ∀ a x, ((![v56] : Fin 1 → IVec S16 32) a x).toNat < S42032.size a := fun v56 k3_hw4 => k3_hw4.2.2.2.1
theorem k3_idx46_inb : ∀ (v56 : IVec S16 32) (k3_hw4 : k3_chk4 v56), ∀ a x, ((![v56] : Fin 1 → IVec S16 32) a x).toNat < S42032.size a := fun v56 k3_hw4 => k3_hw4.2.2.2.2.1
theorem k3_idx48_inb : ∀ (v56 : IVec S16 32) (k3_hw4 : k3_chk4 v56), ∀ a x, ((![v56] : Fin 1 → IVec S16 32) a x).toNat < S42032.size a := fun v56 k3_hw4 => k3_hw4.2.2.2.2.2.1
theorem k3_idx50_inb : ∀ (v56 : IVec S16 32) (k3_hw4 : k3_chk4 v56), ∀ a x, ((![v56] : Fin 1 → IVec S16 32) a x).toNat < S42032.size a := fun v56 k3_hw4 => k3_hw4.2.2.2.2.2.2.1
theorem k3_idx52_inb : ∀ (v56 : IVec S16 32) (k3_hw4 : k3_chk4 v56), ∀ a x, ((![v56] : Fin 1 → IVec S16 32) a x).toNat < S42032.size a := fun v56 k3_hw4 => k3_hw4.2.2.2.2.2.2.2.1
theorem k3_idx54_inb : ∀ (v56 : IVec S16 32) (k3_hw4 : k3_chk4 v56), ∀ a x, ((![v56] : Fin 1 → IVec S16 32) a x).toNat < S42032.size a := fun v56 k3_hw4 => k3_hw4.2.2.2.2.2.2.2.2.1
theorem k3_idx56_inb : ∀ (v56 : IVec S16 32) (k3_hw4 : k3_chk4 v56), ∀ a x, ((![v56] : Fin 1 → IVec S16 32) a x).toNat < S42032.size a := fun v56 k3_hw4 => k3_hw4.2.2.2.2.2.2.2.2.2.1
theorem k3_idx58_inb : ∀ (v56 : IVec S16 32) (k3_hw4 : k3_chk4 v56), ∀ a x, ((![v56] : Fin 1 → IVec S16 32) a x).toNat < S42032.size a := fun v56 k3_hw4 => k3_hw4.2.2.2.2.2.2.2.2.2.2.1
theorem k3_idx60_inb : ∀ (v56 : IVec S16 32) (k3_hw4 : k3_chk4 v56), ∀ a x, ((![v56] : Fin 1 → IVec S16 32) a x).toNat < S42032.size a := fun v56 k3_hw4 => k3_hw4.2.2.2.2.2.2.2.2.2.2.2.1
theorem k3_idx62_inb : ∀ (v56 : IVec S16 32) (k3_hw4 : k3_chk4 v56), ∀ a x, ((![v56] : Fin 1 → IVec S16 32) a x).toNat < S42032.size a := fun v56 k3_hw4 => k3_hw4.2.2.2.2.2.2.2.2.2.2.2.2.1
theorem k3_idx64_inb : ∀ (v56 : IVec S16 32) (k3_hw4 : k3_chk4 v56), ∀ a x, ((![v56] : Fin 1 → IVec S16 32) a x).toNat < S42032.size a := fun v56 k3_hw4 => k3_hw4.2.2.2.2.2.2.2.2.2.2.2.2.2.1
theorem k3_idx66_inb : ∀ (v56 : IVec S16 32) (k3_hw4 : k3_chk4 v56), ∀ a x, ((![v56] : Fin 1 → IVec S16 32) a x).toNat < S42032.size a := fun v56 k3_hw4 => k3_hw4.2.2.2.2.2.2.2.2.2.2.2.2.2.2.1
theorem k3_idx68_inb : ∀ (v56 : IVec S16 32) (k3_hw4 : k3_chk4 v56), ∀ a x, ((![v56] : Fin 1 → IVec S16 32) a x).toNat < S42032.size a := fun v56 k3_hw4 => k3_hw4.2.2.2.2.2.2.2.2.2.2.2.2.2.2.2.1
theorem k3_idx70_inb : ∀ (v56 : IVec S16 32) (k3_hw4 : k3_chk4 v56), ∀ a x, ((![v56] : Fin 1 → IVec S16 32) a x).toNat < S42032.size a := fun v56 k3_hw4 => k3_hw4.2.2.2.2.2.2.2.2.2.2.2.2.2.2.2.2.1
theorem k3_idx72_inb : ∀ (v56 : IVec S16 32) (k3_hw4 : k3_chk4 v56), ∀ a x, ((![v56] : Fin 1 → IVec S16 32) a x).toNat < S42032.size a := fun v56 k3_hw4 => k3_hw4.2.2.2.2.2.2.2.2.2.2.2.2.2.2.2.2.2

def k3_chk5 (v71 : IVec S16 32) : Prop :=
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a) ∧
  (∀ a x, ((![v71] : Fin 1 → IVec S16 32) a x).toNat < S42032.size a)
theorem k3_idx73_inb : ∀ (v71 : IVec S16 32) (k3_hw5 : k3_chk5 v71), ∀ a x, ((![v71] : Fin 1 → IVec S16 32) a x).toNat < S42032.size a := fun v71 k3_hw5 => k3_hw5.1
theorem k3_idx75_inb : ∀ (v71 : IVec S16 32) (k3_hw5 : k3_chk5 v71), ∀ a x, ((![v71] : Fin 1 → IVec S16 32) a x).toNat < S42032.size a := fun v71 k3_hw5 => k3_hw5.2.1
theorem k3_idx77_inb : ∀ (v71 : IVec S16 32) (k3_hw5 : k3_chk5 v71), ∀ a x, ((![v71] : Fin 1 → IVec S16 32) a x).toNat < S42032.size a := fun v71 k3_hw5 => k3_hw5.2.2.1
theorem k3_idx79_inb : ∀ (v71 : IVec S16 32) (k3_hw5 : k3_chk5 v71), ∀ a x, ((![v71] : Fin 1 → IVec S16 32) a x).toNat < S42032.size a := fun v71 k3_hw5 => k3_hw5.2.2.2.1
theorem k3_idx81_inb : ∀ (v71 : IVec S16 32) (k3_hw5 : k3_chk5 v71), ∀ a x, ((![v71] : Fin 1 → IVec S16 32) a x).toNat < S42032.size a := fun v71 k3_hw5 => k3_hw5.2.2.2.2.1
theorem k3_idx83_inb : ∀ (v71 : IVec S16 32) (k3_hw5 : k3_chk5 v71), ∀ a x, ((![v71] : Fin 1 → IVec S16 32) a x).toNat < S42032.size a := fun v71 k3_hw5 => k3_hw5.2.2.2.2.2.1
theorem k3_idx85_inb : ∀ (v71 : IVec S16 32) (k3_hw5 : k3_chk5 v71), ∀ a x, ((![v71] : Fin 1 → IVec S16 32) a x).toNat < S42032.size a := fun v71 k3_hw5 => k3_hw5.2.2.2.2.2.2.1
theorem k3_idx87_inb : ∀ (v71 : IVec S16 32) (k3_hw5 : k3_chk5 v71), ∀ a x, ((![v71] : Fin 1 → IVec S16 32) a x).toNat < S42032.size a := fun v71 k3_hw5 => k3_hw5.2.2.2.2.2.2.2.1
theorem k3_idx89_inb : ∀ (v71 : IVec S16 32) (k3_hw5 : k3_chk5 v71), ∀ a x, ((![v71] : Fin 1 → IVec S16 32) a x).toNat < S42032.size a := fun v71 k3_hw5 => k3_hw5.2.2.2.2.2.2.2.2.1
theorem k3_idx91_inb : ∀ (v71 : IVec S16 32) (k3_hw5 : k3_chk5 v71), ∀ a x, ((![v71] : Fin 1 → IVec S16 32) a x).toNat < S42032.size a := fun v71 k3_hw5 => k3_hw5.2.2.2.2.2.2.2.2.2.1
theorem k3_idx93_inb : ∀ (v71 : IVec S16 32) (k3_hw5 : k3_chk5 v71), ∀ a x, ((![v71] : Fin 1 → IVec S16 32) a x).toNat < S42032.size a := fun v71 k3_hw5 => k3_hw5.2.2.2.2.2.2.2.2.2.2.1
theorem k3_idx95_inb : ∀ (v71 : IVec S16 32) (k3_hw5 : k3_chk5 v71), ∀ a x, ((![v71] : Fin 1 → IVec S16 32) a x).toNat < S42032.size a := fun v71 k3_hw5 => k3_hw5.2.2.2.2.2.2.2.2.2.2.2.1
theorem k3_idx97_inb : ∀ (v71 : IVec S16 32) (k3_hw5 : k3_chk5 v71), ∀ a x, ((![v71] : Fin 1 → IVec S16 32) a x).toNat < S42032.size a := fun v71 k3_hw5 => k3_hw5.2.2.2.2.2.2.2.2.2.2.2.2.1
theorem k3_idx99_inb : ∀ (v71 : IVec S16 32) (k3_hw5 : k3_chk5 v71), ∀ a x, ((![v71] : Fin 1 → IVec S16 32) a x).toNat < S42032.size a := fun v71 k3_hw5 => k3_hw5.2.2.2.2.2.2.2.2.2.2.2.2.2.1
theorem k3_idx101_inb : ∀ (v71 : IVec S16 32) (k3_hw5 : k3_chk5 v71), ∀ a x, ((![v71] : Fin 1 → IVec S16 32) a x).toNat < S42032.size a := fun v71 k3_hw5 => k3_hw5.2.2.2.2.2.2.2.2.2.2.2.2.2.2.1
theorem k3_idx103_inb : ∀ (v71 : IVec S16 32) (k3_hw5 : k3_chk5 v71), ∀ a x, ((![v71] : Fin 1 → IVec S16 32) a x).toNat < S42032.size a := fun v71 k3_hw5 => k3_hw5.2.2.2.2.2.2.2.2.2.2.2.2.2.2.2.1
theorem k3_idx105_inb : ∀ (v71 : IVec S16 32) (k3_hw5 : k3_chk5 v71), ∀ a x, ((![v71] : Fin 1 → IVec S16 32) a x).toNat < S42032.size a := fun v71 k3_hw5 => k3_hw5.2.2.2.2.2.2.2.2.2.2.2.2.2.2.2.2.1
theorem k3_idx107_inb : ∀ (v71 : IVec S16 32) (k3_hw5 : k3_chk5 v71), ∀ a x, ((![v71] : Fin 1 → IVec S16 32) a x).toNat < S42032.size a := fun v71 k3_hw5 => k3_hw5.2.2.2.2.2.2.2.2.2.2.2.2.2.2.2.2.2

def k3_chk6 (v72 : IVec S16 32) : Prop :=
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a) ∧
  (∀ a x, ((![v72] : Fin 1 → IVec S16 32) a x).toNat < S42032.size a)
theorem k3_idx74_inb : ∀ (v72 : IVec S16 32) (k3_hw6 : k3_chk6 v72), ∀ a x, ((![v72] : Fin 1 → IVec S16 32) a x).toNat < S42032.size a := fun v72 k3_hw6 => k3_hw6.1
theorem k3_idx76_inb : ∀ (v72 : IVec S16 32) (k3_hw6 : k3_chk6 v72), ∀ a x, ((![v72] : Fin 1 → IVec S16 32) a x).toNat < S42032.size a := fun v72 k3_hw6 => k3_hw6.2.1
theorem k3_idx78_inb : ∀ (v72 : IVec S16 32) (k3_hw6 : k3_chk6 v72), ∀ a x, ((![v72] : Fin 1 → IVec S16 32) a x).toNat < S42032.size a := fun v72 k3_hw6 => k3_hw6.2.2.1
theorem k3_idx80_inb : ∀ (v72 : IVec S16 32) (k3_hw6 : k3_chk6 v72), ∀ a x, ((![v72] : Fin 1 → IVec S16 32) a x).toNat < S42032.size a := fun v72 k3_hw6 => k3_hw6.2.2.2.1
theorem k3_idx82_inb : ∀ (v72 : IVec S16 32) (k3_hw6 : k3_chk6 v72), ∀ a x, ((![v72] : Fin 1 → IVec S16 32) a x).toNat < S42032.size a := fun v72 k3_hw6 => k3_hw6.2.2.2.2.1
theorem k3_idx84_inb : ∀ (v72 : IVec S16 32) (k3_hw6 : k3_chk6 v72), ∀ a x, ((![v72] : Fin 1 → IVec S16 32) a x).toNat < S42032.size a := fun v72 k3_hw6 => k3_hw6.2.2.2.2.2.1
theorem k3_idx86_inb : ∀ (v72 : IVec S16 32) (k3_hw6 : k3_chk6 v72), ∀ a x, ((![v72] : Fin 1 → IVec S16 32) a x).toNat < S42032.size a := fun v72 k3_hw6 => k3_hw6.2.2.2.2.2.2.1
theorem k3_idx88_inb : ∀ (v72 : IVec S16 32) (k3_hw6 : k3_chk6 v72), ∀ a x, ((![v72] : Fin 1 → IVec S16 32) a x).toNat < S42032.size a := fun v72 k3_hw6 => k3_hw6.2.2.2.2.2.2.2.1
theorem k3_idx90_inb : ∀ (v72 : IVec S16 32) (k3_hw6 : k3_chk6 v72), ∀ a x, ((![v72] : Fin 1 → IVec S16 32) a x).toNat < S42032.size a := fun v72 k3_hw6 => k3_hw6.2.2.2.2.2.2.2.2.1
theorem k3_idx92_inb : ∀ (v72 : IVec S16 32) (k3_hw6 : k3_chk6 v72), ∀ a x, ((![v72] : Fin 1 → IVec S16 32) a x).toNat < S42032.size a := fun v72 k3_hw6 => k3_hw6.2.2.2.2.2.2.2.2.2.1
theorem k3_idx94_inb : ∀ (v72 : IVec S16 32) (k3_hw6 : k3_chk6 v72), ∀ a x, ((![v72] : Fin 1 → IVec S16 32) a x).toNat < S42032.size a := fun v72 k3_hw6 => k3_hw6.2.2.2.2.2.2.2.2.2.2.1
theorem k3_idx96_inb : ∀ (v72 : IVec S16 32) (k3_hw6 : k3_chk6 v72), ∀ a x, ((![v72] : Fin 1 → IVec S16 32) a x).toNat < S42032.size a := fun v72 k3_hw6 => k3_hw6.2.2.2.2.2.2.2.2.2.2.2.1
theorem k3_idx98_inb : ∀ (v72 : IVec S16 32) (k3_hw6 : k3_chk6 v72), ∀ a x, ((![v72] : Fin 1 → IVec S16 32) a x).toNat < S42032.size a := fun v72 k3_hw6 => k3_hw6.2.2.2.2.2.2.2.2.2.2.2.2.1
theorem k3_idx100_inb : ∀ (v72 : IVec S16 32) (k3_hw6 : k3_chk6 v72), ∀ a x, ((![v72] : Fin 1 → IVec S16 32) a x).toNat < S42032.size a := fun v72 k3_hw6 => k3_hw6.2.2.2.2.2.2.2.2.2.2.2.2.2.1
theorem k3_idx102_inb : ∀ (v72 : IVec S16 32) (k3_hw6 : k3_chk6 v72), ∀ a x, ((![v72] : Fin 1 → IVec S16 32) a x).toNat < S42032.size a := fun v72 k3_hw6 => k3_hw6.2.2.2.2.2.2.2.2.2.2.2.2.2.2.1
theorem k3_idx104_inb : ∀ (v72 : IVec S16 32) (k3_hw6 : k3_chk6 v72), ∀ a x, ((![v72] : Fin 1 → IVec S16 32) a x).toNat < S42032.size a := fun v72 k3_hw6 => k3_hw6.2.2.2.2.2.2.2.2.2.2.2.2.2.2.2.1
theorem k3_idx106_inb : ∀ (v72 : IVec S16 32) (k3_hw6 : k3_chk6 v72), ∀ a x, ((![v72] : Fin 1 → IVec S16 32) a x).toNat < S42032.size a := fun v72 k3_hw6 => k3_hw6.2.2.2.2.2.2.2.2.2.2.2.2.2.2.2.2.1
theorem k3_idx108_inb : ∀ (v72 : IVec S16 32) (k3_hw6 : k3_chk6 v72), ∀ a x, ((![v72] : Fin 1 → IVec S16 32) a x).toNat < S42032.size a := fun v72 k3_hw6 => k3_hw6.2.2.2.2.2.2.2.2.2.2.2.2.2.2.2.2.2

def k3_chk7 (v87 : IVec S16 32) : Prop :=
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a) ∧
  (∀ a x, ((![v87] : Fin 1 → IVec S16 32) a x).toNat < S42032.size a)
theorem k3_idx109_inb : ∀ (v87 : IVec S16 32) (k3_hw7 : k3_chk7 v87), ∀ a x, ((![v87] : Fin 1 → IVec S16 32) a x).toNat < S42032.size a := fun v87 k3_hw7 => k3_hw7.1
theorem k3_idx111_inb : ∀ (v87 : IVec S16 32) (k3_hw7 : k3_chk7 v87), ∀ a x, ((![v87] : Fin 1 → IVec S16 32) a x).toNat < S42032.size a := fun v87 k3_hw7 => k3_hw7.2.1
theorem k3_idx113_inb : ∀ (v87 : IVec S16 32) (k3_hw7 : k3_chk7 v87), ∀ a x, ((![v87] : Fin 1 → IVec S16 32) a x).toNat < S42032.size a := fun v87 k3_hw7 => k3_hw7.2.2.1
theorem k3_idx115_inb : ∀ (v87 : IVec S16 32) (k3_hw7 : k3_chk7 v87), ∀ a x, ((![v87] : Fin 1 → IVec S16 32) a x).toNat < S42032.size a := fun v87 k3_hw7 => k3_hw7.2.2.2.1
theorem k3_idx117_inb : ∀ (v87 : IVec S16 32) (k3_hw7 : k3_chk7 v87), ∀ a x, ((![v87] : Fin 1 → IVec S16 32) a x).toNat < S42032.size a := fun v87 k3_hw7 => k3_hw7.2.2.2.2.1
theorem k3_idx119_inb : ∀ (v87 : IVec S16 32) (k3_hw7 : k3_chk7 v87), ∀ a x, ((![v87] : Fin 1 → IVec S16 32) a x).toNat < S42032.size a := fun v87 k3_hw7 => k3_hw7.2.2.2.2.2.1
theorem k3_idx121_inb : ∀ (v87 : IVec S16 32) (k3_hw7 : k3_chk7 v87), ∀ a x, ((![v87] : Fin 1 → IVec S16 32) a x).toNat < S42032.size a := fun v87 k3_hw7 => k3_hw7.2.2.2.2.2.2.1
theorem k3_idx123_inb : ∀ (v87 : IVec S16 32) (k3_hw7 : k3_chk7 v87), ∀ a x, ((![v87] : Fin 1 → IVec S16 32) a x).toNat < S42032.size a := fun v87 k3_hw7 => k3_hw7.2.2.2.2.2.2.2.1
theorem k3_idx125_inb : ∀ (v87 : IVec S16 32) (k3_hw7 : k3_chk7 v87), ∀ a x, ((![v87] : Fin 1 → IVec S16 32) a x).toNat < S42032.size a := fun v87 k3_hw7 => k3_hw7.2.2.2.2.2.2.2.2.1
theorem k3_idx127_inb : ∀ (v87 : IVec S16 32) (k3_hw7 : k3_chk7 v87), ∀ a x, ((![v87] : Fin 1 → IVec S16 32) a x).toNat < S42032.size a := fun v87 k3_hw7 => k3_hw7.2.2.2.2.2.2.2.2.2.1
theorem k3_idx129_inb : ∀ (v87 : IVec S16 32) (k3_hw7 : k3_chk7 v87), ∀ a x, ((![v87] : Fin 1 → IVec S16 32) a x).toNat < S42032.size a := fun v87 k3_hw7 => k3_hw7.2.2.2.2.2.2.2.2.2.2.1
theorem k3_idx131_inb : ∀ (v87 : IVec S16 32) (k3_hw7 : k3_chk7 v87), ∀ a x, ((![v87] : Fin 1 → IVec S16 32) a x).toNat < S42032.size a := fun v87 k3_hw7 => k3_hw7.2.2.2.2.2.2.2.2.2.2.2.1
theorem k3_idx133_inb : ∀ (v87 : IVec S16 32) (k3_hw7 : k3_chk7 v87), ∀ a x, ((![v87] : Fin 1 → IVec S16 32) a x).toNat < S42032.size a := fun v87 k3_hw7 => k3_hw7.2.2.2.2.2.2.2.2.2.2.2.2.1
theorem k3_idx135_inb : ∀ (v87 : IVec S16 32) (k3_hw7 : k3_chk7 v87), ∀ a x, ((![v87] : Fin 1 → IVec S16 32) a x).toNat < S42032.size a := fun v87 k3_hw7 => k3_hw7.2.2.2.2.2.2.2.2.2.2.2.2.2.1
theorem k3_idx137_inb : ∀ (v87 : IVec S16 32) (k3_hw7 : k3_chk7 v87), ∀ a x, ((![v87] : Fin 1 → IVec S16 32) a x).toNat < S42032.size a := fun v87 k3_hw7 => k3_hw7.2.2.2.2.2.2.2.2.2.2.2.2.2.2.1
theorem k3_idx139_inb : ∀ (v87 : IVec S16 32) (k3_hw7 : k3_chk7 v87), ∀ a x, ((![v87] : Fin 1 → IVec S16 32) a x).toNat < S42032.size a := fun v87 k3_hw7 => k3_hw7.2.2.2.2.2.2.2.2.2.2.2.2.2.2.2.1
theorem k3_idx141_inb : ∀ (v87 : IVec S16 32) (k3_hw7 : k3_chk7 v87), ∀ a x, ((![v87] : Fin 1 → IVec S16 32) a x).toNat < S42032.size a := fun v87 k3_hw7 => k3_hw7.2.2.2.2.2.2.2.2.2.2.2.2.2.2.2.2.1
theorem k3_idx143_inb : ∀ (v87 : IVec S16 32) (k3_hw7 : k3_chk7 v87), ∀ a x, ((![v87] : Fin 1 → IVec S16 32) a x).toNat < S42032.size a := fun v87 k3_hw7 => k3_hw7.2.2.2.2.2.2.2.2.2.2.2.2.2.2.2.2.2

def k3_chk8 (v88 : IVec S16 32) : Prop :=
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a) ∧
  (∀ a x, ((![v88] : Fin 1 → IVec S16 32) a x).toNat < S42032.size a)
theorem k3_idx110_inb : ∀ (v88 : IVec S16 32) (k3_hw8 : k3_chk8 v88), ∀ a x, ((![v88] : Fin 1 → IVec S16 32) a x).toNat < S42032.size a := fun v88 k3_hw8 => k3_hw8.1
theorem k3_idx112_inb : ∀ (v88 : IVec S16 32) (k3_hw8 : k3_chk8 v88), ∀ a x, ((![v88] : Fin 1 → IVec S16 32) a x).toNat < S42032.size a := fun v88 k3_hw8 => k3_hw8.2.1
theorem k3_idx114_inb : ∀ (v88 : IVec S16 32) (k3_hw8 : k3_chk8 v88), ∀ a x, ((![v88] : Fin 1 → IVec S16 32) a x).toNat < S42032.size a := fun v88 k3_hw8 => k3_hw8.2.2.1
theorem k3_idx116_inb : ∀ (v88 : IVec S16 32) (k3_hw8 : k3_chk8 v88), ∀ a x, ((![v88] : Fin 1 → IVec S16 32) a x).toNat < S42032.size a := fun v88 k3_hw8 => k3_hw8.2.2.2.1
theorem k3_idx118_inb : ∀ (v88 : IVec S16 32) (k3_hw8 : k3_chk8 v88), ∀ a x, ((![v88] : Fin 1 → IVec S16 32) a x).toNat < S42032.size a := fun v88 k3_hw8 => k3_hw8.2.2.2.2.1
theorem k3_idx120_inb : ∀ (v88 : IVec S16 32) (k3_hw8 : k3_chk8 v88), ∀ a x, ((![v88] : Fin 1 → IVec S16 32) a x).toNat < S42032.size a := fun v88 k3_hw8 => k3_hw8.2.2.2.2.2.1
theorem k3_idx122_inb : ∀ (v88 : IVec S16 32) (k3_hw8 : k3_chk8 v88), ∀ a x, ((![v88] : Fin 1 → IVec S16 32) a x).toNat < S42032.size a := fun v88 k3_hw8 => k3_hw8.2.2.2.2.2.2.1
theorem k3_idx124_inb : ∀ (v88 : IVec S16 32) (k3_hw8 : k3_chk8 v88), ∀ a x, ((![v88] : Fin 1 → IVec S16 32) a x).toNat < S42032.size a := fun v88 k3_hw8 => k3_hw8.2.2.2.2.2.2.2.1
theorem k3_idx126_inb : ∀ (v88 : IVec S16 32) (k3_hw8 : k3_chk8 v88), ∀ a x, ((![v88] : Fin 1 → IVec S16 32) a x).toNat < S42032.size a := fun v88 k3_hw8 => k3_hw8.2.2.2.2.2.2.2.2.1
theorem k3_idx128_inb : ∀ (v88 : IVec S16 32) (k3_hw8 : k3_chk8 v88), ∀ a x, ((![v88] : Fin 1 → IVec S16 32) a x).toNat < S42032.size a := fun v88 k3_hw8 => k3_hw8.2.2.2.2.2.2.2.2.2.1
theorem k3_idx130_inb : ∀ (v88 : IVec S16 32) (k3_hw8 : k3_chk8 v88), ∀ a x, ((![v88] : Fin 1 → IVec S16 32) a x).toNat < S42032.size a := fun v88 k3_hw8 => k3_hw8.2.2.2.2.2.2.2.2.2.2.1
theorem k3_idx132_inb : ∀ (v88 : IVec S16 32) (k3_hw8 : k3_chk8 v88), ∀ a x, ((![v88] : Fin 1 → IVec S16 32) a x).toNat < S42032.size a := fun v88 k3_hw8 => k3_hw8.2.2.2.2.2.2.2.2.2.2.2.1
theorem k3_idx134_inb : ∀ (v88 : IVec S16 32) (k3_hw8 : k3_chk8 v88), ∀ a x, ((![v88] : Fin 1 → IVec S16 32) a x).toNat < S42032.size a := fun v88 k3_hw8 => k3_hw8.2.2.2.2.2.2.2.2.2.2.2.2.1
theorem k3_idx136_inb : ∀ (v88 : IVec S16 32) (k3_hw8 : k3_chk8 v88), ∀ a x, ((![v88] : Fin 1 → IVec S16 32) a x).toNat < S42032.size a := fun v88 k3_hw8 => k3_hw8.2.2.2.2.2.2.2.2.2.2.2.2.2.1
theorem k3_idx138_inb : ∀ (v88 : IVec S16 32) (k3_hw8 : k3_chk8 v88), ∀ a x, ((![v88] : Fin 1 → IVec S16 32) a x).toNat < S42032.size a := fun v88 k3_hw8 => k3_hw8.2.2.2.2.2.2.2.2.2.2.2.2.2.2.1
theorem k3_idx140_inb : ∀ (v88 : IVec S16 32) (k3_hw8 : k3_chk8 v88), ∀ a x, ((![v88] : Fin 1 → IVec S16 32) a x).toNat < S42032.size a := fun v88 k3_hw8 => k3_hw8.2.2.2.2.2.2.2.2.2.2.2.2.2.2.2.1
theorem k3_idx142_inb : ∀ (v88 : IVec S16 32) (k3_hw8 : k3_chk8 v88), ∀ a x, ((![v88] : Fin 1 → IVec S16 32) a x).toNat < S42032.size a := fun v88 k3_hw8 => k3_hw8.2.2.2.2.2.2.2.2.2.2.2.2.2.2.2.2.1
theorem k3_idx144_inb : ∀ (v88 : IVec S16 32) (k3_hw8 : k3_chk8 v88), ∀ a x, ((![v88] : Fin 1 → IVec S16 32) a x).toNat < S42032.size a := fun v88 k3_hw8 => k3_hw8.2.2.2.2.2.2.2.2.2.2.2.2.2.2.2.2.2

def k3_chk9 (v103 : IVec S16 32) : Prop :=
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a) ∧
  (∀ a x, ((![v103] : Fin 1 → IVec S16 32) a x).toNat < S42032.size a)
theorem k3_idx145_inb : ∀ (v103 : IVec S16 32) (k3_hw9 : k3_chk9 v103), ∀ a x, ((![v103] : Fin 1 → IVec S16 32) a x).toNat < S42032.size a := fun v103 k3_hw9 => k3_hw9.1
theorem k3_idx147_inb : ∀ (v103 : IVec S16 32) (k3_hw9 : k3_chk9 v103), ∀ a x, ((![v103] : Fin 1 → IVec S16 32) a x).toNat < S42032.size a := fun v103 k3_hw9 => k3_hw9.2.1
theorem k3_idx149_inb : ∀ (v103 : IVec S16 32) (k3_hw9 : k3_chk9 v103), ∀ a x, ((![v103] : Fin 1 → IVec S16 32) a x).toNat < S42032.size a := fun v103 k3_hw9 => k3_hw9.2.2.1
theorem k3_idx151_inb : ∀ (v103 : IVec S16 32) (k3_hw9 : k3_chk9 v103), ∀ a x, ((![v103] : Fin 1 → IVec S16 32) a x).toNat < S42032.size a := fun v103 k3_hw9 => k3_hw9.2.2.2.1
theorem k3_idx153_inb : ∀ (v103 : IVec S16 32) (k3_hw9 : k3_chk9 v103), ∀ a x, ((![v103] : Fin 1 → IVec S16 32) a x).toNat < S42032.size a := fun v103 k3_hw9 => k3_hw9.2.2.2.2.1
theorem k3_idx155_inb : ∀ (v103 : IVec S16 32) (k3_hw9 : k3_chk9 v103), ∀ a x, ((![v103] : Fin 1 → IVec S16 32) a x).toNat < S42032.size a := fun v103 k3_hw9 => k3_hw9.2.2.2.2.2.1
theorem k3_idx157_inb : ∀ (v103 : IVec S16 32) (k3_hw9 : k3_chk9 v103), ∀ a x, ((![v103] : Fin 1 → IVec S16 32) a x).toNat < S42032.size a := fun v103 k3_hw9 => k3_hw9.2.2.2.2.2.2.1
theorem k3_idx159_inb : ∀ (v103 : IVec S16 32) (k3_hw9 : k3_chk9 v103), ∀ a x, ((![v103] : Fin 1 → IVec S16 32) a x).toNat < S42032.size a := fun v103 k3_hw9 => k3_hw9.2.2.2.2.2.2.2.1
theorem k3_idx161_inb : ∀ (v103 : IVec S16 32) (k3_hw9 : k3_chk9 v103), ∀ a x, ((![v103] : Fin 1 → IVec S16 32) a x).toNat < S42032.size a := fun v103 k3_hw9 => k3_hw9.2.2.2.2.2.2.2.2.1
theorem k3_idx163_inb : ∀ (v103 : IVec S16 32) (k3_hw9 : k3_chk9 v103), ∀ a x, ((![v103] : Fin 1 → IVec S16 32) a x).toNat < S42032.size a := fun v103 k3_hw9 => k3_hw9.2.2.2.2.2.2.2.2.2.1
theorem k3_idx165_inb : ∀ (v103 : IVec S16 32) (k3_hw9 : k3_chk9 v103), ∀ a x, ((![v103] : Fin 1 → IVec S16 32) a x).toNat < S42032.size a := fun v103 k3_hw9 => k3_hw9.2.2.2.2.2.2.2.2.2.2.1
theorem k3_idx167_inb : ∀ (v103 : IVec S16 32) (k3_hw9 : k3_chk9 v103), ∀ a x, ((![v103] : Fin 1 → IVec S16 32) a x).toNat < S42032.size a := fun v103 k3_hw9 => k3_hw9.2.2.2.2.2.2.2.2.2.2.2.1
theorem k3_idx169_inb : ∀ (v103 : IVec S16 32) (k3_hw9 : k3_chk9 v103), ∀ a x, ((![v103] : Fin 1 → IVec S16 32) a x).toNat < S42032.size a := fun v103 k3_hw9 => k3_hw9.2.2.2.2.2.2.2.2.2.2.2.2.1
theorem k3_idx171_inb : ∀ (v103 : IVec S16 32) (k3_hw9 : k3_chk9 v103), ∀ a x, ((![v103] : Fin 1 → IVec S16 32) a x).toNat < S42032.size a := fun v103 k3_hw9 => k3_hw9.2.2.2.2.2.2.2.2.2.2.2.2.2.1
theorem k3_idx173_inb : ∀ (v103 : IVec S16 32) (k3_hw9 : k3_chk9 v103), ∀ a x, ((![v103] : Fin 1 → IVec S16 32) a x).toNat < S42032.size a := fun v103 k3_hw9 => k3_hw9.2.2.2.2.2.2.2.2.2.2.2.2.2.2.1
theorem k3_idx175_inb : ∀ (v103 : IVec S16 32) (k3_hw9 : k3_chk9 v103), ∀ a x, ((![v103] : Fin 1 → IVec S16 32) a x).toNat < S42032.size a := fun v103 k3_hw9 => k3_hw9.2.2.2.2.2.2.2.2.2.2.2.2.2.2.2.1
theorem k3_idx177_inb : ∀ (v103 : IVec S16 32) (k3_hw9 : k3_chk9 v103), ∀ a x, ((![v103] : Fin 1 → IVec S16 32) a x).toNat < S42032.size a := fun v103 k3_hw9 => k3_hw9.2.2.2.2.2.2.2.2.2.2.2.2.2.2.2.2.1
theorem k3_idx179_inb : ∀ (v103 : IVec S16 32) (k3_hw9 : k3_chk9 v103), ∀ a x, ((![v103] : Fin 1 → IVec S16 32) a x).toNat < S42032.size a := fun v103 k3_hw9 => k3_hw9.2.2.2.2.2.2.2.2.2.2.2.2.2.2.2.2.2

def k3_chk10 (v104 : IVec S16 32) : Prop :=
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a) ∧
  (∀ a x, ((![v104] : Fin 1 → IVec S16 32) a x).toNat < S42032.size a)
theorem k3_idx146_inb : ∀ (v104 : IVec S16 32) (k3_hw10 : k3_chk10 v104), ∀ a x, ((![v104] : Fin 1 → IVec S16 32) a x).toNat < S42032.size a := fun v104 k3_hw10 => k3_hw10.1
theorem k3_idx148_inb : ∀ (v104 : IVec S16 32) (k3_hw10 : k3_chk10 v104), ∀ a x, ((![v104] : Fin 1 → IVec S16 32) a x).toNat < S42032.size a := fun v104 k3_hw10 => k3_hw10.2.1
theorem k3_idx150_inb : ∀ (v104 : IVec S16 32) (k3_hw10 : k3_chk10 v104), ∀ a x, ((![v104] : Fin 1 → IVec S16 32) a x).toNat < S42032.size a := fun v104 k3_hw10 => k3_hw10.2.2.1
theorem k3_idx152_inb : ∀ (v104 : IVec S16 32) (k3_hw10 : k3_chk10 v104), ∀ a x, ((![v104] : Fin 1 → IVec S16 32) a x).toNat < S42032.size a := fun v104 k3_hw10 => k3_hw10.2.2.2.1
theorem k3_idx154_inb : ∀ (v104 : IVec S16 32) (k3_hw10 : k3_chk10 v104), ∀ a x, ((![v104] : Fin 1 → IVec S16 32) a x).toNat < S42032.size a := fun v104 k3_hw10 => k3_hw10.2.2.2.2.1
theorem k3_idx156_inb : ∀ (v104 : IVec S16 32) (k3_hw10 : k3_chk10 v104), ∀ a x, ((![v104] : Fin 1 → IVec S16 32) a x).toNat < S42032.size a := fun v104 k3_hw10 => k3_hw10.2.2.2.2.2.1
theorem k3_idx158_inb : ∀ (v104 : IVec S16 32) (k3_hw10 : k3_chk10 v104), ∀ a x, ((![v104] : Fin 1 → IVec S16 32) a x).toNat < S42032.size a := fun v104 k3_hw10 => k3_hw10.2.2.2.2.2.2.1
theorem k3_idx160_inb : ∀ (v104 : IVec S16 32) (k3_hw10 : k3_chk10 v104), ∀ a x, ((![v104] : Fin 1 → IVec S16 32) a x).toNat < S42032.size a := fun v104 k3_hw10 => k3_hw10.2.2.2.2.2.2.2.1
theorem k3_idx162_inb : ∀ (v104 : IVec S16 32) (k3_hw10 : k3_chk10 v104), ∀ a x, ((![v104] : Fin 1 → IVec S16 32) a x).toNat < S42032.size a := fun v104 k3_hw10 => k3_hw10.2.2.2.2.2.2.2.2.1
theorem k3_idx164_inb : ∀ (v104 : IVec S16 32) (k3_hw10 : k3_chk10 v104), ∀ a x, ((![v104] : Fin 1 → IVec S16 32) a x).toNat < S42032.size a := fun v104 k3_hw10 => k3_hw10.2.2.2.2.2.2.2.2.2.1
theorem k3_idx166_inb : ∀ (v104 : IVec S16 32) (k3_hw10 : k3_chk10 v104), ∀ a x, ((![v104] : Fin 1 → IVec S16 32) a x).toNat < S42032.size a := fun v104 k3_hw10 => k3_hw10.2.2.2.2.2.2.2.2.2.2.1
theorem k3_idx168_inb : ∀ (v104 : IVec S16 32) (k3_hw10 : k3_chk10 v104), ∀ a x, ((![v104] : Fin 1 → IVec S16 32) a x).toNat < S42032.size a := fun v104 k3_hw10 => k3_hw10.2.2.2.2.2.2.2.2.2.2.2.1
theorem k3_idx170_inb : ∀ (v104 : IVec S16 32) (k3_hw10 : k3_chk10 v104), ∀ a x, ((![v104] : Fin 1 → IVec S16 32) a x).toNat < S42032.size a := fun v104 k3_hw10 => k3_hw10.2.2.2.2.2.2.2.2.2.2.2.2.1
theorem k3_idx172_inb : ∀ (v104 : IVec S16 32) (k3_hw10 : k3_chk10 v104), ∀ a x, ((![v104] : Fin 1 → IVec S16 32) a x).toNat < S42032.size a := fun v104 k3_hw10 => k3_hw10.2.2.2.2.2.2.2.2.2.2.2.2.2.1
theorem k3_idx174_inb : ∀ (v104 : IVec S16 32) (k3_hw10 : k3_chk10 v104), ∀ a x, ((![v104] : Fin 1 → IVec S16 32) a x).toNat < S42032.size a := fun v104 k3_hw10 => k3_hw10.2.2.2.2.2.2.2.2.2.2.2.2.2.2.1
theorem k3_idx176_inb : ∀ (v104 : IVec S16 32) (k3_hw10 : k3_chk10 v104), ∀ a x, ((![v104] : Fin 1 → IVec S16 32) a x).toNat < S42032.size a := fun v104 k3_hw10 => k3_hw10.2.2.2.2.2.2.2.2.2.2.2.2.2.2.2.1
theorem k3_idx178_inb : ∀ (v104 : IVec S16 32) (k3_hw10 : k3_chk10 v104), ∀ a x, ((![v104] : Fin 1 → IVec S16 32) a x).toNat < S42032.size a := fun v104 k3_hw10 => k3_hw10.2.2.2.2.2.2.2.2.2.2.2.2.2.2.2.2.1
theorem k3_idx180_inb : ∀ (v104 : IVec S16 32) (k3_hw10 : k3_chk10 v104), ∀ a x, ((![v104] : Fin 1 → IVec S16 32) a x).toNat < S42032.size a := fun v104 k3_hw10 => k3_hw10.2.2.2.2.2.2.2.2.2.2.2.2.2.2.2.2.2

def k3_chk11 (v119 : IVec S16 32) : Prop :=
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a) ∧
  (∀ a x, ((![v119] : Fin 1 → IVec S16 32) a x).toNat < S42032.size a)
theorem k3_idx181_inb : ∀ (v119 : IVec S16 32) (k3_hw11 : k3_chk11 v119), ∀ a x, ((![v119] : Fin 1 → IVec S16 32) a x).toNat < S42032.size a := fun v119 k3_hw11 => k3_hw11.1
theorem k3_idx183_inb : ∀ (v119 : IVec S16 32) (k3_hw11 : k3_chk11 v119), ∀ a x, ((![v119] : Fin 1 → IVec S16 32) a x).toNat < S42032.size a := fun v119 k3_hw11 => k3_hw11.2.1
theorem k3_idx185_inb : ∀ (v119 : IVec S16 32) (k3_hw11 : k3_chk11 v119), ∀ a x, ((![v119] : Fin 1 → IVec S16 32) a x).toNat < S42032.size a := fun v119 k3_hw11 => k3_hw11.2.2.1
theorem k3_idx187_inb : ∀ (v119 : IVec S16 32) (k3_hw11 : k3_chk11 v119), ∀ a x, ((![v119] : Fin 1 → IVec S16 32) a x).toNat < S42032.size a := fun v119 k3_hw11 => k3_hw11.2.2.2.1
theorem k3_idx189_inb : ∀ (v119 : IVec S16 32) (k3_hw11 : k3_chk11 v119), ∀ a x, ((![v119] : Fin 1 → IVec S16 32) a x).toNat < S42032.size a := fun v119 k3_hw11 => k3_hw11.2.2.2.2.1
theorem k3_idx191_inb : ∀ (v119 : IVec S16 32) (k3_hw11 : k3_chk11 v119), ∀ a x, ((![v119] : Fin 1 → IVec S16 32) a x).toNat < S42032.size a := fun v119 k3_hw11 => k3_hw11.2.2.2.2.2.1
theorem k3_idx193_inb : ∀ (v119 : IVec S16 32) (k3_hw11 : k3_chk11 v119), ∀ a x, ((![v119] : Fin 1 → IVec S16 32) a x).toNat < S42032.size a := fun v119 k3_hw11 => k3_hw11.2.2.2.2.2.2.1
theorem k3_idx195_inb : ∀ (v119 : IVec S16 32) (k3_hw11 : k3_chk11 v119), ∀ a x, ((![v119] : Fin 1 → IVec S16 32) a x).toNat < S42032.size a := fun v119 k3_hw11 => k3_hw11.2.2.2.2.2.2.2.1
theorem k3_idx197_inb : ∀ (v119 : IVec S16 32) (k3_hw11 : k3_chk11 v119), ∀ a x, ((![v119] : Fin 1 → IVec S16 32) a x).toNat < S42032.size a := fun v119 k3_hw11 => k3_hw11.2.2.2.2.2.2.2.2.1
theorem k3_idx199_inb : ∀ (v119 : IVec S16 32) (k3_hw11 : k3_chk11 v119), ∀ a x, ((![v119] : Fin 1 → IVec S16 32) a x).toNat < S42032.size a := fun v119 k3_hw11 => k3_hw11.2.2.2.2.2.2.2.2.2.1
theorem k3_idx201_inb : ∀ (v119 : IVec S16 32) (k3_hw11 : k3_chk11 v119), ∀ a x, ((![v119] : Fin 1 → IVec S16 32) a x).toNat < S42032.size a := fun v119 k3_hw11 => k3_hw11.2.2.2.2.2.2.2.2.2.2.1
theorem k3_idx203_inb : ∀ (v119 : IVec S16 32) (k3_hw11 : k3_chk11 v119), ∀ a x, ((![v119] : Fin 1 → IVec S16 32) a x).toNat < S42032.size a := fun v119 k3_hw11 => k3_hw11.2.2.2.2.2.2.2.2.2.2.2.1
theorem k3_idx205_inb : ∀ (v119 : IVec S16 32) (k3_hw11 : k3_chk11 v119), ∀ a x, ((![v119] : Fin 1 → IVec S16 32) a x).toNat < S42032.size a := fun v119 k3_hw11 => k3_hw11.2.2.2.2.2.2.2.2.2.2.2.2.1
theorem k3_idx207_inb : ∀ (v119 : IVec S16 32) (k3_hw11 : k3_chk11 v119), ∀ a x, ((![v119] : Fin 1 → IVec S16 32) a x).toNat < S42032.size a := fun v119 k3_hw11 => k3_hw11.2.2.2.2.2.2.2.2.2.2.2.2.2.1
theorem k3_idx209_inb : ∀ (v119 : IVec S16 32) (k3_hw11 : k3_chk11 v119), ∀ a x, ((![v119] : Fin 1 → IVec S16 32) a x).toNat < S42032.size a := fun v119 k3_hw11 => k3_hw11.2.2.2.2.2.2.2.2.2.2.2.2.2.2.1
theorem k3_idx211_inb : ∀ (v119 : IVec S16 32) (k3_hw11 : k3_chk11 v119), ∀ a x, ((![v119] : Fin 1 → IVec S16 32) a x).toNat < S42032.size a := fun v119 k3_hw11 => k3_hw11.2.2.2.2.2.2.2.2.2.2.2.2.2.2.2.1
theorem k3_idx213_inb : ∀ (v119 : IVec S16 32) (k3_hw11 : k3_chk11 v119), ∀ a x, ((![v119] : Fin 1 → IVec S16 32) a x).toNat < S42032.size a := fun v119 k3_hw11 => k3_hw11.2.2.2.2.2.2.2.2.2.2.2.2.2.2.2.2.1
theorem k3_idx215_inb : ∀ (v119 : IVec S16 32) (k3_hw11 : k3_chk11 v119), ∀ a x, ((![v119] : Fin 1 → IVec S16 32) a x).toNat < S42032.size a := fun v119 k3_hw11 => k3_hw11.2.2.2.2.2.2.2.2.2.2.2.2.2.2.2.2.2

def k3_chk12 (v120 : IVec S16 32) : Prop :=
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a) ∧
  (∀ a x, ((![v120] : Fin 1 → IVec S16 32) a x).toNat < S42032.size a)
theorem k3_idx182_inb : ∀ (v120 : IVec S16 32) (k3_hw12 : k3_chk12 v120), ∀ a x, ((![v120] : Fin 1 → IVec S16 32) a x).toNat < S42032.size a := fun v120 k3_hw12 => k3_hw12.1
theorem k3_idx184_inb : ∀ (v120 : IVec S16 32) (k3_hw12 : k3_chk12 v120), ∀ a x, ((![v120] : Fin 1 → IVec S16 32) a x).toNat < S42032.size a := fun v120 k3_hw12 => k3_hw12.2.1
theorem k3_idx186_inb : ∀ (v120 : IVec S16 32) (k3_hw12 : k3_chk12 v120), ∀ a x, ((![v120] : Fin 1 → IVec S16 32) a x).toNat < S42032.size a := fun v120 k3_hw12 => k3_hw12.2.2.1
theorem k3_idx188_inb : ∀ (v120 : IVec S16 32) (k3_hw12 : k3_chk12 v120), ∀ a x, ((![v120] : Fin 1 → IVec S16 32) a x).toNat < S42032.size a := fun v120 k3_hw12 => k3_hw12.2.2.2.1
theorem k3_idx190_inb : ∀ (v120 : IVec S16 32) (k3_hw12 : k3_chk12 v120), ∀ a x, ((![v120] : Fin 1 → IVec S16 32) a x).toNat < S42032.size a := fun v120 k3_hw12 => k3_hw12.2.2.2.2.1
theorem k3_idx192_inb : ∀ (v120 : IVec S16 32) (k3_hw12 : k3_chk12 v120), ∀ a x, ((![v120] : Fin 1 → IVec S16 32) a x).toNat < S42032.size a := fun v120 k3_hw12 => k3_hw12.2.2.2.2.2.1
theorem k3_idx194_inb : ∀ (v120 : IVec S16 32) (k3_hw12 : k3_chk12 v120), ∀ a x, ((![v120] : Fin 1 → IVec S16 32) a x).toNat < S42032.size a := fun v120 k3_hw12 => k3_hw12.2.2.2.2.2.2.1
theorem k3_idx196_inb : ∀ (v120 : IVec S16 32) (k3_hw12 : k3_chk12 v120), ∀ a x, ((![v120] : Fin 1 → IVec S16 32) a x).toNat < S42032.size a := fun v120 k3_hw12 => k3_hw12.2.2.2.2.2.2.2.1
theorem k3_idx198_inb : ∀ (v120 : IVec S16 32) (k3_hw12 : k3_chk12 v120), ∀ a x, ((![v120] : Fin 1 → IVec S16 32) a x).toNat < S42032.size a := fun v120 k3_hw12 => k3_hw12.2.2.2.2.2.2.2.2.1
theorem k3_idx200_inb : ∀ (v120 : IVec S16 32) (k3_hw12 : k3_chk12 v120), ∀ a x, ((![v120] : Fin 1 → IVec S16 32) a x).toNat < S42032.size a := fun v120 k3_hw12 => k3_hw12.2.2.2.2.2.2.2.2.2.1
theorem k3_idx202_inb : ∀ (v120 : IVec S16 32) (k3_hw12 : k3_chk12 v120), ∀ a x, ((![v120] : Fin 1 → IVec S16 32) a x).toNat < S42032.size a := fun v120 k3_hw12 => k3_hw12.2.2.2.2.2.2.2.2.2.2.1
theorem k3_idx204_inb : ∀ (v120 : IVec S16 32) (k3_hw12 : k3_chk12 v120), ∀ a x, ((![v120] : Fin 1 → IVec S16 32) a x).toNat < S42032.size a := fun v120 k3_hw12 => k3_hw12.2.2.2.2.2.2.2.2.2.2.2.1
theorem k3_idx206_inb : ∀ (v120 : IVec S16 32) (k3_hw12 : k3_chk12 v120), ∀ a x, ((![v120] : Fin 1 → IVec S16 32) a x).toNat < S42032.size a := fun v120 k3_hw12 => k3_hw12.2.2.2.2.2.2.2.2.2.2.2.2.1
theorem k3_idx208_inb : ∀ (v120 : IVec S16 32) (k3_hw12 : k3_chk12 v120), ∀ a x, ((![v120] : Fin 1 → IVec S16 32) a x).toNat < S42032.size a := fun v120 k3_hw12 => k3_hw12.2.2.2.2.2.2.2.2.2.2.2.2.2.1
theorem k3_idx210_inb : ∀ (v120 : IVec S16 32) (k3_hw12 : k3_chk12 v120), ∀ a x, ((![v120] : Fin 1 → IVec S16 32) a x).toNat < S42032.size a := fun v120 k3_hw12 => k3_hw12.2.2.2.2.2.2.2.2.2.2.2.2.2.2.1
theorem k3_idx212_inb : ∀ (v120 : IVec S16 32) (k3_hw12 : k3_chk12 v120), ∀ a x, ((![v120] : Fin 1 → IVec S16 32) a x).toNat < S42032.size a := fun v120 k3_hw12 => k3_hw12.2.2.2.2.2.2.2.2.2.2.2.2.2.2.2.1
theorem k3_idx214_inb : ∀ (v120 : IVec S16 32) (k3_hw12 : k3_chk12 v120), ∀ a x, ((![v120] : Fin 1 → IVec S16 32) a x).toNat < S42032.size a := fun v120 k3_hw12 => k3_hw12.2.2.2.2.2.2.2.2.2.2.2.2.2.2.2.2.1
theorem k3_idx216_inb : ∀ (v120 : IVec S16 32) (k3_hw12 : k3_chk12 v120), ∀ a x, ((![v120] : Fin 1 → IVec S16 32) a x).toNat < S42032.size a := fun v120 k3_hw12 => k3_hw12.2.2.2.2.2.2.2.2.2.2.2.2.2.2.2.2.2

def k3_chk13 (v135 : IVec S16 32) : Prop :=
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a) ∧
  (∀ a x, ((![v135] : Fin 1 → IVec S16 32) a x).toNat < S42032.size a)
theorem k3_idx217_inb : ∀ (v135 : IVec S16 32) (k3_hw13 : k3_chk13 v135), ∀ a x, ((![v135] : Fin 1 → IVec S16 32) a x).toNat < S42032.size a := fun v135 k3_hw13 => k3_hw13.1
theorem k3_idx219_inb : ∀ (v135 : IVec S16 32) (k3_hw13 : k3_chk13 v135), ∀ a x, ((![v135] : Fin 1 → IVec S16 32) a x).toNat < S42032.size a := fun v135 k3_hw13 => k3_hw13.2.1
theorem k3_idx221_inb : ∀ (v135 : IVec S16 32) (k3_hw13 : k3_chk13 v135), ∀ a x, ((![v135] : Fin 1 → IVec S16 32) a x).toNat < S42032.size a := fun v135 k3_hw13 => k3_hw13.2.2.1
theorem k3_idx223_inb : ∀ (v135 : IVec S16 32) (k3_hw13 : k3_chk13 v135), ∀ a x, ((![v135] : Fin 1 → IVec S16 32) a x).toNat < S42032.size a := fun v135 k3_hw13 => k3_hw13.2.2.2.1
theorem k3_idx225_inb : ∀ (v135 : IVec S16 32) (k3_hw13 : k3_chk13 v135), ∀ a x, ((![v135] : Fin 1 → IVec S16 32) a x).toNat < S42032.size a := fun v135 k3_hw13 => k3_hw13.2.2.2.2.1
theorem k3_idx227_inb : ∀ (v135 : IVec S16 32) (k3_hw13 : k3_chk13 v135), ∀ a x, ((![v135] : Fin 1 → IVec S16 32) a x).toNat < S42032.size a := fun v135 k3_hw13 => k3_hw13.2.2.2.2.2.1
theorem k3_idx229_inb : ∀ (v135 : IVec S16 32) (k3_hw13 : k3_chk13 v135), ∀ a x, ((![v135] : Fin 1 → IVec S16 32) a x).toNat < S42032.size a := fun v135 k3_hw13 => k3_hw13.2.2.2.2.2.2.1
theorem k3_idx231_inb : ∀ (v135 : IVec S16 32) (k3_hw13 : k3_chk13 v135), ∀ a x, ((![v135] : Fin 1 → IVec S16 32) a x).toNat < S42032.size a := fun v135 k3_hw13 => k3_hw13.2.2.2.2.2.2.2.1
theorem k3_idx233_inb : ∀ (v135 : IVec S16 32) (k3_hw13 : k3_chk13 v135), ∀ a x, ((![v135] : Fin 1 → IVec S16 32) a x).toNat < S42032.size a := fun v135 k3_hw13 => k3_hw13.2.2.2.2.2.2.2.2.1
theorem k3_idx235_inb : ∀ (v135 : IVec S16 32) (k3_hw13 : k3_chk13 v135), ∀ a x, ((![v135] : Fin 1 → IVec S16 32) a x).toNat < S42032.size a := fun v135 k3_hw13 => k3_hw13.2.2.2.2.2.2.2.2.2.1
theorem k3_idx237_inb : ∀ (v135 : IVec S16 32) (k3_hw13 : k3_chk13 v135), ∀ a x, ((![v135] : Fin 1 → IVec S16 32) a x).toNat < S42032.size a := fun v135 k3_hw13 => k3_hw13.2.2.2.2.2.2.2.2.2.2.1
theorem k3_idx239_inb : ∀ (v135 : IVec S16 32) (k3_hw13 : k3_chk13 v135), ∀ a x, ((![v135] : Fin 1 → IVec S16 32) a x).toNat < S42032.size a := fun v135 k3_hw13 => k3_hw13.2.2.2.2.2.2.2.2.2.2.2.1
theorem k3_idx241_inb : ∀ (v135 : IVec S16 32) (k3_hw13 : k3_chk13 v135), ∀ a x, ((![v135] : Fin 1 → IVec S16 32) a x).toNat < S42032.size a := fun v135 k3_hw13 => k3_hw13.2.2.2.2.2.2.2.2.2.2.2.2.1
theorem k3_idx243_inb : ∀ (v135 : IVec S16 32) (k3_hw13 : k3_chk13 v135), ∀ a x, ((![v135] : Fin 1 → IVec S16 32) a x).toNat < S42032.size a := fun v135 k3_hw13 => k3_hw13.2.2.2.2.2.2.2.2.2.2.2.2.2.1
theorem k3_idx245_inb : ∀ (v135 : IVec S16 32) (k3_hw13 : k3_chk13 v135), ∀ a x, ((![v135] : Fin 1 → IVec S16 32) a x).toNat < S42032.size a := fun v135 k3_hw13 => k3_hw13.2.2.2.2.2.2.2.2.2.2.2.2.2.2.1
theorem k3_idx247_inb : ∀ (v135 : IVec S16 32) (k3_hw13 : k3_chk13 v135), ∀ a x, ((![v135] : Fin 1 → IVec S16 32) a x).toNat < S42032.size a := fun v135 k3_hw13 => k3_hw13.2.2.2.2.2.2.2.2.2.2.2.2.2.2.2.1
theorem k3_idx249_inb : ∀ (v135 : IVec S16 32) (k3_hw13 : k3_chk13 v135), ∀ a x, ((![v135] : Fin 1 → IVec S16 32) a x).toNat < S42032.size a := fun v135 k3_hw13 => k3_hw13.2.2.2.2.2.2.2.2.2.2.2.2.2.2.2.2.1
theorem k3_idx251_inb : ∀ (v135 : IVec S16 32) (k3_hw13 : k3_chk13 v135), ∀ a x, ((![v135] : Fin 1 → IVec S16 32) a x).toNat < S42032.size a := fun v135 k3_hw13 => k3_hw13.2.2.2.2.2.2.2.2.2.2.2.2.2.2.2.2.2

def k3_chk14 (v136 : IVec S16 32) : Prop :=
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a) ∧
  (∀ a x, ((![v136] : Fin 1 → IVec S16 32) a x).toNat < S42032.size a)
theorem k3_idx218_inb : ∀ (v136 : IVec S16 32) (k3_hw14 : k3_chk14 v136), ∀ a x, ((![v136] : Fin 1 → IVec S16 32) a x).toNat < S42032.size a := fun v136 k3_hw14 => k3_hw14.1
theorem k3_idx220_inb : ∀ (v136 : IVec S16 32) (k3_hw14 : k3_chk14 v136), ∀ a x, ((![v136] : Fin 1 → IVec S16 32) a x).toNat < S42032.size a := fun v136 k3_hw14 => k3_hw14.2.1
theorem k3_idx222_inb : ∀ (v136 : IVec S16 32) (k3_hw14 : k3_chk14 v136), ∀ a x, ((![v136] : Fin 1 → IVec S16 32) a x).toNat < S42032.size a := fun v136 k3_hw14 => k3_hw14.2.2.1
theorem k3_idx224_inb : ∀ (v136 : IVec S16 32) (k3_hw14 : k3_chk14 v136), ∀ a x, ((![v136] : Fin 1 → IVec S16 32) a x).toNat < S42032.size a := fun v136 k3_hw14 => k3_hw14.2.2.2.1
theorem k3_idx226_inb : ∀ (v136 : IVec S16 32) (k3_hw14 : k3_chk14 v136), ∀ a x, ((![v136] : Fin 1 → IVec S16 32) a x).toNat < S42032.size a := fun v136 k3_hw14 => k3_hw14.2.2.2.2.1
theorem k3_idx228_inb : ∀ (v136 : IVec S16 32) (k3_hw14 : k3_chk14 v136), ∀ a x, ((![v136] : Fin 1 → IVec S16 32) a x).toNat < S42032.size a := fun v136 k3_hw14 => k3_hw14.2.2.2.2.2.1
theorem k3_idx230_inb : ∀ (v136 : IVec S16 32) (k3_hw14 : k3_chk14 v136), ∀ a x, ((![v136] : Fin 1 → IVec S16 32) a x).toNat < S42032.size a := fun v136 k3_hw14 => k3_hw14.2.2.2.2.2.2.1
theorem k3_idx232_inb : ∀ (v136 : IVec S16 32) (k3_hw14 : k3_chk14 v136), ∀ a x, ((![v136] : Fin 1 → IVec S16 32) a x).toNat < S42032.size a := fun v136 k3_hw14 => k3_hw14.2.2.2.2.2.2.2.1
theorem k3_idx234_inb : ∀ (v136 : IVec S16 32) (k3_hw14 : k3_chk14 v136), ∀ a x, ((![v136] : Fin 1 → IVec S16 32) a x).toNat < S42032.size a := fun v136 k3_hw14 => k3_hw14.2.2.2.2.2.2.2.2.1
theorem k3_idx236_inb : ∀ (v136 : IVec S16 32) (k3_hw14 : k3_chk14 v136), ∀ a x, ((![v136] : Fin 1 → IVec S16 32) a x).toNat < S42032.size a := fun v136 k3_hw14 => k3_hw14.2.2.2.2.2.2.2.2.2.1
theorem k3_idx238_inb : ∀ (v136 : IVec S16 32) (k3_hw14 : k3_chk14 v136), ∀ a x, ((![v136] : Fin 1 → IVec S16 32) a x).toNat < S42032.size a := fun v136 k3_hw14 => k3_hw14.2.2.2.2.2.2.2.2.2.2.1
theorem k3_idx240_inb : ∀ (v136 : IVec S16 32) (k3_hw14 : k3_chk14 v136), ∀ a x, ((![v136] : Fin 1 → IVec S16 32) a x).toNat < S42032.size a := fun v136 k3_hw14 => k3_hw14.2.2.2.2.2.2.2.2.2.2.2.1
theorem k3_idx242_inb : ∀ (v136 : IVec S16 32) (k3_hw14 : k3_chk14 v136), ∀ a x, ((![v136] : Fin 1 → IVec S16 32) a x).toNat < S42032.size a := fun v136 k3_hw14 => k3_hw14.2.2.2.2.2.2.2.2.2.2.2.2.1
theorem k3_idx244_inb : ∀ (v136 : IVec S16 32) (k3_hw14 : k3_chk14 v136), ∀ a x, ((![v136] : Fin 1 → IVec S16 32) a x).toNat < S42032.size a := fun v136 k3_hw14 => k3_hw14.2.2.2.2.2.2.2.2.2.2.2.2.2.1
theorem k3_idx246_inb : ∀ (v136 : IVec S16 32) (k3_hw14 : k3_chk14 v136), ∀ a x, ((![v136] : Fin 1 → IVec S16 32) a x).toNat < S42032.size a := fun v136 k3_hw14 => k3_hw14.2.2.2.2.2.2.2.2.2.2.2.2.2.2.1
theorem k3_idx248_inb : ∀ (v136 : IVec S16 32) (k3_hw14 : k3_chk14 v136), ∀ a x, ((![v136] : Fin 1 → IVec S16 32) a x).toNat < S42032.size a := fun v136 k3_hw14 => k3_hw14.2.2.2.2.2.2.2.2.2.2.2.2.2.2.2.1
theorem k3_idx250_inb : ∀ (v136 : IVec S16 32) (k3_hw14 : k3_chk14 v136), ∀ a x, ((![v136] : Fin 1 → IVec S16 32) a x).toNat < S42032.size a := fun v136 k3_hw14 => k3_hw14.2.2.2.2.2.2.2.2.2.2.2.2.2.2.2.2.1
theorem k3_idx252_inb : ∀ (v136 : IVec S16 32) (k3_hw14 : k3_chk14 v136), ∀ a x, ((![v136] : Fin 1 → IVec S16 32) a x).toNat < S42032.size a := fun v136 k3_hw14 => k3_hw14.2.2.2.2.2.2.2.2.2.2.2.2.2.2.2.2.2

def k3_chk15 (v151 : IVec S16 32) : Prop :=
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a) ∧
  (∀ a x, ((![v151] : Fin 1 → IVec S16 32) a x).toNat < S42032.size a)
theorem k3_idx253_inb : ∀ (v151 : IVec S16 32) (k3_hw15 : k3_chk15 v151), ∀ a x, ((![v151] : Fin 1 → IVec S16 32) a x).toNat < S42032.size a := fun v151 k3_hw15 => k3_hw15.1
theorem k3_idx255_inb : ∀ (v151 : IVec S16 32) (k3_hw15 : k3_chk15 v151), ∀ a x, ((![v151] : Fin 1 → IVec S16 32) a x).toNat < S42032.size a := fun v151 k3_hw15 => k3_hw15.2.1
theorem k3_idx257_inb : ∀ (v151 : IVec S16 32) (k3_hw15 : k3_chk15 v151), ∀ a x, ((![v151] : Fin 1 → IVec S16 32) a x).toNat < S42032.size a := fun v151 k3_hw15 => k3_hw15.2.2.1
theorem k3_idx259_inb : ∀ (v151 : IVec S16 32) (k3_hw15 : k3_chk15 v151), ∀ a x, ((![v151] : Fin 1 → IVec S16 32) a x).toNat < S42032.size a := fun v151 k3_hw15 => k3_hw15.2.2.2.1
theorem k3_idx261_inb : ∀ (v151 : IVec S16 32) (k3_hw15 : k3_chk15 v151), ∀ a x, ((![v151] : Fin 1 → IVec S16 32) a x).toNat < S42032.size a := fun v151 k3_hw15 => k3_hw15.2.2.2.2.1
theorem k3_idx263_inb : ∀ (v151 : IVec S16 32) (k3_hw15 : k3_chk15 v151), ∀ a x, ((![v151] : Fin 1 → IVec S16 32) a x).toNat < S42032.size a := fun v151 k3_hw15 => k3_hw15.2.2.2.2.2.1
theorem k3_idx265_inb : ∀ (v151 : IVec S16 32) (k3_hw15 : k3_chk15 v151), ∀ a x, ((![v151] : Fin 1 → IVec S16 32) a x).toNat < S42032.size a := fun v151 k3_hw15 => k3_hw15.2.2.2.2.2.2.1
theorem k3_idx267_inb : ∀ (v151 : IVec S16 32) (k3_hw15 : k3_chk15 v151), ∀ a x, ((![v151] : Fin 1 → IVec S16 32) a x).toNat < S42032.size a := fun v151 k3_hw15 => k3_hw15.2.2.2.2.2.2.2.1
theorem k3_idx269_inb : ∀ (v151 : IVec S16 32) (k3_hw15 : k3_chk15 v151), ∀ a x, ((![v151] : Fin 1 → IVec S16 32) a x).toNat < S42032.size a := fun v151 k3_hw15 => k3_hw15.2.2.2.2.2.2.2.2.1
theorem k3_idx271_inb : ∀ (v151 : IVec S16 32) (k3_hw15 : k3_chk15 v151), ∀ a x, ((![v151] : Fin 1 → IVec S16 32) a x).toNat < S42032.size a := fun v151 k3_hw15 => k3_hw15.2.2.2.2.2.2.2.2.2.1
theorem k3_idx273_inb : ∀ (v151 : IVec S16 32) (k3_hw15 : k3_chk15 v151), ∀ a x, ((![v151] : Fin 1 → IVec S16 32) a x).toNat < S42032.size a := fun v151 k3_hw15 => k3_hw15.2.2.2.2.2.2.2.2.2.2.1
theorem k3_idx275_inb : ∀ (v151 : IVec S16 32) (k3_hw15 : k3_chk15 v151), ∀ a x, ((![v151] : Fin 1 → IVec S16 32) a x).toNat < S42032.size a := fun v151 k3_hw15 => k3_hw15.2.2.2.2.2.2.2.2.2.2.2.1
theorem k3_idx277_inb : ∀ (v151 : IVec S16 32) (k3_hw15 : k3_chk15 v151), ∀ a x, ((![v151] : Fin 1 → IVec S16 32) a x).toNat < S42032.size a := fun v151 k3_hw15 => k3_hw15.2.2.2.2.2.2.2.2.2.2.2.2.1
theorem k3_idx279_inb : ∀ (v151 : IVec S16 32) (k3_hw15 : k3_chk15 v151), ∀ a x, ((![v151] : Fin 1 → IVec S16 32) a x).toNat < S42032.size a := fun v151 k3_hw15 => k3_hw15.2.2.2.2.2.2.2.2.2.2.2.2.2.1
theorem k3_idx281_inb : ∀ (v151 : IVec S16 32) (k3_hw15 : k3_chk15 v151), ∀ a x, ((![v151] : Fin 1 → IVec S16 32) a x).toNat < S42032.size a := fun v151 k3_hw15 => k3_hw15.2.2.2.2.2.2.2.2.2.2.2.2.2.2.1
theorem k3_idx283_inb : ∀ (v151 : IVec S16 32) (k3_hw15 : k3_chk15 v151), ∀ a x, ((![v151] : Fin 1 → IVec S16 32) a x).toNat < S42032.size a := fun v151 k3_hw15 => k3_hw15.2.2.2.2.2.2.2.2.2.2.2.2.2.2.2.1
theorem k3_idx285_inb : ∀ (v151 : IVec S16 32) (k3_hw15 : k3_chk15 v151), ∀ a x, ((![v151] : Fin 1 → IVec S16 32) a x).toNat < S42032.size a := fun v151 k3_hw15 => k3_hw15.2.2.2.2.2.2.2.2.2.2.2.2.2.2.2.2.1
theorem k3_idx287_inb : ∀ (v151 : IVec S16 32) (k3_hw15 : k3_chk15 v151), ∀ a x, ((![v151] : Fin 1 → IVec S16 32) a x).toNat < S42032.size a := fun v151 k3_hw15 => k3_hw15.2.2.2.2.2.2.2.2.2.2.2.2.2.2.2.2.2

def k3_chk16 (v152 : IVec S16 32) : Prop :=
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a) ∧
  (∀ a x, ((![v152] : Fin 1 → IVec S16 32) a x).toNat < S42032.size a)
theorem k3_idx254_inb : ∀ (v152 : IVec S16 32) (k3_hw16 : k3_chk16 v152), ∀ a x, ((![v152] : Fin 1 → IVec S16 32) a x).toNat < S42032.size a := fun v152 k3_hw16 => k3_hw16.1
theorem k3_idx256_inb : ∀ (v152 : IVec S16 32) (k3_hw16 : k3_chk16 v152), ∀ a x, ((![v152] : Fin 1 → IVec S16 32) a x).toNat < S42032.size a := fun v152 k3_hw16 => k3_hw16.2.1
theorem k3_idx258_inb : ∀ (v152 : IVec S16 32) (k3_hw16 : k3_chk16 v152), ∀ a x, ((![v152] : Fin 1 → IVec S16 32) a x).toNat < S42032.size a := fun v152 k3_hw16 => k3_hw16.2.2.1
theorem k3_idx260_inb : ∀ (v152 : IVec S16 32) (k3_hw16 : k3_chk16 v152), ∀ a x, ((![v152] : Fin 1 → IVec S16 32) a x).toNat < S42032.size a := fun v152 k3_hw16 => k3_hw16.2.2.2.1
theorem k3_idx262_inb : ∀ (v152 : IVec S16 32) (k3_hw16 : k3_chk16 v152), ∀ a x, ((![v152] : Fin 1 → IVec S16 32) a x).toNat < S42032.size a := fun v152 k3_hw16 => k3_hw16.2.2.2.2.1
theorem k3_idx264_inb : ∀ (v152 : IVec S16 32) (k3_hw16 : k3_chk16 v152), ∀ a x, ((![v152] : Fin 1 → IVec S16 32) a x).toNat < S42032.size a := fun v152 k3_hw16 => k3_hw16.2.2.2.2.2.1
theorem k3_idx266_inb : ∀ (v152 : IVec S16 32) (k3_hw16 : k3_chk16 v152), ∀ a x, ((![v152] : Fin 1 → IVec S16 32) a x).toNat < S42032.size a := fun v152 k3_hw16 => k3_hw16.2.2.2.2.2.2.1
theorem k3_idx268_inb : ∀ (v152 : IVec S16 32) (k3_hw16 : k3_chk16 v152), ∀ a x, ((![v152] : Fin 1 → IVec S16 32) a x).toNat < S42032.size a := fun v152 k3_hw16 => k3_hw16.2.2.2.2.2.2.2.1
theorem k3_idx270_inb : ∀ (v152 : IVec S16 32) (k3_hw16 : k3_chk16 v152), ∀ a x, ((![v152] : Fin 1 → IVec S16 32) a x).toNat < S42032.size a := fun v152 k3_hw16 => k3_hw16.2.2.2.2.2.2.2.2.1
theorem k3_idx272_inb : ∀ (v152 : IVec S16 32) (k3_hw16 : k3_chk16 v152), ∀ a x, ((![v152] : Fin 1 → IVec S16 32) a x).toNat < S42032.size a := fun v152 k3_hw16 => k3_hw16.2.2.2.2.2.2.2.2.2.1
theorem k3_idx274_inb : ∀ (v152 : IVec S16 32) (k3_hw16 : k3_chk16 v152), ∀ a x, ((![v152] : Fin 1 → IVec S16 32) a x).toNat < S42032.size a := fun v152 k3_hw16 => k3_hw16.2.2.2.2.2.2.2.2.2.2.1
theorem k3_idx276_inb : ∀ (v152 : IVec S16 32) (k3_hw16 : k3_chk16 v152), ∀ a x, ((![v152] : Fin 1 → IVec S16 32) a x).toNat < S42032.size a := fun v152 k3_hw16 => k3_hw16.2.2.2.2.2.2.2.2.2.2.2.1
theorem k3_idx278_inb : ∀ (v152 : IVec S16 32) (k3_hw16 : k3_chk16 v152), ∀ a x, ((![v152] : Fin 1 → IVec S16 32) a x).toNat < S42032.size a := fun v152 k3_hw16 => k3_hw16.2.2.2.2.2.2.2.2.2.2.2.2.1
theorem k3_idx280_inb : ∀ (v152 : IVec S16 32) (k3_hw16 : k3_chk16 v152), ∀ a x, ((![v152] : Fin 1 → IVec S16 32) a x).toNat < S42032.size a := fun v152 k3_hw16 => k3_hw16.2.2.2.2.2.2.2.2.2.2.2.2.2.1
theorem k3_idx282_inb : ∀ (v152 : IVec S16 32) (k3_hw16 : k3_chk16 v152), ∀ a x, ((![v152] : Fin 1 → IVec S16 32) a x).toNat < S42032.size a := fun v152 k3_hw16 => k3_hw16.2.2.2.2.2.2.2.2.2.2.2.2.2.2.1
theorem k3_idx284_inb : ∀ (v152 : IVec S16 32) (k3_hw16 : k3_chk16 v152), ∀ a x, ((![v152] : Fin 1 → IVec S16 32) a x).toNat < S42032.size a := fun v152 k3_hw16 => k3_hw16.2.2.2.2.2.2.2.2.2.2.2.2.2.2.2.1
theorem k3_idx286_inb : ∀ (v152 : IVec S16 32) (k3_hw16 : k3_chk16 v152), ∀ a x, ((![v152] : Fin 1 → IVec S16 32) a x).toNat < S42032.size a := fun v152 k3_hw16 => k3_hw16.2.2.2.2.2.2.2.2.2.2.2.2.2.2.2.2.1
theorem k3_idx288_inb : ∀ (v152 : IVec S16 32) (k3_hw16 : k3_chk16 v152), ∀ a x, ((![v152] : Fin 1 → IVec S16 32) a x).toNat < S42032.size a := fun v152 k3_hw16 => k3_hw16.2.2.2.2.2.2.2.2.2.2.2.2.2.2.2.2.2

def k3_chk17 (v167 : IVec S16 32) : Prop :=
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a) ∧
  (∀ a x, ((![v167] : Fin 1 → IVec S16 32) a x).toNat < S42032.size a)
theorem k3_idx289_inb : ∀ (v167 : IVec S16 32) (k3_hw17 : k3_chk17 v167), ∀ a x, ((![v167] : Fin 1 → IVec S16 32) a x).toNat < S42032.size a := fun v167 k3_hw17 => k3_hw17.1
theorem k3_idx291_inb : ∀ (v167 : IVec S16 32) (k3_hw17 : k3_chk17 v167), ∀ a x, ((![v167] : Fin 1 → IVec S16 32) a x).toNat < S42032.size a := fun v167 k3_hw17 => k3_hw17.2.1
theorem k3_idx293_inb : ∀ (v167 : IVec S16 32) (k3_hw17 : k3_chk17 v167), ∀ a x, ((![v167] : Fin 1 → IVec S16 32) a x).toNat < S42032.size a := fun v167 k3_hw17 => k3_hw17.2.2.1
theorem k3_idx295_inb : ∀ (v167 : IVec S16 32) (k3_hw17 : k3_chk17 v167), ∀ a x, ((![v167] : Fin 1 → IVec S16 32) a x).toNat < S42032.size a := fun v167 k3_hw17 => k3_hw17.2.2.2.1
theorem k3_idx297_inb : ∀ (v167 : IVec S16 32) (k3_hw17 : k3_chk17 v167), ∀ a x, ((![v167] : Fin 1 → IVec S16 32) a x).toNat < S42032.size a := fun v167 k3_hw17 => k3_hw17.2.2.2.2.1
theorem k3_idx299_inb : ∀ (v167 : IVec S16 32) (k3_hw17 : k3_chk17 v167), ∀ a x, ((![v167] : Fin 1 → IVec S16 32) a x).toNat < S42032.size a := fun v167 k3_hw17 => k3_hw17.2.2.2.2.2.1
theorem k3_idx301_inb : ∀ (v167 : IVec S16 32) (k3_hw17 : k3_chk17 v167), ∀ a x, ((![v167] : Fin 1 → IVec S16 32) a x).toNat < S42032.size a := fun v167 k3_hw17 => k3_hw17.2.2.2.2.2.2.1
theorem k3_idx303_inb : ∀ (v167 : IVec S16 32) (k3_hw17 : k3_chk17 v167), ∀ a x, ((![v167] : Fin 1 → IVec S16 32) a x).toNat < S42032.size a := fun v167 k3_hw17 => k3_hw17.2.2.2.2.2.2.2.1
theorem k3_idx305_inb : ∀ (v167 : IVec S16 32) (k3_hw17 : k3_chk17 v167), ∀ a x, ((![v167] : Fin 1 → IVec S16 32) a x).toNat < S42032.size a := fun v167 k3_hw17 => k3_hw17.2.2.2.2.2.2.2.2.1
theorem k3_idx307_inb : ∀ (v167 : IVec S16 32) (k3_hw17 : k3_chk17 v167), ∀ a x, ((![v167] : Fin 1 → IVec S16 32) a x).toNat < S42032.size a := fun v167 k3_hw17 => k3_hw17.2.2.2.2.2.2.2.2.2.1
theorem k3_idx309_inb : ∀ (v167 : IVec S16 32) (k3_hw17 : k3_chk17 v167), ∀ a x, ((![v167] : Fin 1 → IVec S16 32) a x).toNat < S42032.size a := fun v167 k3_hw17 => k3_hw17.2.2.2.2.2.2.2.2.2.2.1
theorem k3_idx311_inb : ∀ (v167 : IVec S16 32) (k3_hw17 : k3_chk17 v167), ∀ a x, ((![v167] : Fin 1 → IVec S16 32) a x).toNat < S42032.size a := fun v167 k3_hw17 => k3_hw17.2.2.2.2.2.2.2.2.2.2.2.1
theorem k3_idx313_inb : ∀ (v167 : IVec S16 32) (k3_hw17 : k3_chk17 v167), ∀ a x, ((![v167] : Fin 1 → IVec S16 32) a x).toNat < S42032.size a := fun v167 k3_hw17 => k3_hw17.2.2.2.2.2.2.2.2.2.2.2.2.1
theorem k3_idx315_inb : ∀ (v167 : IVec S16 32) (k3_hw17 : k3_chk17 v167), ∀ a x, ((![v167] : Fin 1 → IVec S16 32) a x).toNat < S42032.size a := fun v167 k3_hw17 => k3_hw17.2.2.2.2.2.2.2.2.2.2.2.2.2.1
theorem k3_idx317_inb : ∀ (v167 : IVec S16 32) (k3_hw17 : k3_chk17 v167), ∀ a x, ((![v167] : Fin 1 → IVec S16 32) a x).toNat < S42032.size a := fun v167 k3_hw17 => k3_hw17.2.2.2.2.2.2.2.2.2.2.2.2.2.2.1
theorem k3_idx319_inb : ∀ (v167 : IVec S16 32) (k3_hw17 : k3_chk17 v167), ∀ a x, ((![v167] : Fin 1 → IVec S16 32) a x).toNat < S42032.size a := fun v167 k3_hw17 => k3_hw17.2.2.2.2.2.2.2.2.2.2.2.2.2.2.2.1
theorem k3_idx321_inb : ∀ (v167 : IVec S16 32) (k3_hw17 : k3_chk17 v167), ∀ a x, ((![v167] : Fin 1 → IVec S16 32) a x).toNat < S42032.size a := fun v167 k3_hw17 => k3_hw17.2.2.2.2.2.2.2.2.2.2.2.2.2.2.2.2.1
theorem k3_idx323_inb : ∀ (v167 : IVec S16 32) (k3_hw17 : k3_chk17 v167), ∀ a x, ((![v167] : Fin 1 → IVec S16 32) a x).toNat < S42032.size a := fun v167 k3_hw17 => k3_hw17.2.2.2.2.2.2.2.2.2.2.2.2.2.2.2.2.2

def k3_chk18 (v168 : IVec S16 32) : Prop :=
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a) ∧
  (∀ a x, ((![v168] : Fin 1 → IVec S16 32) a x).toNat < S42032.size a)
theorem k3_idx290_inb : ∀ (v168 : IVec S16 32) (k3_hw18 : k3_chk18 v168), ∀ a x, ((![v168] : Fin 1 → IVec S16 32) a x).toNat < S42032.size a := fun v168 k3_hw18 => k3_hw18.1
theorem k3_idx292_inb : ∀ (v168 : IVec S16 32) (k3_hw18 : k3_chk18 v168), ∀ a x, ((![v168] : Fin 1 → IVec S16 32) a x).toNat < S42032.size a := fun v168 k3_hw18 => k3_hw18.2.1
theorem k3_idx294_inb : ∀ (v168 : IVec S16 32) (k3_hw18 : k3_chk18 v168), ∀ a x, ((![v168] : Fin 1 → IVec S16 32) a x).toNat < S42032.size a := fun v168 k3_hw18 => k3_hw18.2.2.1
theorem k3_idx296_inb : ∀ (v168 : IVec S16 32) (k3_hw18 : k3_chk18 v168), ∀ a x, ((![v168] : Fin 1 → IVec S16 32) a x).toNat < S42032.size a := fun v168 k3_hw18 => k3_hw18.2.2.2.1
theorem k3_idx298_inb : ∀ (v168 : IVec S16 32) (k3_hw18 : k3_chk18 v168), ∀ a x, ((![v168] : Fin 1 → IVec S16 32) a x).toNat < S42032.size a := fun v168 k3_hw18 => k3_hw18.2.2.2.2.1
theorem k3_idx300_inb : ∀ (v168 : IVec S16 32) (k3_hw18 : k3_chk18 v168), ∀ a x, ((![v168] : Fin 1 → IVec S16 32) a x).toNat < S42032.size a := fun v168 k3_hw18 => k3_hw18.2.2.2.2.2.1
theorem k3_idx302_inb : ∀ (v168 : IVec S16 32) (k3_hw18 : k3_chk18 v168), ∀ a x, ((![v168] : Fin 1 → IVec S16 32) a x).toNat < S42032.size a := fun v168 k3_hw18 => k3_hw18.2.2.2.2.2.2.1
theorem k3_idx304_inb : ∀ (v168 : IVec S16 32) (k3_hw18 : k3_chk18 v168), ∀ a x, ((![v168] : Fin 1 → IVec S16 32) a x).toNat < S42032.size a := fun v168 k3_hw18 => k3_hw18.2.2.2.2.2.2.2.1
theorem k3_idx306_inb : ∀ (v168 : IVec S16 32) (k3_hw18 : k3_chk18 v168), ∀ a x, ((![v168] : Fin 1 → IVec S16 32) a x).toNat < S42032.size a := fun v168 k3_hw18 => k3_hw18.2.2.2.2.2.2.2.2.1
theorem k3_idx308_inb : ∀ (v168 : IVec S16 32) (k3_hw18 : k3_chk18 v168), ∀ a x, ((![v168] : Fin 1 → IVec S16 32) a x).toNat < S42032.size a := fun v168 k3_hw18 => k3_hw18.2.2.2.2.2.2.2.2.2.1
theorem k3_idx310_inb : ∀ (v168 : IVec S16 32) (k3_hw18 : k3_chk18 v168), ∀ a x, ((![v168] : Fin 1 → IVec S16 32) a x).toNat < S42032.size a := fun v168 k3_hw18 => k3_hw18.2.2.2.2.2.2.2.2.2.2.1
theorem k3_idx312_inb : ∀ (v168 : IVec S16 32) (k3_hw18 : k3_chk18 v168), ∀ a x, ((![v168] : Fin 1 → IVec S16 32) a x).toNat < S42032.size a := fun v168 k3_hw18 => k3_hw18.2.2.2.2.2.2.2.2.2.2.2.1
theorem k3_idx314_inb : ∀ (v168 : IVec S16 32) (k3_hw18 : k3_chk18 v168), ∀ a x, ((![v168] : Fin 1 → IVec S16 32) a x).toNat < S42032.size a := fun v168 k3_hw18 => k3_hw18.2.2.2.2.2.2.2.2.2.2.2.2.1
theorem k3_idx316_inb : ∀ (v168 : IVec S16 32) (k3_hw18 : k3_chk18 v168), ∀ a x, ((![v168] : Fin 1 → IVec S16 32) a x).toNat < S42032.size a := fun v168 k3_hw18 => k3_hw18.2.2.2.2.2.2.2.2.2.2.2.2.2.1
theorem k3_idx318_inb : ∀ (v168 : IVec S16 32) (k3_hw18 : k3_chk18 v168), ∀ a x, ((![v168] : Fin 1 → IVec S16 32) a x).toNat < S42032.size a := fun v168 k3_hw18 => k3_hw18.2.2.2.2.2.2.2.2.2.2.2.2.2.2.1
theorem k3_idx320_inb : ∀ (v168 : IVec S16 32) (k3_hw18 : k3_chk18 v168), ∀ a x, ((![v168] : Fin 1 → IVec S16 32) a x).toNat < S42032.size a := fun v168 k3_hw18 => k3_hw18.2.2.2.2.2.2.2.2.2.2.2.2.2.2.2.1
theorem k3_idx322_inb : ∀ (v168 : IVec S16 32) (k3_hw18 : k3_chk18 v168), ∀ a x, ((![v168] : Fin 1 → IVec S16 32) a x).toNat < S42032.size a := fun v168 k3_hw18 => k3_hw18.2.2.2.2.2.2.2.2.2.2.2.2.2.2.2.2.1
theorem k3_idx324_inb : ∀ (v168 : IVec S16 32) (k3_hw18 : k3_chk18 v168), ∀ a x, ((![v168] : Fin 1 → IVec S16 32) a x).toNat < S42032.size a := fun v168 k3_hw18 => k3_hw18.2.2.2.2.2.2.2.2.2.2.2.2.2.2.2.2.2

def k3_chk19 (v183 : IVec S16 32) : Prop :=
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a) ∧
  (∀ a x, ((![v183] : Fin 1 → IVec S16 32) a x).toNat < S42032.size a)
theorem k3_idx325_inb : ∀ (v183 : IVec S16 32) (k3_hw19 : k3_chk19 v183), ∀ a x, ((![v183] : Fin 1 → IVec S16 32) a x).toNat < S42032.size a := fun v183 k3_hw19 => k3_hw19.1
theorem k3_idx327_inb : ∀ (v183 : IVec S16 32) (k3_hw19 : k3_chk19 v183), ∀ a x, ((![v183] : Fin 1 → IVec S16 32) a x).toNat < S42032.size a := fun v183 k3_hw19 => k3_hw19.2.1
theorem k3_idx329_inb : ∀ (v183 : IVec S16 32) (k3_hw19 : k3_chk19 v183), ∀ a x, ((![v183] : Fin 1 → IVec S16 32) a x).toNat < S42032.size a := fun v183 k3_hw19 => k3_hw19.2.2.1
theorem k3_idx331_inb : ∀ (v183 : IVec S16 32) (k3_hw19 : k3_chk19 v183), ∀ a x, ((![v183] : Fin 1 → IVec S16 32) a x).toNat < S42032.size a := fun v183 k3_hw19 => k3_hw19.2.2.2.1
theorem k3_idx333_inb : ∀ (v183 : IVec S16 32) (k3_hw19 : k3_chk19 v183), ∀ a x, ((![v183] : Fin 1 → IVec S16 32) a x).toNat < S42032.size a := fun v183 k3_hw19 => k3_hw19.2.2.2.2.1
theorem k3_idx335_inb : ∀ (v183 : IVec S16 32) (k3_hw19 : k3_chk19 v183), ∀ a x, ((![v183] : Fin 1 → IVec S16 32) a x).toNat < S42032.size a := fun v183 k3_hw19 => k3_hw19.2.2.2.2.2.1
theorem k3_idx337_inb : ∀ (v183 : IVec S16 32) (k3_hw19 : k3_chk19 v183), ∀ a x, ((![v183] : Fin 1 → IVec S16 32) a x).toNat < S42032.size a := fun v183 k3_hw19 => k3_hw19.2.2.2.2.2.2.1
theorem k3_idx339_inb : ∀ (v183 : IVec S16 32) (k3_hw19 : k3_chk19 v183), ∀ a x, ((![v183] : Fin 1 → IVec S16 32) a x).toNat < S42032.size a := fun v183 k3_hw19 => k3_hw19.2.2.2.2.2.2.2.1
theorem k3_idx341_inb : ∀ (v183 : IVec S16 32) (k3_hw19 : k3_chk19 v183), ∀ a x, ((![v183] : Fin 1 → IVec S16 32) a x).toNat < S42032.size a := fun v183 k3_hw19 => k3_hw19.2.2.2.2.2.2.2.2.1
theorem k3_idx343_inb : ∀ (v183 : IVec S16 32) (k3_hw19 : k3_chk19 v183), ∀ a x, ((![v183] : Fin 1 → IVec S16 32) a x).toNat < S42032.size a := fun v183 k3_hw19 => k3_hw19.2.2.2.2.2.2.2.2.2.1
theorem k3_idx345_inb : ∀ (v183 : IVec S16 32) (k3_hw19 : k3_chk19 v183), ∀ a x, ((![v183] : Fin 1 → IVec S16 32) a x).toNat < S42032.size a := fun v183 k3_hw19 => k3_hw19.2.2.2.2.2.2.2.2.2.2.1
theorem k3_idx347_inb : ∀ (v183 : IVec S16 32) (k3_hw19 : k3_chk19 v183), ∀ a x, ((![v183] : Fin 1 → IVec S16 32) a x).toNat < S42032.size a := fun v183 k3_hw19 => k3_hw19.2.2.2.2.2.2.2.2.2.2.2.1
theorem k3_idx349_inb : ∀ (v183 : IVec S16 32) (k3_hw19 : k3_chk19 v183), ∀ a x, ((![v183] : Fin 1 → IVec S16 32) a x).toNat < S42032.size a := fun v183 k3_hw19 => k3_hw19.2.2.2.2.2.2.2.2.2.2.2.2.1
theorem k3_idx351_inb : ∀ (v183 : IVec S16 32) (k3_hw19 : k3_chk19 v183), ∀ a x, ((![v183] : Fin 1 → IVec S16 32) a x).toNat < S42032.size a := fun v183 k3_hw19 => k3_hw19.2.2.2.2.2.2.2.2.2.2.2.2.2.1
theorem k3_idx353_inb : ∀ (v183 : IVec S16 32) (k3_hw19 : k3_chk19 v183), ∀ a x, ((![v183] : Fin 1 → IVec S16 32) a x).toNat < S42032.size a := fun v183 k3_hw19 => k3_hw19.2.2.2.2.2.2.2.2.2.2.2.2.2.2.1
theorem k3_idx355_inb : ∀ (v183 : IVec S16 32) (k3_hw19 : k3_chk19 v183), ∀ a x, ((![v183] : Fin 1 → IVec S16 32) a x).toNat < S42032.size a := fun v183 k3_hw19 => k3_hw19.2.2.2.2.2.2.2.2.2.2.2.2.2.2.2.1
theorem k3_idx357_inb : ∀ (v183 : IVec S16 32) (k3_hw19 : k3_chk19 v183), ∀ a x, ((![v183] : Fin 1 → IVec S16 32) a x).toNat < S42032.size a := fun v183 k3_hw19 => k3_hw19.2.2.2.2.2.2.2.2.2.2.2.2.2.2.2.2.1
theorem k3_idx359_inb : ∀ (v183 : IVec S16 32) (k3_hw19 : k3_chk19 v183), ∀ a x, ((![v183] : Fin 1 → IVec S16 32) a x).toNat < S42032.size a := fun v183 k3_hw19 => k3_hw19.2.2.2.2.2.2.2.2.2.2.2.2.2.2.2.2.2

def k3_chk20 (v184 : IVec S16 32) : Prop :=
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a) ∧
  (∀ a x, ((![v184] : Fin 1 → IVec S16 32) a x).toNat < S42032.size a)
theorem k3_idx326_inb : ∀ (v184 : IVec S16 32) (k3_hw20 : k3_chk20 v184), ∀ a x, ((![v184] : Fin 1 → IVec S16 32) a x).toNat < S42032.size a := fun v184 k3_hw20 => k3_hw20.1
theorem k3_idx328_inb : ∀ (v184 : IVec S16 32) (k3_hw20 : k3_chk20 v184), ∀ a x, ((![v184] : Fin 1 → IVec S16 32) a x).toNat < S42032.size a := fun v184 k3_hw20 => k3_hw20.2.1
theorem k3_idx330_inb : ∀ (v184 : IVec S16 32) (k3_hw20 : k3_chk20 v184), ∀ a x, ((![v184] : Fin 1 → IVec S16 32) a x).toNat < S42032.size a := fun v184 k3_hw20 => k3_hw20.2.2.1
theorem k3_idx332_inb : ∀ (v184 : IVec S16 32) (k3_hw20 : k3_chk20 v184), ∀ a x, ((![v184] : Fin 1 → IVec S16 32) a x).toNat < S42032.size a := fun v184 k3_hw20 => k3_hw20.2.2.2.1
theorem k3_idx334_inb : ∀ (v184 : IVec S16 32) (k3_hw20 : k3_chk20 v184), ∀ a x, ((![v184] : Fin 1 → IVec S16 32) a x).toNat < S42032.size a := fun v184 k3_hw20 => k3_hw20.2.2.2.2.1
theorem k3_idx336_inb : ∀ (v184 : IVec S16 32) (k3_hw20 : k3_chk20 v184), ∀ a x, ((![v184] : Fin 1 → IVec S16 32) a x).toNat < S42032.size a := fun v184 k3_hw20 => k3_hw20.2.2.2.2.2.1
theorem k3_idx338_inb : ∀ (v184 : IVec S16 32) (k3_hw20 : k3_chk20 v184), ∀ a x, ((![v184] : Fin 1 → IVec S16 32) a x).toNat < S42032.size a := fun v184 k3_hw20 => k3_hw20.2.2.2.2.2.2.1
theorem k3_idx340_inb : ∀ (v184 : IVec S16 32) (k3_hw20 : k3_chk20 v184), ∀ a x, ((![v184] : Fin 1 → IVec S16 32) a x).toNat < S42032.size a := fun v184 k3_hw20 => k3_hw20.2.2.2.2.2.2.2.1
theorem k3_idx342_inb : ∀ (v184 : IVec S16 32) (k3_hw20 : k3_chk20 v184), ∀ a x, ((![v184] : Fin 1 → IVec S16 32) a x).toNat < S42032.size a := fun v184 k3_hw20 => k3_hw20.2.2.2.2.2.2.2.2.1
theorem k3_idx344_inb : ∀ (v184 : IVec S16 32) (k3_hw20 : k3_chk20 v184), ∀ a x, ((![v184] : Fin 1 → IVec S16 32) a x).toNat < S42032.size a := fun v184 k3_hw20 => k3_hw20.2.2.2.2.2.2.2.2.2.1
theorem k3_idx346_inb : ∀ (v184 : IVec S16 32) (k3_hw20 : k3_chk20 v184), ∀ a x, ((![v184] : Fin 1 → IVec S16 32) a x).toNat < S42032.size a := fun v184 k3_hw20 => k3_hw20.2.2.2.2.2.2.2.2.2.2.1
theorem k3_idx348_inb : ∀ (v184 : IVec S16 32) (k3_hw20 : k3_chk20 v184), ∀ a x, ((![v184] : Fin 1 → IVec S16 32) a x).toNat < S42032.size a := fun v184 k3_hw20 => k3_hw20.2.2.2.2.2.2.2.2.2.2.2.1
theorem k3_idx350_inb : ∀ (v184 : IVec S16 32) (k3_hw20 : k3_chk20 v184), ∀ a x, ((![v184] : Fin 1 → IVec S16 32) a x).toNat < S42032.size a := fun v184 k3_hw20 => k3_hw20.2.2.2.2.2.2.2.2.2.2.2.2.1
theorem k3_idx352_inb : ∀ (v184 : IVec S16 32) (k3_hw20 : k3_chk20 v184), ∀ a x, ((![v184] : Fin 1 → IVec S16 32) a x).toNat < S42032.size a := fun v184 k3_hw20 => k3_hw20.2.2.2.2.2.2.2.2.2.2.2.2.2.1
theorem k3_idx354_inb : ∀ (v184 : IVec S16 32) (k3_hw20 : k3_chk20 v184), ∀ a x, ((![v184] : Fin 1 → IVec S16 32) a x).toNat < S42032.size a := fun v184 k3_hw20 => k3_hw20.2.2.2.2.2.2.2.2.2.2.2.2.2.2.1
theorem k3_idx356_inb : ∀ (v184 : IVec S16 32) (k3_hw20 : k3_chk20 v184), ∀ a x, ((![v184] : Fin 1 → IVec S16 32) a x).toNat < S42032.size a := fun v184 k3_hw20 => k3_hw20.2.2.2.2.2.2.2.2.2.2.2.2.2.2.2.1
theorem k3_idx358_inb : ∀ (v184 : IVec S16 32) (k3_hw20 : k3_chk20 v184), ∀ a x, ((![v184] : Fin 1 → IVec S16 32) a x).toNat < S42032.size a := fun v184 k3_hw20 => k3_hw20.2.2.2.2.2.2.2.2.2.2.2.2.2.2.2.2.1
theorem k3_idx360_inb : ∀ (v184 : IVec S16 32) (k3_hw20 : k3_chk20 v184), ∀ a x, ((![v184] : Fin 1 → IVec S16 32) a x).toNat < S42032.size a := fun v184 k3_hw20 => k3_hw20.2.2.2.2.2.2.2.2.2.2.2.2.2.2.2.2.2

def k3_chk21 (v199 : IVec S16 32) : Prop :=
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a) ∧
  (∀ a x, ((![v199] : Fin 1 → IVec S16 32) a x).toNat < S42032.size a)
theorem k3_idx361_inb : ∀ (v199 : IVec S16 32) (k3_hw21 : k3_chk21 v199), ∀ a x, ((![v199] : Fin 1 → IVec S16 32) a x).toNat < S42032.size a := fun v199 k3_hw21 => k3_hw21.1
theorem k3_idx363_inb : ∀ (v199 : IVec S16 32) (k3_hw21 : k3_chk21 v199), ∀ a x, ((![v199] : Fin 1 → IVec S16 32) a x).toNat < S42032.size a := fun v199 k3_hw21 => k3_hw21.2.1
theorem k3_idx365_inb : ∀ (v199 : IVec S16 32) (k3_hw21 : k3_chk21 v199), ∀ a x, ((![v199] : Fin 1 → IVec S16 32) a x).toNat < S42032.size a := fun v199 k3_hw21 => k3_hw21.2.2.1
theorem k3_idx367_inb : ∀ (v199 : IVec S16 32) (k3_hw21 : k3_chk21 v199), ∀ a x, ((![v199] : Fin 1 → IVec S16 32) a x).toNat < S42032.size a := fun v199 k3_hw21 => k3_hw21.2.2.2.1
theorem k3_idx369_inb : ∀ (v199 : IVec S16 32) (k3_hw21 : k3_chk21 v199), ∀ a x, ((![v199] : Fin 1 → IVec S16 32) a x).toNat < S42032.size a := fun v199 k3_hw21 => k3_hw21.2.2.2.2.1
theorem k3_idx371_inb : ∀ (v199 : IVec S16 32) (k3_hw21 : k3_chk21 v199), ∀ a x, ((![v199] : Fin 1 → IVec S16 32) a x).toNat < S42032.size a := fun v199 k3_hw21 => k3_hw21.2.2.2.2.2.1
theorem k3_idx373_inb : ∀ (v199 : IVec S16 32) (k3_hw21 : k3_chk21 v199), ∀ a x, ((![v199] : Fin 1 → IVec S16 32) a x).toNat < S42032.size a := fun v199 k3_hw21 => k3_hw21.2.2.2.2.2.2.1
theorem k3_idx375_inb : ∀ (v199 : IVec S16 32) (k3_hw21 : k3_chk21 v199), ∀ a x, ((![v199] : Fin 1 → IVec S16 32) a x).toNat < S42032.size a := fun v199 k3_hw21 => k3_hw21.2.2.2.2.2.2.2.1
theorem k3_idx377_inb : ∀ (v199 : IVec S16 32) (k3_hw21 : k3_chk21 v199), ∀ a x, ((![v199] : Fin 1 → IVec S16 32) a x).toNat < S42032.size a := fun v199 k3_hw21 => k3_hw21.2.2.2.2.2.2.2.2.1
theorem k3_idx379_inb : ∀ (v199 : IVec S16 32) (k3_hw21 : k3_chk21 v199), ∀ a x, ((![v199] : Fin 1 → IVec S16 32) a x).toNat < S42032.size a := fun v199 k3_hw21 => k3_hw21.2.2.2.2.2.2.2.2.2.1
theorem k3_idx381_inb : ∀ (v199 : IVec S16 32) (k3_hw21 : k3_chk21 v199), ∀ a x, ((![v199] : Fin 1 → IVec S16 32) a x).toNat < S42032.size a := fun v199 k3_hw21 => k3_hw21.2.2.2.2.2.2.2.2.2.2.1
theorem k3_idx383_inb : ∀ (v199 : IVec S16 32) (k3_hw21 : k3_chk21 v199), ∀ a x, ((![v199] : Fin 1 → IVec S16 32) a x).toNat < S42032.size a := fun v199 k3_hw21 => k3_hw21.2.2.2.2.2.2.2.2.2.2.2.1
theorem k3_idx385_inb : ∀ (v199 : IVec S16 32) (k3_hw21 : k3_chk21 v199), ∀ a x, ((![v199] : Fin 1 → IVec S16 32) a x).toNat < S42032.size a := fun v199 k3_hw21 => k3_hw21.2.2.2.2.2.2.2.2.2.2.2.2.1
theorem k3_idx387_inb : ∀ (v199 : IVec S16 32) (k3_hw21 : k3_chk21 v199), ∀ a x, ((![v199] : Fin 1 → IVec S16 32) a x).toNat < S42032.size a := fun v199 k3_hw21 => k3_hw21.2.2.2.2.2.2.2.2.2.2.2.2.2.1
theorem k3_idx389_inb : ∀ (v199 : IVec S16 32) (k3_hw21 : k3_chk21 v199), ∀ a x, ((![v199] : Fin 1 → IVec S16 32) a x).toNat < S42032.size a := fun v199 k3_hw21 => k3_hw21.2.2.2.2.2.2.2.2.2.2.2.2.2.2.1
theorem k3_idx391_inb : ∀ (v199 : IVec S16 32) (k3_hw21 : k3_chk21 v199), ∀ a x, ((![v199] : Fin 1 → IVec S16 32) a x).toNat < S42032.size a := fun v199 k3_hw21 => k3_hw21.2.2.2.2.2.2.2.2.2.2.2.2.2.2.2.1
theorem k3_idx393_inb : ∀ (v199 : IVec S16 32) (k3_hw21 : k3_chk21 v199), ∀ a x, ((![v199] : Fin 1 → IVec S16 32) a x).toNat < S42032.size a := fun v199 k3_hw21 => k3_hw21.2.2.2.2.2.2.2.2.2.2.2.2.2.2.2.2.1
theorem k3_idx395_inb : ∀ (v199 : IVec S16 32) (k3_hw21 : k3_chk21 v199), ∀ a x, ((![v199] : Fin 1 → IVec S16 32) a x).toNat < S42032.size a := fun v199 k3_hw21 => k3_hw21.2.2.2.2.2.2.2.2.2.2.2.2.2.2.2.2.2

def k3_chk22 (v200 : IVec S16 32) : Prop :=
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a) ∧
  (∀ a x, ((![v200] : Fin 1 → IVec S16 32) a x).toNat < S42032.size a)
theorem k3_idx362_inb : ∀ (v200 : IVec S16 32) (k3_hw22 : k3_chk22 v200), ∀ a x, ((![v200] : Fin 1 → IVec S16 32) a x).toNat < S42032.size a := fun v200 k3_hw22 => k3_hw22.1
theorem k3_idx364_inb : ∀ (v200 : IVec S16 32) (k3_hw22 : k3_chk22 v200), ∀ a x, ((![v200] : Fin 1 → IVec S16 32) a x).toNat < S42032.size a := fun v200 k3_hw22 => k3_hw22.2.1
theorem k3_idx366_inb : ∀ (v200 : IVec S16 32) (k3_hw22 : k3_chk22 v200), ∀ a x, ((![v200] : Fin 1 → IVec S16 32) a x).toNat < S42032.size a := fun v200 k3_hw22 => k3_hw22.2.2.1
theorem k3_idx368_inb : ∀ (v200 : IVec S16 32) (k3_hw22 : k3_chk22 v200), ∀ a x, ((![v200] : Fin 1 → IVec S16 32) a x).toNat < S42032.size a := fun v200 k3_hw22 => k3_hw22.2.2.2.1
theorem k3_idx370_inb : ∀ (v200 : IVec S16 32) (k3_hw22 : k3_chk22 v200), ∀ a x, ((![v200] : Fin 1 → IVec S16 32) a x).toNat < S42032.size a := fun v200 k3_hw22 => k3_hw22.2.2.2.2.1
theorem k3_idx372_inb : ∀ (v200 : IVec S16 32) (k3_hw22 : k3_chk22 v200), ∀ a x, ((![v200] : Fin 1 → IVec S16 32) a x).toNat < S42032.size a := fun v200 k3_hw22 => k3_hw22.2.2.2.2.2.1
theorem k3_idx374_inb : ∀ (v200 : IVec S16 32) (k3_hw22 : k3_chk22 v200), ∀ a x, ((![v200] : Fin 1 → IVec S16 32) a x).toNat < S42032.size a := fun v200 k3_hw22 => k3_hw22.2.2.2.2.2.2.1
theorem k3_idx376_inb : ∀ (v200 : IVec S16 32) (k3_hw22 : k3_chk22 v200), ∀ a x, ((![v200] : Fin 1 → IVec S16 32) a x).toNat < S42032.size a := fun v200 k3_hw22 => k3_hw22.2.2.2.2.2.2.2.1
theorem k3_idx378_inb : ∀ (v200 : IVec S16 32) (k3_hw22 : k3_chk22 v200), ∀ a x, ((![v200] : Fin 1 → IVec S16 32) a x).toNat < S42032.size a := fun v200 k3_hw22 => k3_hw22.2.2.2.2.2.2.2.2.1
theorem k3_idx380_inb : ∀ (v200 : IVec S16 32) (k3_hw22 : k3_chk22 v200), ∀ a x, ((![v200] : Fin 1 → IVec S16 32) a x).toNat < S42032.size a := fun v200 k3_hw22 => k3_hw22.2.2.2.2.2.2.2.2.2.1
theorem k3_idx382_inb : ∀ (v200 : IVec S16 32) (k3_hw22 : k3_chk22 v200), ∀ a x, ((![v200] : Fin 1 → IVec S16 32) a x).toNat < S42032.size a := fun v200 k3_hw22 => k3_hw22.2.2.2.2.2.2.2.2.2.2.1
theorem k3_idx384_inb : ∀ (v200 : IVec S16 32) (k3_hw22 : k3_chk22 v200), ∀ a x, ((![v200] : Fin 1 → IVec S16 32) a x).toNat < S42032.size a := fun v200 k3_hw22 => k3_hw22.2.2.2.2.2.2.2.2.2.2.2.1
theorem k3_idx386_inb : ∀ (v200 : IVec S16 32) (k3_hw22 : k3_chk22 v200), ∀ a x, ((![v200] : Fin 1 → IVec S16 32) a x).toNat < S42032.size a := fun v200 k3_hw22 => k3_hw22.2.2.2.2.2.2.2.2.2.2.2.2.1
theorem k3_idx388_inb : ∀ (v200 : IVec S16 32) (k3_hw22 : k3_chk22 v200), ∀ a x, ((![v200] : Fin 1 → IVec S16 32) a x).toNat < S42032.size a := fun v200 k3_hw22 => k3_hw22.2.2.2.2.2.2.2.2.2.2.2.2.2.1
theorem k3_idx390_inb : ∀ (v200 : IVec S16 32) (k3_hw22 : k3_chk22 v200), ∀ a x, ((![v200] : Fin 1 → IVec S16 32) a x).toNat < S42032.size a := fun v200 k3_hw22 => k3_hw22.2.2.2.2.2.2.2.2.2.2.2.2.2.2.1
theorem k3_idx392_inb : ∀ (v200 : IVec S16 32) (k3_hw22 : k3_chk22 v200), ∀ a x, ((![v200] : Fin 1 → IVec S16 32) a x).toNat < S42032.size a := fun v200 k3_hw22 => k3_hw22.2.2.2.2.2.2.2.2.2.2.2.2.2.2.2.1
theorem k3_idx394_inb : ∀ (v200 : IVec S16 32) (k3_hw22 : k3_chk22 v200), ∀ a x, ((![v200] : Fin 1 → IVec S16 32) a x).toNat < S42032.size a := fun v200 k3_hw22 => k3_hw22.2.2.2.2.2.2.2.2.2.2.2.2.2.2.2.2.1
theorem k3_idx396_inb : ∀ (v200 : IVec S16 32) (k3_hw22 : k3_chk22 v200), ∀ a x, ((![v200] : Fin 1 → IVec S16 32) a x).toNat < S42032.size a := fun v200 k3_hw22 => k3_hw22.2.2.2.2.2.2.2.2.2.2.2.2.2.2.2.2.2

def k3_chk23 (v215 : IVec S16 32) : Prop :=
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a) ∧
  (∀ a x, ((![v215] : Fin 1 → IVec S16 32) a x).toNat < S42032.size a)
theorem k3_idx397_inb : ∀ (v215 : IVec S16 32) (k3_hw23 : k3_chk23 v215), ∀ a x, ((![v215] : Fin 1 → IVec S16 32) a x).toNat < S42032.size a := fun v215 k3_hw23 => k3_hw23.1
theorem k3_idx399_inb : ∀ (v215 : IVec S16 32) (k3_hw23 : k3_chk23 v215), ∀ a x, ((![v215] : Fin 1 → IVec S16 32) a x).toNat < S42032.size a := fun v215 k3_hw23 => k3_hw23.2.1
theorem k3_idx401_inb : ∀ (v215 : IVec S16 32) (k3_hw23 : k3_chk23 v215), ∀ a x, ((![v215] : Fin 1 → IVec S16 32) a x).toNat < S42032.size a := fun v215 k3_hw23 => k3_hw23.2.2.1
theorem k3_idx403_inb : ∀ (v215 : IVec S16 32) (k3_hw23 : k3_chk23 v215), ∀ a x, ((![v215] : Fin 1 → IVec S16 32) a x).toNat < S42032.size a := fun v215 k3_hw23 => k3_hw23.2.2.2.1
theorem k3_idx405_inb : ∀ (v215 : IVec S16 32) (k3_hw23 : k3_chk23 v215), ∀ a x, ((![v215] : Fin 1 → IVec S16 32) a x).toNat < S42032.size a := fun v215 k3_hw23 => k3_hw23.2.2.2.2.1
theorem k3_idx407_inb : ∀ (v215 : IVec S16 32) (k3_hw23 : k3_chk23 v215), ∀ a x, ((![v215] : Fin 1 → IVec S16 32) a x).toNat < S42032.size a := fun v215 k3_hw23 => k3_hw23.2.2.2.2.2.1
theorem k3_idx409_inb : ∀ (v215 : IVec S16 32) (k3_hw23 : k3_chk23 v215), ∀ a x, ((![v215] : Fin 1 → IVec S16 32) a x).toNat < S42032.size a := fun v215 k3_hw23 => k3_hw23.2.2.2.2.2.2.1
theorem k3_idx411_inb : ∀ (v215 : IVec S16 32) (k3_hw23 : k3_chk23 v215), ∀ a x, ((![v215] : Fin 1 → IVec S16 32) a x).toNat < S42032.size a := fun v215 k3_hw23 => k3_hw23.2.2.2.2.2.2.2.1
theorem k3_idx413_inb : ∀ (v215 : IVec S16 32) (k3_hw23 : k3_chk23 v215), ∀ a x, ((![v215] : Fin 1 → IVec S16 32) a x).toNat < S42032.size a := fun v215 k3_hw23 => k3_hw23.2.2.2.2.2.2.2.2.1
theorem k3_idx415_inb : ∀ (v215 : IVec S16 32) (k3_hw23 : k3_chk23 v215), ∀ a x, ((![v215] : Fin 1 → IVec S16 32) a x).toNat < S42032.size a := fun v215 k3_hw23 => k3_hw23.2.2.2.2.2.2.2.2.2.1
theorem k3_idx417_inb : ∀ (v215 : IVec S16 32) (k3_hw23 : k3_chk23 v215), ∀ a x, ((![v215] : Fin 1 → IVec S16 32) a x).toNat < S42032.size a := fun v215 k3_hw23 => k3_hw23.2.2.2.2.2.2.2.2.2.2.1
theorem k3_idx419_inb : ∀ (v215 : IVec S16 32) (k3_hw23 : k3_chk23 v215), ∀ a x, ((![v215] : Fin 1 → IVec S16 32) a x).toNat < S42032.size a := fun v215 k3_hw23 => k3_hw23.2.2.2.2.2.2.2.2.2.2.2.1
theorem k3_idx421_inb : ∀ (v215 : IVec S16 32) (k3_hw23 : k3_chk23 v215), ∀ a x, ((![v215] : Fin 1 → IVec S16 32) a x).toNat < S42032.size a := fun v215 k3_hw23 => k3_hw23.2.2.2.2.2.2.2.2.2.2.2.2.1
theorem k3_idx423_inb : ∀ (v215 : IVec S16 32) (k3_hw23 : k3_chk23 v215), ∀ a x, ((![v215] : Fin 1 → IVec S16 32) a x).toNat < S42032.size a := fun v215 k3_hw23 => k3_hw23.2.2.2.2.2.2.2.2.2.2.2.2.2.1
theorem k3_idx425_inb : ∀ (v215 : IVec S16 32) (k3_hw23 : k3_chk23 v215), ∀ a x, ((![v215] : Fin 1 → IVec S16 32) a x).toNat < S42032.size a := fun v215 k3_hw23 => k3_hw23.2.2.2.2.2.2.2.2.2.2.2.2.2.2.1
theorem k3_idx427_inb : ∀ (v215 : IVec S16 32) (k3_hw23 : k3_chk23 v215), ∀ a x, ((![v215] : Fin 1 → IVec S16 32) a x).toNat < S42032.size a := fun v215 k3_hw23 => k3_hw23.2.2.2.2.2.2.2.2.2.2.2.2.2.2.2.1
theorem k3_idx429_inb : ∀ (v215 : IVec S16 32) (k3_hw23 : k3_chk23 v215), ∀ a x, ((![v215] : Fin 1 → IVec S16 32) a x).toNat < S42032.size a := fun v215 k3_hw23 => k3_hw23.2.2.2.2.2.2.2.2.2.2.2.2.2.2.2.2.1
theorem k3_idx431_inb : ∀ (v215 : IVec S16 32) (k3_hw23 : k3_chk23 v215), ∀ a x, ((![v215] : Fin 1 → IVec S16 32) a x).toNat < S42032.size a := fun v215 k3_hw23 => k3_hw23.2.2.2.2.2.2.2.2.2.2.2.2.2.2.2.2.2

def k3_chk24 (v216 : IVec S16 32) : Prop :=
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a) ∧
  (∀ a x, ((![v216] : Fin 1 → IVec S16 32) a x).toNat < S42032.size a)
theorem k3_idx398_inb : ∀ (v216 : IVec S16 32) (k3_hw24 : k3_chk24 v216), ∀ a x, ((![v216] : Fin 1 → IVec S16 32) a x).toNat < S42032.size a := fun v216 k3_hw24 => k3_hw24.1
theorem k3_idx400_inb : ∀ (v216 : IVec S16 32) (k3_hw24 : k3_chk24 v216), ∀ a x, ((![v216] : Fin 1 → IVec S16 32) a x).toNat < S42032.size a := fun v216 k3_hw24 => k3_hw24.2.1
theorem k3_idx402_inb : ∀ (v216 : IVec S16 32) (k3_hw24 : k3_chk24 v216), ∀ a x, ((![v216] : Fin 1 → IVec S16 32) a x).toNat < S42032.size a := fun v216 k3_hw24 => k3_hw24.2.2.1
theorem k3_idx404_inb : ∀ (v216 : IVec S16 32) (k3_hw24 : k3_chk24 v216), ∀ a x, ((![v216] : Fin 1 → IVec S16 32) a x).toNat < S42032.size a := fun v216 k3_hw24 => k3_hw24.2.2.2.1
theorem k3_idx406_inb : ∀ (v216 : IVec S16 32) (k3_hw24 : k3_chk24 v216), ∀ a x, ((![v216] : Fin 1 → IVec S16 32) a x).toNat < S42032.size a := fun v216 k3_hw24 => k3_hw24.2.2.2.2.1
theorem k3_idx408_inb : ∀ (v216 : IVec S16 32) (k3_hw24 : k3_chk24 v216), ∀ a x, ((![v216] : Fin 1 → IVec S16 32) a x).toNat < S42032.size a := fun v216 k3_hw24 => k3_hw24.2.2.2.2.2.1
theorem k3_idx410_inb : ∀ (v216 : IVec S16 32) (k3_hw24 : k3_chk24 v216), ∀ a x, ((![v216] : Fin 1 → IVec S16 32) a x).toNat < S42032.size a := fun v216 k3_hw24 => k3_hw24.2.2.2.2.2.2.1
theorem k3_idx412_inb : ∀ (v216 : IVec S16 32) (k3_hw24 : k3_chk24 v216), ∀ a x, ((![v216] : Fin 1 → IVec S16 32) a x).toNat < S42032.size a := fun v216 k3_hw24 => k3_hw24.2.2.2.2.2.2.2.1
theorem k3_idx414_inb : ∀ (v216 : IVec S16 32) (k3_hw24 : k3_chk24 v216), ∀ a x, ((![v216] : Fin 1 → IVec S16 32) a x).toNat < S42032.size a := fun v216 k3_hw24 => k3_hw24.2.2.2.2.2.2.2.2.1
theorem k3_idx416_inb : ∀ (v216 : IVec S16 32) (k3_hw24 : k3_chk24 v216), ∀ a x, ((![v216] : Fin 1 → IVec S16 32) a x).toNat < S42032.size a := fun v216 k3_hw24 => k3_hw24.2.2.2.2.2.2.2.2.2.1
theorem k3_idx418_inb : ∀ (v216 : IVec S16 32) (k3_hw24 : k3_chk24 v216), ∀ a x, ((![v216] : Fin 1 → IVec S16 32) a x).toNat < S42032.size a := fun v216 k3_hw24 => k3_hw24.2.2.2.2.2.2.2.2.2.2.1
theorem k3_idx420_inb : ∀ (v216 : IVec S16 32) (k3_hw24 : k3_chk24 v216), ∀ a x, ((![v216] : Fin 1 → IVec S16 32) a x).toNat < S42032.size a := fun v216 k3_hw24 => k3_hw24.2.2.2.2.2.2.2.2.2.2.2.1
theorem k3_idx422_inb : ∀ (v216 : IVec S16 32) (k3_hw24 : k3_chk24 v216), ∀ a x, ((![v216] : Fin 1 → IVec S16 32) a x).toNat < S42032.size a := fun v216 k3_hw24 => k3_hw24.2.2.2.2.2.2.2.2.2.2.2.2.1
theorem k3_idx424_inb : ∀ (v216 : IVec S16 32) (k3_hw24 : k3_chk24 v216), ∀ a x, ((![v216] : Fin 1 → IVec S16 32) a x).toNat < S42032.size a := fun v216 k3_hw24 => k3_hw24.2.2.2.2.2.2.2.2.2.2.2.2.2.1
theorem k3_idx426_inb : ∀ (v216 : IVec S16 32) (k3_hw24 : k3_chk24 v216), ∀ a x, ((![v216] : Fin 1 → IVec S16 32) a x).toNat < S42032.size a := fun v216 k3_hw24 => k3_hw24.2.2.2.2.2.2.2.2.2.2.2.2.2.2.1
theorem k3_idx428_inb : ∀ (v216 : IVec S16 32) (k3_hw24 : k3_chk24 v216), ∀ a x, ((![v216] : Fin 1 → IVec S16 32) a x).toNat < S42032.size a := fun v216 k3_hw24 => k3_hw24.2.2.2.2.2.2.2.2.2.2.2.2.2.2.2.1
theorem k3_idx430_inb : ∀ (v216 : IVec S16 32) (k3_hw24 : k3_chk24 v216), ∀ a x, ((![v216] : Fin 1 → IVec S16 32) a x).toNat < S42032.size a := fun v216 k3_hw24 => k3_hw24.2.2.2.2.2.2.2.2.2.2.2.2.2.2.2.2.1
theorem k3_idx432_inb : ∀ (v216 : IVec S16 32) (k3_hw24 : k3_chk24 v216), ∀ a x, ((![v216] : Fin 1 → IVec S16 32) a x).toNat < S42032.size a := fun v216 k3_hw24 => k3_hw24.2.2.2.2.2.2.2.2.2.2.2.2.2.2.2.2.2

def k3_chk25 (v231 : IVec S16 32) : Prop :=
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a) ∧
  (∀ a x, ((![v231] : Fin 1 → IVec S16 32) a x).toNat < S42032.size a)
theorem k3_idx433_inb : ∀ (v231 : IVec S16 32) (k3_hw25 : k3_chk25 v231), ∀ a x, ((![v231] : Fin 1 → IVec S16 32) a x).toNat < S42032.size a := fun v231 k3_hw25 => k3_hw25.1
theorem k3_idx435_inb : ∀ (v231 : IVec S16 32) (k3_hw25 : k3_chk25 v231), ∀ a x, ((![v231] : Fin 1 → IVec S16 32) a x).toNat < S42032.size a := fun v231 k3_hw25 => k3_hw25.2.1
theorem k3_idx437_inb : ∀ (v231 : IVec S16 32) (k3_hw25 : k3_chk25 v231), ∀ a x, ((![v231] : Fin 1 → IVec S16 32) a x).toNat < S42032.size a := fun v231 k3_hw25 => k3_hw25.2.2.1
theorem k3_idx439_inb : ∀ (v231 : IVec S16 32) (k3_hw25 : k3_chk25 v231), ∀ a x, ((![v231] : Fin 1 → IVec S16 32) a x).toNat < S42032.size a := fun v231 k3_hw25 => k3_hw25.2.2.2.1
theorem k3_idx441_inb : ∀ (v231 : IVec S16 32) (k3_hw25 : k3_chk25 v231), ∀ a x, ((![v231] : Fin 1 → IVec S16 32) a x).toNat < S42032.size a := fun v231 k3_hw25 => k3_hw25.2.2.2.2.1
theorem k3_idx443_inb : ∀ (v231 : IVec S16 32) (k3_hw25 : k3_chk25 v231), ∀ a x, ((![v231] : Fin 1 → IVec S16 32) a x).toNat < S42032.size a := fun v231 k3_hw25 => k3_hw25.2.2.2.2.2.1
theorem k3_idx445_inb : ∀ (v231 : IVec S16 32) (k3_hw25 : k3_chk25 v231), ∀ a x, ((![v231] : Fin 1 → IVec S16 32) a x).toNat < S42032.size a := fun v231 k3_hw25 => k3_hw25.2.2.2.2.2.2.1
theorem k3_idx447_inb : ∀ (v231 : IVec S16 32) (k3_hw25 : k3_chk25 v231), ∀ a x, ((![v231] : Fin 1 → IVec S16 32) a x).toNat < S42032.size a := fun v231 k3_hw25 => k3_hw25.2.2.2.2.2.2.2.1
theorem k3_idx449_inb : ∀ (v231 : IVec S16 32) (k3_hw25 : k3_chk25 v231), ∀ a x, ((![v231] : Fin 1 → IVec S16 32) a x).toNat < S42032.size a := fun v231 k3_hw25 => k3_hw25.2.2.2.2.2.2.2.2.1
theorem k3_idx451_inb : ∀ (v231 : IVec S16 32) (k3_hw25 : k3_chk25 v231), ∀ a x, ((![v231] : Fin 1 → IVec S16 32) a x).toNat < S42032.size a := fun v231 k3_hw25 => k3_hw25.2.2.2.2.2.2.2.2.2.1
theorem k3_idx453_inb : ∀ (v231 : IVec S16 32) (k3_hw25 : k3_chk25 v231), ∀ a x, ((![v231] : Fin 1 → IVec S16 32) a x).toNat < S42032.size a := fun v231 k3_hw25 => k3_hw25.2.2.2.2.2.2.2.2.2.2.1
theorem k3_idx455_inb : ∀ (v231 : IVec S16 32) (k3_hw25 : k3_chk25 v231), ∀ a x, ((![v231] : Fin 1 → IVec S16 32) a x).toNat < S42032.size a := fun v231 k3_hw25 => k3_hw25.2.2.2.2.2.2.2.2.2.2.2.1
theorem k3_idx457_inb : ∀ (v231 : IVec S16 32) (k3_hw25 : k3_chk25 v231), ∀ a x, ((![v231] : Fin 1 → IVec S16 32) a x).toNat < S42032.size a := fun v231 k3_hw25 => k3_hw25.2.2.2.2.2.2.2.2.2.2.2.2.1
theorem k3_idx459_inb : ∀ (v231 : IVec S16 32) (k3_hw25 : k3_chk25 v231), ∀ a x, ((![v231] : Fin 1 → IVec S16 32) a x).toNat < S42032.size a := fun v231 k3_hw25 => k3_hw25.2.2.2.2.2.2.2.2.2.2.2.2.2.1
theorem k3_idx461_inb : ∀ (v231 : IVec S16 32) (k3_hw25 : k3_chk25 v231), ∀ a x, ((![v231] : Fin 1 → IVec S16 32) a x).toNat < S42032.size a := fun v231 k3_hw25 => k3_hw25.2.2.2.2.2.2.2.2.2.2.2.2.2.2.1
theorem k3_idx463_inb : ∀ (v231 : IVec S16 32) (k3_hw25 : k3_chk25 v231), ∀ a x, ((![v231] : Fin 1 → IVec S16 32) a x).toNat < S42032.size a := fun v231 k3_hw25 => k3_hw25.2.2.2.2.2.2.2.2.2.2.2.2.2.2.2.1
theorem k3_idx465_inb : ∀ (v231 : IVec S16 32) (k3_hw25 : k3_chk25 v231), ∀ a x, ((![v231] : Fin 1 → IVec S16 32) a x).toNat < S42032.size a := fun v231 k3_hw25 => k3_hw25.2.2.2.2.2.2.2.2.2.2.2.2.2.2.2.2.1
theorem k3_idx467_inb : ∀ (v231 : IVec S16 32) (k3_hw25 : k3_chk25 v231), ∀ a x, ((![v231] : Fin 1 → IVec S16 32) a x).toNat < S42032.size a := fun v231 k3_hw25 => k3_hw25.2.2.2.2.2.2.2.2.2.2.2.2.2.2.2.2.2

def k3_chk26 (v232 : IVec S16 32) : Prop :=
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a) ∧
  (∀ a x, ((![v232] : Fin 1 → IVec S16 32) a x).toNat < S42032.size a)
theorem k3_idx434_inb : ∀ (v232 : IVec S16 32) (k3_hw26 : k3_chk26 v232), ∀ a x, ((![v232] : Fin 1 → IVec S16 32) a x).toNat < S42032.size a := fun v232 k3_hw26 => k3_hw26.1
theorem k3_idx436_inb : ∀ (v232 : IVec S16 32) (k3_hw26 : k3_chk26 v232), ∀ a x, ((![v232] : Fin 1 → IVec S16 32) a x).toNat < S42032.size a := fun v232 k3_hw26 => k3_hw26.2.1
theorem k3_idx438_inb : ∀ (v232 : IVec S16 32) (k3_hw26 : k3_chk26 v232), ∀ a x, ((![v232] : Fin 1 → IVec S16 32) a x).toNat < S42032.size a := fun v232 k3_hw26 => k3_hw26.2.2.1
theorem k3_idx440_inb : ∀ (v232 : IVec S16 32) (k3_hw26 : k3_chk26 v232), ∀ a x, ((![v232] : Fin 1 → IVec S16 32) a x).toNat < S42032.size a := fun v232 k3_hw26 => k3_hw26.2.2.2.1
theorem k3_idx442_inb : ∀ (v232 : IVec S16 32) (k3_hw26 : k3_chk26 v232), ∀ a x, ((![v232] : Fin 1 → IVec S16 32) a x).toNat < S42032.size a := fun v232 k3_hw26 => k3_hw26.2.2.2.2.1
theorem k3_idx444_inb : ∀ (v232 : IVec S16 32) (k3_hw26 : k3_chk26 v232), ∀ a x, ((![v232] : Fin 1 → IVec S16 32) a x).toNat < S42032.size a := fun v232 k3_hw26 => k3_hw26.2.2.2.2.2.1
theorem k3_idx446_inb : ∀ (v232 : IVec S16 32) (k3_hw26 : k3_chk26 v232), ∀ a x, ((![v232] : Fin 1 → IVec S16 32) a x).toNat < S42032.size a := fun v232 k3_hw26 => k3_hw26.2.2.2.2.2.2.1
theorem k3_idx448_inb : ∀ (v232 : IVec S16 32) (k3_hw26 : k3_chk26 v232), ∀ a x, ((![v232] : Fin 1 → IVec S16 32) a x).toNat < S42032.size a := fun v232 k3_hw26 => k3_hw26.2.2.2.2.2.2.2.1
theorem k3_idx450_inb : ∀ (v232 : IVec S16 32) (k3_hw26 : k3_chk26 v232), ∀ a x, ((![v232] : Fin 1 → IVec S16 32) a x).toNat < S42032.size a := fun v232 k3_hw26 => k3_hw26.2.2.2.2.2.2.2.2.1
theorem k3_idx452_inb : ∀ (v232 : IVec S16 32) (k3_hw26 : k3_chk26 v232), ∀ a x, ((![v232] : Fin 1 → IVec S16 32) a x).toNat < S42032.size a := fun v232 k3_hw26 => k3_hw26.2.2.2.2.2.2.2.2.2.1
theorem k3_idx454_inb : ∀ (v232 : IVec S16 32) (k3_hw26 : k3_chk26 v232), ∀ a x, ((![v232] : Fin 1 → IVec S16 32) a x).toNat < S42032.size a := fun v232 k3_hw26 => k3_hw26.2.2.2.2.2.2.2.2.2.2.1
theorem k3_idx456_inb : ∀ (v232 : IVec S16 32) (k3_hw26 : k3_chk26 v232), ∀ a x, ((![v232] : Fin 1 → IVec S16 32) a x).toNat < S42032.size a := fun v232 k3_hw26 => k3_hw26.2.2.2.2.2.2.2.2.2.2.2.1
theorem k3_idx458_inb : ∀ (v232 : IVec S16 32) (k3_hw26 : k3_chk26 v232), ∀ a x, ((![v232] : Fin 1 → IVec S16 32) a x).toNat < S42032.size a := fun v232 k3_hw26 => k3_hw26.2.2.2.2.2.2.2.2.2.2.2.2.1
theorem k3_idx460_inb : ∀ (v232 : IVec S16 32) (k3_hw26 : k3_chk26 v232), ∀ a x, ((![v232] : Fin 1 → IVec S16 32) a x).toNat < S42032.size a := fun v232 k3_hw26 => k3_hw26.2.2.2.2.2.2.2.2.2.2.2.2.2.1
theorem k3_idx462_inb : ∀ (v232 : IVec S16 32) (k3_hw26 : k3_chk26 v232), ∀ a x, ((![v232] : Fin 1 → IVec S16 32) a x).toNat < S42032.size a := fun v232 k3_hw26 => k3_hw26.2.2.2.2.2.2.2.2.2.2.2.2.2.2.1
theorem k3_idx464_inb : ∀ (v232 : IVec S16 32) (k3_hw26 : k3_chk26 v232), ∀ a x, ((![v232] : Fin 1 → IVec S16 32) a x).toNat < S42032.size a := fun v232 k3_hw26 => k3_hw26.2.2.2.2.2.2.2.2.2.2.2.2.2.2.2.1
theorem k3_idx466_inb : ∀ (v232 : IVec S16 32) (k3_hw26 : k3_chk26 v232), ∀ a x, ((![v232] : Fin 1 → IVec S16 32) a x).toNat < S42032.size a := fun v232 k3_hw26 => k3_hw26.2.2.2.2.2.2.2.2.2.2.2.2.2.2.2.2.1
theorem k3_idx468_inb : ∀ (v232 : IVec S16 32) (k3_hw26 : k3_chk26 v232), ∀ a x, ((![v232] : Fin 1 → IVec S16 32) a x).toNat < S42032.size a := fun v232 k3_hw26 => k3_hw26.2.2.2.2.2.2.2.2.2.2.2.2.2.2.2.2.2

def k3_chk27 (v247 : IVec S16 32) : Prop :=
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a) ∧
  (∀ a x, ((![v247] : Fin 1 → IVec S16 32) a x).toNat < S42032.size a)
theorem k3_idx469_inb : ∀ (v247 : IVec S16 32) (k3_hw27 : k3_chk27 v247), ∀ a x, ((![v247] : Fin 1 → IVec S16 32) a x).toNat < S42032.size a := fun v247 k3_hw27 => k3_hw27.1
theorem k3_idx471_inb : ∀ (v247 : IVec S16 32) (k3_hw27 : k3_chk27 v247), ∀ a x, ((![v247] : Fin 1 → IVec S16 32) a x).toNat < S42032.size a := fun v247 k3_hw27 => k3_hw27.2.1
theorem k3_idx473_inb : ∀ (v247 : IVec S16 32) (k3_hw27 : k3_chk27 v247), ∀ a x, ((![v247] : Fin 1 → IVec S16 32) a x).toNat < S42032.size a := fun v247 k3_hw27 => k3_hw27.2.2.1
theorem k3_idx475_inb : ∀ (v247 : IVec S16 32) (k3_hw27 : k3_chk27 v247), ∀ a x, ((![v247] : Fin 1 → IVec S16 32) a x).toNat < S42032.size a := fun v247 k3_hw27 => k3_hw27.2.2.2.1
theorem k3_idx477_inb : ∀ (v247 : IVec S16 32) (k3_hw27 : k3_chk27 v247), ∀ a x, ((![v247] : Fin 1 → IVec S16 32) a x).toNat < S42032.size a := fun v247 k3_hw27 => k3_hw27.2.2.2.2.1
theorem k3_idx479_inb : ∀ (v247 : IVec S16 32) (k3_hw27 : k3_chk27 v247), ∀ a x, ((![v247] : Fin 1 → IVec S16 32) a x).toNat < S42032.size a := fun v247 k3_hw27 => k3_hw27.2.2.2.2.2.1
theorem k3_idx481_inb : ∀ (v247 : IVec S16 32) (k3_hw27 : k3_chk27 v247), ∀ a x, ((![v247] : Fin 1 → IVec S16 32) a x).toNat < S42032.size a := fun v247 k3_hw27 => k3_hw27.2.2.2.2.2.2.1
theorem k3_idx483_inb : ∀ (v247 : IVec S16 32) (k3_hw27 : k3_chk27 v247), ∀ a x, ((![v247] : Fin 1 → IVec S16 32) a x).toNat < S42032.size a := fun v247 k3_hw27 => k3_hw27.2.2.2.2.2.2.2.1
theorem k3_idx485_inb : ∀ (v247 : IVec S16 32) (k3_hw27 : k3_chk27 v247), ∀ a x, ((![v247] : Fin 1 → IVec S16 32) a x).toNat < S42032.size a := fun v247 k3_hw27 => k3_hw27.2.2.2.2.2.2.2.2.1
theorem k3_idx487_inb : ∀ (v247 : IVec S16 32) (k3_hw27 : k3_chk27 v247), ∀ a x, ((![v247] : Fin 1 → IVec S16 32) a x).toNat < S42032.size a := fun v247 k3_hw27 => k3_hw27.2.2.2.2.2.2.2.2.2.1
theorem k3_idx489_inb : ∀ (v247 : IVec S16 32) (k3_hw27 : k3_chk27 v247), ∀ a x, ((![v247] : Fin 1 → IVec S16 32) a x).toNat < S42032.size a := fun v247 k3_hw27 => k3_hw27.2.2.2.2.2.2.2.2.2.2.1
theorem k3_idx491_inb : ∀ (v247 : IVec S16 32) (k3_hw27 : k3_chk27 v247), ∀ a x, ((![v247] : Fin 1 → IVec S16 32) a x).toNat < S42032.size a := fun v247 k3_hw27 => k3_hw27.2.2.2.2.2.2.2.2.2.2.2.1
theorem k3_idx493_inb : ∀ (v247 : IVec S16 32) (k3_hw27 : k3_chk27 v247), ∀ a x, ((![v247] : Fin 1 → IVec S16 32) a x).toNat < S42032.size a := fun v247 k3_hw27 => k3_hw27.2.2.2.2.2.2.2.2.2.2.2.2.1
theorem k3_idx495_inb : ∀ (v247 : IVec S16 32) (k3_hw27 : k3_chk27 v247), ∀ a x, ((![v247] : Fin 1 → IVec S16 32) a x).toNat < S42032.size a := fun v247 k3_hw27 => k3_hw27.2.2.2.2.2.2.2.2.2.2.2.2.2.1
theorem k3_idx497_inb : ∀ (v247 : IVec S16 32) (k3_hw27 : k3_chk27 v247), ∀ a x, ((![v247] : Fin 1 → IVec S16 32) a x).toNat < S42032.size a := fun v247 k3_hw27 => k3_hw27.2.2.2.2.2.2.2.2.2.2.2.2.2.2.1
theorem k3_idx499_inb : ∀ (v247 : IVec S16 32) (k3_hw27 : k3_chk27 v247), ∀ a x, ((![v247] : Fin 1 → IVec S16 32) a x).toNat < S42032.size a := fun v247 k3_hw27 => k3_hw27.2.2.2.2.2.2.2.2.2.2.2.2.2.2.2.1
theorem k3_idx501_inb : ∀ (v247 : IVec S16 32) (k3_hw27 : k3_chk27 v247), ∀ a x, ((![v247] : Fin 1 → IVec S16 32) a x).toNat < S42032.size a := fun v247 k3_hw27 => k3_hw27.2.2.2.2.2.2.2.2.2.2.2.2.2.2.2.2.1
theorem k3_idx503_inb : ∀ (v247 : IVec S16 32) (k3_hw27 : k3_chk27 v247), ∀ a x, ((![v247] : Fin 1 → IVec S16 32) a x).toNat < S42032.size a := fun v247 k3_hw27 => k3_hw27.2.2.2.2.2.2.2.2.2.2.2.2.2.2.2.2.2

def k3_chk28 (v248 : IVec S16 32) : Prop :=
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a) ∧
  (∀ a x, ((![v248] : Fin 1 → IVec S16 32) a x).toNat < S42032.size a)
theorem k3_idx470_inb : ∀ (v248 : IVec S16 32) (k3_hw28 : k3_chk28 v248), ∀ a x, ((![v248] : Fin 1 → IVec S16 32) a x).toNat < S42032.size a := fun v248 k3_hw28 => k3_hw28.1
theorem k3_idx472_inb : ∀ (v248 : IVec S16 32) (k3_hw28 : k3_chk28 v248), ∀ a x, ((![v248] : Fin 1 → IVec S16 32) a x).toNat < S42032.size a := fun v248 k3_hw28 => k3_hw28.2.1
theorem k3_idx474_inb : ∀ (v248 : IVec S16 32) (k3_hw28 : k3_chk28 v248), ∀ a x, ((![v248] : Fin 1 → IVec S16 32) a x).toNat < S42032.size a := fun v248 k3_hw28 => k3_hw28.2.2.1
theorem k3_idx476_inb : ∀ (v248 : IVec S16 32) (k3_hw28 : k3_chk28 v248), ∀ a x, ((![v248] : Fin 1 → IVec S16 32) a x).toNat < S42032.size a := fun v248 k3_hw28 => k3_hw28.2.2.2.1
theorem k3_idx478_inb : ∀ (v248 : IVec S16 32) (k3_hw28 : k3_chk28 v248), ∀ a x, ((![v248] : Fin 1 → IVec S16 32) a x).toNat < S42032.size a := fun v248 k3_hw28 => k3_hw28.2.2.2.2.1
theorem k3_idx480_inb : ∀ (v248 : IVec S16 32) (k3_hw28 : k3_chk28 v248), ∀ a x, ((![v248] : Fin 1 → IVec S16 32) a x).toNat < S42032.size a := fun v248 k3_hw28 => k3_hw28.2.2.2.2.2.1
theorem k3_idx482_inb : ∀ (v248 : IVec S16 32) (k3_hw28 : k3_chk28 v248), ∀ a x, ((![v248] : Fin 1 → IVec S16 32) a x).toNat < S42032.size a := fun v248 k3_hw28 => k3_hw28.2.2.2.2.2.2.1
theorem k3_idx484_inb : ∀ (v248 : IVec S16 32) (k3_hw28 : k3_chk28 v248), ∀ a x, ((![v248] : Fin 1 → IVec S16 32) a x).toNat < S42032.size a := fun v248 k3_hw28 => k3_hw28.2.2.2.2.2.2.2.1
theorem k3_idx486_inb : ∀ (v248 : IVec S16 32) (k3_hw28 : k3_chk28 v248), ∀ a x, ((![v248] : Fin 1 → IVec S16 32) a x).toNat < S42032.size a := fun v248 k3_hw28 => k3_hw28.2.2.2.2.2.2.2.2.1
theorem k3_idx488_inb : ∀ (v248 : IVec S16 32) (k3_hw28 : k3_chk28 v248), ∀ a x, ((![v248] : Fin 1 → IVec S16 32) a x).toNat < S42032.size a := fun v248 k3_hw28 => k3_hw28.2.2.2.2.2.2.2.2.2.1
theorem k3_idx490_inb : ∀ (v248 : IVec S16 32) (k3_hw28 : k3_chk28 v248), ∀ a x, ((![v248] : Fin 1 → IVec S16 32) a x).toNat < S42032.size a := fun v248 k3_hw28 => k3_hw28.2.2.2.2.2.2.2.2.2.2.1
theorem k3_idx492_inb : ∀ (v248 : IVec S16 32) (k3_hw28 : k3_chk28 v248), ∀ a x, ((![v248] : Fin 1 → IVec S16 32) a x).toNat < S42032.size a := fun v248 k3_hw28 => k3_hw28.2.2.2.2.2.2.2.2.2.2.2.1
theorem k3_idx494_inb : ∀ (v248 : IVec S16 32) (k3_hw28 : k3_chk28 v248), ∀ a x, ((![v248] : Fin 1 → IVec S16 32) a x).toNat < S42032.size a := fun v248 k3_hw28 => k3_hw28.2.2.2.2.2.2.2.2.2.2.2.2.1
theorem k3_idx496_inb : ∀ (v248 : IVec S16 32) (k3_hw28 : k3_chk28 v248), ∀ a x, ((![v248] : Fin 1 → IVec S16 32) a x).toNat < S42032.size a := fun v248 k3_hw28 => k3_hw28.2.2.2.2.2.2.2.2.2.2.2.2.2.1
theorem k3_idx498_inb : ∀ (v248 : IVec S16 32) (k3_hw28 : k3_chk28 v248), ∀ a x, ((![v248] : Fin 1 → IVec S16 32) a x).toNat < S42032.size a := fun v248 k3_hw28 => k3_hw28.2.2.2.2.2.2.2.2.2.2.2.2.2.2.1
theorem k3_idx500_inb : ∀ (v248 : IVec S16 32) (k3_hw28 : k3_chk28 v248), ∀ a x, ((![v248] : Fin 1 → IVec S16 32) a x).toNat < S42032.size a := fun v248 k3_hw28 => k3_hw28.2.2.2.2.2.2.2.2.2.2.2.2.2.2.2.1
theorem k3_idx502_inb : ∀ (v248 : IVec S16 32) (k3_hw28 : k3_chk28 v248), ∀ a x, ((![v248] : Fin 1 → IVec S16 32) a x).toNat < S42032.size a := fun v248 k3_hw28 => k3_hw28.2.2.2.2.2.2.2.2.2.2.2.2.2.2.2.2.1
theorem k3_idx504_inb : ∀ (v248 : IVec S16 32) (k3_hw28 : k3_chk28 v248), ∀ a x, ((![v248] : Fin 1 → IVec S16 32) a x).toNat < S42032.size a := fun v248 k3_hw28 => k3_hw28.2.2.2.2.2.2.2.2.2.2.2.2.2.2.2.2.2

def k3_chk29 (v263 : IVec S16 32) : Prop :=
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a) ∧
  (∀ a x, ((![v263] : Fin 1 → IVec S16 32) a x).toNat < S42032.size a)
theorem k3_idx505_inb : ∀ (v263 : IVec S16 32) (k3_hw29 : k3_chk29 v263), ∀ a x, ((![v263] : Fin 1 → IVec S16 32) a x).toNat < S42032.size a := fun v263 k3_hw29 => k3_hw29.1
theorem k3_idx507_inb : ∀ (v263 : IVec S16 32) (k3_hw29 : k3_chk29 v263), ∀ a x, ((![v263] : Fin 1 → IVec S16 32) a x).toNat < S42032.size a := fun v263 k3_hw29 => k3_hw29.2.1
theorem k3_idx509_inb : ∀ (v263 : IVec S16 32) (k3_hw29 : k3_chk29 v263), ∀ a x, ((![v263] : Fin 1 → IVec S16 32) a x).toNat < S42032.size a := fun v263 k3_hw29 => k3_hw29.2.2.1
theorem k3_idx511_inb : ∀ (v263 : IVec S16 32) (k3_hw29 : k3_chk29 v263), ∀ a x, ((![v263] : Fin 1 → IVec S16 32) a x).toNat < S42032.size a := fun v263 k3_hw29 => k3_hw29.2.2.2.1
theorem k3_idx513_inb : ∀ (v263 : IVec S16 32) (k3_hw29 : k3_chk29 v263), ∀ a x, ((![v263] : Fin 1 → IVec S16 32) a x).toNat < S42032.size a := fun v263 k3_hw29 => k3_hw29.2.2.2.2.1
theorem k3_idx515_inb : ∀ (v263 : IVec S16 32) (k3_hw29 : k3_chk29 v263), ∀ a x, ((![v263] : Fin 1 → IVec S16 32) a x).toNat < S42032.size a := fun v263 k3_hw29 => k3_hw29.2.2.2.2.2.1
theorem k3_idx517_inb : ∀ (v263 : IVec S16 32) (k3_hw29 : k3_chk29 v263), ∀ a x, ((![v263] : Fin 1 → IVec S16 32) a x).toNat < S42032.size a := fun v263 k3_hw29 => k3_hw29.2.2.2.2.2.2.1
theorem k3_idx519_inb : ∀ (v263 : IVec S16 32) (k3_hw29 : k3_chk29 v263), ∀ a x, ((![v263] : Fin 1 → IVec S16 32) a x).toNat < S42032.size a := fun v263 k3_hw29 => k3_hw29.2.2.2.2.2.2.2.1
theorem k3_idx521_inb : ∀ (v263 : IVec S16 32) (k3_hw29 : k3_chk29 v263), ∀ a x, ((![v263] : Fin 1 → IVec S16 32) a x).toNat < S42032.size a := fun v263 k3_hw29 => k3_hw29.2.2.2.2.2.2.2.2.1
theorem k3_idx523_inb : ∀ (v263 : IVec S16 32) (k3_hw29 : k3_chk29 v263), ∀ a x, ((![v263] : Fin 1 → IVec S16 32) a x).toNat < S42032.size a := fun v263 k3_hw29 => k3_hw29.2.2.2.2.2.2.2.2.2.1
theorem k3_idx525_inb : ∀ (v263 : IVec S16 32) (k3_hw29 : k3_chk29 v263), ∀ a x, ((![v263] : Fin 1 → IVec S16 32) a x).toNat < S42032.size a := fun v263 k3_hw29 => k3_hw29.2.2.2.2.2.2.2.2.2.2.1
theorem k3_idx527_inb : ∀ (v263 : IVec S16 32) (k3_hw29 : k3_chk29 v263), ∀ a x, ((![v263] : Fin 1 → IVec S16 32) a x).toNat < S42032.size a := fun v263 k3_hw29 => k3_hw29.2.2.2.2.2.2.2.2.2.2.2.1
theorem k3_idx529_inb : ∀ (v263 : IVec S16 32) (k3_hw29 : k3_chk29 v263), ∀ a x, ((![v263] : Fin 1 → IVec S16 32) a x).toNat < S42032.size a := fun v263 k3_hw29 => k3_hw29.2.2.2.2.2.2.2.2.2.2.2.2.1
theorem k3_idx531_inb : ∀ (v263 : IVec S16 32) (k3_hw29 : k3_chk29 v263), ∀ a x, ((![v263] : Fin 1 → IVec S16 32) a x).toNat < S42032.size a := fun v263 k3_hw29 => k3_hw29.2.2.2.2.2.2.2.2.2.2.2.2.2.1
theorem k3_idx533_inb : ∀ (v263 : IVec S16 32) (k3_hw29 : k3_chk29 v263), ∀ a x, ((![v263] : Fin 1 → IVec S16 32) a x).toNat < S42032.size a := fun v263 k3_hw29 => k3_hw29.2.2.2.2.2.2.2.2.2.2.2.2.2.2.1
theorem k3_idx535_inb : ∀ (v263 : IVec S16 32) (k3_hw29 : k3_chk29 v263), ∀ a x, ((![v263] : Fin 1 → IVec S16 32) a x).toNat < S42032.size a := fun v263 k3_hw29 => k3_hw29.2.2.2.2.2.2.2.2.2.2.2.2.2.2.2.1
theorem k3_idx537_inb : ∀ (v263 : IVec S16 32) (k3_hw29 : k3_chk29 v263), ∀ a x, ((![v263] : Fin 1 → IVec S16 32) a x).toNat < S42032.size a := fun v263 k3_hw29 => k3_hw29.2.2.2.2.2.2.2.2.2.2.2.2.2.2.2.2.1
theorem k3_idx539_inb : ∀ (v263 : IVec S16 32) (k3_hw29 : k3_chk29 v263), ∀ a x, ((![v263] : Fin 1 → IVec S16 32) a x).toNat < S42032.size a := fun v263 k3_hw29 => k3_hw29.2.2.2.2.2.2.2.2.2.2.2.2.2.2.2.2.2

def k3_chk30 (v264 : IVec S16 32) : Prop :=
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a) ∧
  (∀ a x, ((![v264] : Fin 1 → IVec S16 32) a x).toNat < S42032.size a)
theorem k3_idx506_inb : ∀ (v264 : IVec S16 32) (k3_hw30 : k3_chk30 v264), ∀ a x, ((![v264] : Fin 1 → IVec S16 32) a x).toNat < S42032.size a := fun v264 k3_hw30 => k3_hw30.1
theorem k3_idx508_inb : ∀ (v264 : IVec S16 32) (k3_hw30 : k3_chk30 v264), ∀ a x, ((![v264] : Fin 1 → IVec S16 32) a x).toNat < S42032.size a := fun v264 k3_hw30 => k3_hw30.2.1
theorem k3_idx510_inb : ∀ (v264 : IVec S16 32) (k3_hw30 : k3_chk30 v264), ∀ a x, ((![v264] : Fin 1 → IVec S16 32) a x).toNat < S42032.size a := fun v264 k3_hw30 => k3_hw30.2.2.1
theorem k3_idx512_inb : ∀ (v264 : IVec S16 32) (k3_hw30 : k3_chk30 v264), ∀ a x, ((![v264] : Fin 1 → IVec S16 32) a x).toNat < S42032.size a := fun v264 k3_hw30 => k3_hw30.2.2.2.1
theorem k3_idx514_inb : ∀ (v264 : IVec S16 32) (k3_hw30 : k3_chk30 v264), ∀ a x, ((![v264] : Fin 1 → IVec S16 32) a x).toNat < S42032.size a := fun v264 k3_hw30 => k3_hw30.2.2.2.2.1
theorem k3_idx516_inb : ∀ (v264 : IVec S16 32) (k3_hw30 : k3_chk30 v264), ∀ a x, ((![v264] : Fin 1 → IVec S16 32) a x).toNat < S42032.size a := fun v264 k3_hw30 => k3_hw30.2.2.2.2.2.1
theorem k3_idx518_inb : ∀ (v264 : IVec S16 32) (k3_hw30 : k3_chk30 v264), ∀ a x, ((![v264] : Fin 1 → IVec S16 32) a x).toNat < S42032.size a := fun v264 k3_hw30 => k3_hw30.2.2.2.2.2.2.1
theorem k3_idx520_inb : ∀ (v264 : IVec S16 32) (k3_hw30 : k3_chk30 v264), ∀ a x, ((![v264] : Fin 1 → IVec S16 32) a x).toNat < S42032.size a := fun v264 k3_hw30 => k3_hw30.2.2.2.2.2.2.2.1
theorem k3_idx522_inb : ∀ (v264 : IVec S16 32) (k3_hw30 : k3_chk30 v264), ∀ a x, ((![v264] : Fin 1 → IVec S16 32) a x).toNat < S42032.size a := fun v264 k3_hw30 => k3_hw30.2.2.2.2.2.2.2.2.1
theorem k3_idx524_inb : ∀ (v264 : IVec S16 32) (k3_hw30 : k3_chk30 v264), ∀ a x, ((![v264] : Fin 1 → IVec S16 32) a x).toNat < S42032.size a := fun v264 k3_hw30 => k3_hw30.2.2.2.2.2.2.2.2.2.1
theorem k3_idx526_inb : ∀ (v264 : IVec S16 32) (k3_hw30 : k3_chk30 v264), ∀ a x, ((![v264] : Fin 1 → IVec S16 32) a x).toNat < S42032.size a := fun v264 k3_hw30 => k3_hw30.2.2.2.2.2.2.2.2.2.2.1
theorem k3_idx528_inb : ∀ (v264 : IVec S16 32) (k3_hw30 : k3_chk30 v264), ∀ a x, ((![v264] : Fin 1 → IVec S16 32) a x).toNat < S42032.size a := fun v264 k3_hw30 => k3_hw30.2.2.2.2.2.2.2.2.2.2.2.1
theorem k3_idx530_inb : ∀ (v264 : IVec S16 32) (k3_hw30 : k3_chk30 v264), ∀ a x, ((![v264] : Fin 1 → IVec S16 32) a x).toNat < S42032.size a := fun v264 k3_hw30 => k3_hw30.2.2.2.2.2.2.2.2.2.2.2.2.1
theorem k3_idx532_inb : ∀ (v264 : IVec S16 32) (k3_hw30 : k3_chk30 v264), ∀ a x, ((![v264] : Fin 1 → IVec S16 32) a x).toNat < S42032.size a := fun v264 k3_hw30 => k3_hw30.2.2.2.2.2.2.2.2.2.2.2.2.2.1
theorem k3_idx534_inb : ∀ (v264 : IVec S16 32) (k3_hw30 : k3_chk30 v264), ∀ a x, ((![v264] : Fin 1 → IVec S16 32) a x).toNat < S42032.size a := fun v264 k3_hw30 => k3_hw30.2.2.2.2.2.2.2.2.2.2.2.2.2.2.1
theorem k3_idx536_inb : ∀ (v264 : IVec S16 32) (k3_hw30 : k3_chk30 v264), ∀ a x, ((![v264] : Fin 1 → IVec S16 32) a x).toNat < S42032.size a := fun v264 k3_hw30 => k3_hw30.2.2.2.2.2.2.2.2.2.2.2.2.2.2.2.1
theorem k3_idx538_inb : ∀ (v264 : IVec S16 32) (k3_hw30 : k3_chk30 v264), ∀ a x, ((![v264] : Fin 1 → IVec S16 32) a x).toNat < S42032.size a := fun v264 k3_hw30 => k3_hw30.2.2.2.2.2.2.2.2.2.2.2.2.2.2.2.2.1
theorem k3_idx540_inb : ∀ (v264 : IVec S16 32) (k3_hw30 : k3_chk30 v264), ∀ a x, ((![v264] : Fin 1 → IVec S16 32) a x).toNat < S42032.size a := fun v264 k3_hw30 => k3_hw30.2.2.2.2.2.2.2.2.2.2.2.2.2.2.2.2.2

def k3_chk31 (v279 : IVec S16 32) : Prop :=
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a) ∧
  (∀ a x, ((![v279] : Fin 1 → IVec S16 32) a x).toNat < S42032.size a)
theorem k3_idx541_inb : ∀ (v279 : IVec S16 32) (k3_hw31 : k3_chk31 v279), ∀ a x, ((![v279] : Fin 1 → IVec S16 32) a x).toNat < S42032.size a := fun v279 k3_hw31 => k3_hw31.1
theorem k3_idx543_inb : ∀ (v279 : IVec S16 32) (k3_hw31 : k3_chk31 v279), ∀ a x, ((![v279] : Fin 1 → IVec S16 32) a x).toNat < S42032.size a := fun v279 k3_hw31 => k3_hw31.2.1
theorem k3_idx545_inb : ∀ (v279 : IVec S16 32) (k3_hw31 : k3_chk31 v279), ∀ a x, ((![v279] : Fin 1 → IVec S16 32) a x).toNat < S42032.size a := fun v279 k3_hw31 => k3_hw31.2.2.1
theorem k3_idx547_inb : ∀ (v279 : IVec S16 32) (k3_hw31 : k3_chk31 v279), ∀ a x, ((![v279] : Fin 1 → IVec S16 32) a x).toNat < S42032.size a := fun v279 k3_hw31 => k3_hw31.2.2.2.1
theorem k3_idx549_inb : ∀ (v279 : IVec S16 32) (k3_hw31 : k3_chk31 v279), ∀ a x, ((![v279] : Fin 1 → IVec S16 32) a x).toNat < S42032.size a := fun v279 k3_hw31 => k3_hw31.2.2.2.2.1
theorem k3_idx551_inb : ∀ (v279 : IVec S16 32) (k3_hw31 : k3_chk31 v279), ∀ a x, ((![v279] : Fin 1 → IVec S16 32) a x).toNat < S42032.size a := fun v279 k3_hw31 => k3_hw31.2.2.2.2.2.1
theorem k3_idx553_inb : ∀ (v279 : IVec S16 32) (k3_hw31 : k3_chk31 v279), ∀ a x, ((![v279] : Fin 1 → IVec S16 32) a x).toNat < S42032.size a := fun v279 k3_hw31 => k3_hw31.2.2.2.2.2.2.1
theorem k3_idx555_inb : ∀ (v279 : IVec S16 32) (k3_hw31 : k3_chk31 v279), ∀ a x, ((![v279] : Fin 1 → IVec S16 32) a x).toNat < S42032.size a := fun v279 k3_hw31 => k3_hw31.2.2.2.2.2.2.2.1
theorem k3_idx557_inb : ∀ (v279 : IVec S16 32) (k3_hw31 : k3_chk31 v279), ∀ a x, ((![v279] : Fin 1 → IVec S16 32) a x).toNat < S42032.size a := fun v279 k3_hw31 => k3_hw31.2.2.2.2.2.2.2.2.1
theorem k3_idx559_inb : ∀ (v279 : IVec S16 32) (k3_hw31 : k3_chk31 v279), ∀ a x, ((![v279] : Fin 1 → IVec S16 32) a x).toNat < S42032.size a := fun v279 k3_hw31 => k3_hw31.2.2.2.2.2.2.2.2.2.1
theorem k3_idx561_inb : ∀ (v279 : IVec S16 32) (k3_hw31 : k3_chk31 v279), ∀ a x, ((![v279] : Fin 1 → IVec S16 32) a x).toNat < S42032.size a := fun v279 k3_hw31 => k3_hw31.2.2.2.2.2.2.2.2.2.2.1
theorem k3_idx563_inb : ∀ (v279 : IVec S16 32) (k3_hw31 : k3_chk31 v279), ∀ a x, ((![v279] : Fin 1 → IVec S16 32) a x).toNat < S42032.size a := fun v279 k3_hw31 => k3_hw31.2.2.2.2.2.2.2.2.2.2.2.1
theorem k3_idx565_inb : ∀ (v279 : IVec S16 32) (k3_hw31 : k3_chk31 v279), ∀ a x, ((![v279] : Fin 1 → IVec S16 32) a x).toNat < S42032.size a := fun v279 k3_hw31 => k3_hw31.2.2.2.2.2.2.2.2.2.2.2.2.1
theorem k3_idx567_inb : ∀ (v279 : IVec S16 32) (k3_hw31 : k3_chk31 v279), ∀ a x, ((![v279] : Fin 1 → IVec S16 32) a x).toNat < S42032.size a := fun v279 k3_hw31 => k3_hw31.2.2.2.2.2.2.2.2.2.2.2.2.2.1
theorem k3_idx569_inb : ∀ (v279 : IVec S16 32) (k3_hw31 : k3_chk31 v279), ∀ a x, ((![v279] : Fin 1 → IVec S16 32) a x).toNat < S42032.size a := fun v279 k3_hw31 => k3_hw31.2.2.2.2.2.2.2.2.2.2.2.2.2.2.1
theorem k3_idx571_inb : ∀ (v279 : IVec S16 32) (k3_hw31 : k3_chk31 v279), ∀ a x, ((![v279] : Fin 1 → IVec S16 32) a x).toNat < S42032.size a := fun v279 k3_hw31 => k3_hw31.2.2.2.2.2.2.2.2.2.2.2.2.2.2.2.1
theorem k3_idx573_inb : ∀ (v279 : IVec S16 32) (k3_hw31 : k3_chk31 v279), ∀ a x, ((![v279] : Fin 1 → IVec S16 32) a x).toNat < S42032.size a := fun v279 k3_hw31 => k3_hw31.2.2.2.2.2.2.2.2.2.2.2.2.2.2.2.2.1
theorem k3_idx575_inb : ∀ (v279 : IVec S16 32) (k3_hw31 : k3_chk31 v279), ∀ a x, ((![v279] : Fin 1 → IVec S16 32) a x).toNat < S42032.size a := fun v279 k3_hw31 => k3_hw31.2.2.2.2.2.2.2.2.2.2.2.2.2.2.2.2.2

def k3_chk32 (v280 : IVec S16 32) : Prop :=
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a) ∧
  (∀ a x, ((![v280] : Fin 1 → IVec S16 32) a x).toNat < S42032.size a)
theorem k3_idx542_inb : ∀ (v280 : IVec S16 32) (k3_hw32 : k3_chk32 v280), ∀ a x, ((![v280] : Fin 1 → IVec S16 32) a x).toNat < S42032.size a := fun v280 k3_hw32 => k3_hw32.1
theorem k3_idx544_inb : ∀ (v280 : IVec S16 32) (k3_hw32 : k3_chk32 v280), ∀ a x, ((![v280] : Fin 1 → IVec S16 32) a x).toNat < S42032.size a := fun v280 k3_hw32 => k3_hw32.2.1
theorem k3_idx546_inb : ∀ (v280 : IVec S16 32) (k3_hw32 : k3_chk32 v280), ∀ a x, ((![v280] : Fin 1 → IVec S16 32) a x).toNat < S42032.size a := fun v280 k3_hw32 => k3_hw32.2.2.1
theorem k3_idx548_inb : ∀ (v280 : IVec S16 32) (k3_hw32 : k3_chk32 v280), ∀ a x, ((![v280] : Fin 1 → IVec S16 32) a x).toNat < S42032.size a := fun v280 k3_hw32 => k3_hw32.2.2.2.1
theorem k3_idx550_inb : ∀ (v280 : IVec S16 32) (k3_hw32 : k3_chk32 v280), ∀ a x, ((![v280] : Fin 1 → IVec S16 32) a x).toNat < S42032.size a := fun v280 k3_hw32 => k3_hw32.2.2.2.2.1
theorem k3_idx552_inb : ∀ (v280 : IVec S16 32) (k3_hw32 : k3_chk32 v280), ∀ a x, ((![v280] : Fin 1 → IVec S16 32) a x).toNat < S42032.size a := fun v280 k3_hw32 => k3_hw32.2.2.2.2.2.1
theorem k3_idx554_inb : ∀ (v280 : IVec S16 32) (k3_hw32 : k3_chk32 v280), ∀ a x, ((![v280] : Fin 1 → IVec S16 32) a x).toNat < S42032.size a := fun v280 k3_hw32 => k3_hw32.2.2.2.2.2.2.1
theorem k3_idx556_inb : ∀ (v280 : IVec S16 32) (k3_hw32 : k3_chk32 v280), ∀ a x, ((![v280] : Fin 1 → IVec S16 32) a x).toNat < S42032.size a := fun v280 k3_hw32 => k3_hw32.2.2.2.2.2.2.2.1
theorem k3_idx558_inb : ∀ (v280 : IVec S16 32) (k3_hw32 : k3_chk32 v280), ∀ a x, ((![v280] : Fin 1 → IVec S16 32) a x).toNat < S42032.size a := fun v280 k3_hw32 => k3_hw32.2.2.2.2.2.2.2.2.1
theorem k3_idx560_inb : ∀ (v280 : IVec S16 32) (k3_hw32 : k3_chk32 v280), ∀ a x, ((![v280] : Fin 1 → IVec S16 32) a x).toNat < S42032.size a := fun v280 k3_hw32 => k3_hw32.2.2.2.2.2.2.2.2.2.1
theorem k3_idx562_inb : ∀ (v280 : IVec S16 32) (k3_hw32 : k3_chk32 v280), ∀ a x, ((![v280] : Fin 1 → IVec S16 32) a x).toNat < S42032.size a := fun v280 k3_hw32 => k3_hw32.2.2.2.2.2.2.2.2.2.2.1
theorem k3_idx564_inb : ∀ (v280 : IVec S16 32) (k3_hw32 : k3_chk32 v280), ∀ a x, ((![v280] : Fin 1 → IVec S16 32) a x).toNat < S42032.size a := fun v280 k3_hw32 => k3_hw32.2.2.2.2.2.2.2.2.2.2.2.1
theorem k3_idx566_inb : ∀ (v280 : IVec S16 32) (k3_hw32 : k3_chk32 v280), ∀ a x, ((![v280] : Fin 1 → IVec S16 32) a x).toNat < S42032.size a := fun v280 k3_hw32 => k3_hw32.2.2.2.2.2.2.2.2.2.2.2.2.1
theorem k3_idx568_inb : ∀ (v280 : IVec S16 32) (k3_hw32 : k3_chk32 v280), ∀ a x, ((![v280] : Fin 1 → IVec S16 32) a x).toNat < S42032.size a := fun v280 k3_hw32 => k3_hw32.2.2.2.2.2.2.2.2.2.2.2.2.2.1
theorem k3_idx570_inb : ∀ (v280 : IVec S16 32) (k3_hw32 : k3_chk32 v280), ∀ a x, ((![v280] : Fin 1 → IVec S16 32) a x).toNat < S42032.size a := fun v280 k3_hw32 => k3_hw32.2.2.2.2.2.2.2.2.2.2.2.2.2.2.1
theorem k3_idx572_inb : ∀ (v280 : IVec S16 32) (k3_hw32 : k3_chk32 v280), ∀ a x, ((![v280] : Fin 1 → IVec S16 32) a x).toNat < S42032.size a := fun v280 k3_hw32 => k3_hw32.2.2.2.2.2.2.2.2.2.2.2.2.2.2.2.1
theorem k3_idx574_inb : ∀ (v280 : IVec S16 32) (k3_hw32 : k3_chk32 v280), ∀ a x, ((![v280] : Fin 1 → IVec S16 32) a x).toNat < S42032.size a := fun v280 k3_hw32 => k3_hw32.2.2.2.2.2.2.2.2.2.2.2.2.2.2.2.2.1
theorem k3_idx576_inb : ∀ (v280 : IVec S16 32) (k3_hw32 : k3_chk32 v280), ∀ a x, ((![v280] : Fin 1 → IVec S16 32) a x).toNat < S42032.size a := fun v280 k3_hw32 => k3_hw32.2.2.2.2.2.2.2.2.2.2.2.2.2.2.2.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x32x1024 : Shape := ⟨3, ![16, 32, 1024]⟩
abbrev S16x32x32x1024 : Shape := ⟨4, ![16, 32, 32, 1024]⟩
abbrev S16x32x32 : Shape := ⟨3, ![16, 32, 32]⟩
abbrev S1x2048 : Shape := ⟨2, ![1, 2048]⟩
abbrev S1 : Shape := ⟨1, ![1]⟩
abbrev S1024x2048 : Shape := ⟨2, ![1024, 2048]⟩
abbrev S1024 : Shape := ⟨1, ![1024]⟩
abbrev S1x1024 : Shape := ⟨2, ![1, 1024]⟩
abbrev S_ : Shape := ⟨0, ![]⟩
abbrev S16x32x2048 : Shape := ⟨3, ![16, 32, 2048]⟩
abbrev S2048x1 : Shape := ⟨2, ![2048, 1]⟩
abbrev S16x32x1 : Shape := ⟨3, ![16, 32, 1]⟩
abbrev S1x1x1 : Shape := ⟨3, ![1, 1, 1]⟩
abbrev S16x32 : Shape := ⟨2, ![16, 32]⟩
abbrev S16x32x32x1 : Shape := ⟨4, ![16, 32, 32, 1]⟩
abbrev S512x32 : Shape := ⟨2, ![512, 32]⟩
abbrev S512 : Shape := ⟨1, ![512]⟩
abbrev S512x1 : Shape := ⟨2, ![512, 1]⟩
abbrev S512x42024 : Shape := ⟨2, ![512, 42024]⟩
abbrev S512x32x1 : Shape := ⟨3, ![512, 32, 1]⟩
abbrev S512x32x2 : Shape := ⟨3, ![512, 32, 2]⟩
abbrev S16x32x42024 : Shape := ⟨3, ![16, 32, 42024]⟩
abbrev S2048x1024 : Shape := ⟨2, ![2048, 1024]⟩
abbrev S1x1x1024 : Shape := ⟨3, ![1, 1, 1024]⟩
abbrev S1024x1 : Shape := ⟨2, ![1024, 1]⟩

abbrev nBuf : Space → Nat
  | .hbm => 93
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S16x32x32x1024, .f32⟩
  | .hbm, ⟨2, _⟩ => ⟨S16x32x32, .i32⟩
  | .hbm, ⟨3, _⟩ => ⟨S16x32x32, .f32⟩
  | .hbm, ⟨4, _⟩ => ⟨S1x2048, .f32⟩
  | .hbm, ⟨5, _⟩ => ⟨S1, .f32⟩
  | .hbm, ⟨6, _⟩ => ⟨S1024x2048, .f32⟩
  | .hbm, ⟨7, _⟩ => ⟨S1024, .f32⟩
  | .hbm, ⟨8, _⟩ => ⟨S1x1024, .f32⟩
  | .hbm, ⟨9, _⟩ => ⟨S1, .f32⟩
  | .hbm, ⟨10, _⟩ => ⟨S_, .f32⟩
  | .hbm, ⟨11, _⟩ => ⟨S16x32x1024, .f32⟩
  | .hbm, ⟨12, _⟩ => ⟨S_, .f32⟩
  | .hbm, ⟨13, _⟩ => ⟨S16x32x1024, .f32⟩
  | .hbm, ⟨14, _⟩ => ⟨S16x32x1024, .f32⟩
  | .hbm, ⟨15, _⟩ => ⟨S16x32x2048, .f32⟩
  | .hbm, ⟨16, _⟩ => ⟨S2048x1, .f32⟩
  | .hbm, ⟨17, _⟩ => ⟨S16x32x1, .f32⟩
  | .hbm, ⟨18, _⟩ => ⟨S1x1x1, .f32⟩
  | .hbm, ⟨19, _⟩ => ⟨S16x32x1, .f32⟩
  | .hbm, ⟨20, _⟩ => ⟨S16x32x1, .f32⟩
  | .hbm, ⟨21, _⟩ => ⟨S16x32x1, .f32⟩
  | .hbm, ⟨22, _⟩ => ⟨S16x32x32, .f32⟩
  | .hbm, ⟨23, _⟩ => ⟨S16x32x32, .f32⟩
  | .hbm, ⟨24, _⟩ => ⟨S16x32x32, .f32⟩
  | .hbm, ⟨25, _⟩ => ⟨S16x32x32, .f32⟩
  | .hbm, ⟨26, _⟩ => ⟨S_, .f32⟩
  | .hbm, ⟨27, _⟩ => ⟨S16x32, .f32⟩
  | .hbm, ⟨28, _⟩ => ⟨S_, .f32⟩
  | .hbm, ⟨29, _⟩ => ⟨S16x32, .f32⟩
  | .hbm, ⟨30, _⟩ => ⟨S16x32, .f32⟩
  | .hbm, ⟨31, _⟩ => ⟨S16x32x1, .f32⟩
  | .hbm, ⟨32, _⟩ => ⟨S16x32x32, .f32⟩
  | .hbm, ⟨33, _⟩ => ⟨S16x32x32, .f32⟩
  | .hbm, ⟨34, _⟩ => ⟨S16x32x32, .f32⟩
  | .hbm, ⟨35, _⟩ => ⟨S_, .f32⟩
  | .hbm, ⟨36, _⟩ => ⟨S16x32, .f32⟩
  | .hbm, ⟨37, _⟩ => ⟨S16x32x1, .f32⟩
  | .hbm, ⟨38, _⟩ => ⟨S16x32x32, .f32⟩
  | .hbm, ⟨39, _⟩ => ⟨S16x32x32, .f32⟩
  | .hbm, ⟨40, _⟩ => ⟨S16x32x32x1, .f32⟩
  | .hbm, ⟨41, _⟩ => ⟨S16x32x32x1024, .f32⟩
  | .hbm, ⟨42, _⟩ => ⟨S16x32x32x1024, .f32⟩
  | .hbm, ⟨43, _⟩ => ⟨S_, .f32⟩
  | .hbm, ⟨44, _⟩ => ⟨S16x32x1024, .f32⟩
  | .hbm, ⟨45, _⟩ => ⟨S512x32, .i32⟩
  | .hbm, ⟨46, _⟩ => ⟨S512x32, .f32⟩
  | .hbm, ⟨47, _⟩ => ⟨S512, .i32⟩
  | .hbm, ⟨48, _⟩ => ⟨S512x1, .i32⟩
  | .hbm, ⟨49, _⟩ => ⟨S_, .f32⟩
  | .hbm, ⟨50, _⟩ => ⟨S512x42024, .f32⟩
  | .hbm, ⟨51, _⟩ => ⟨S_, .i32⟩
  | .hbm, ⟨52, _⟩ => ⟨S512x1, .i32⟩
  | .hbm, ⟨53, _⟩ => ⟨S512x1, .i1⟩
  | .hbm, ⟨54, _⟩ => ⟨S_, .i32⟩
  | .hbm, ⟨55, _⟩ => ⟨S512x1, .i32⟩
  | .hbm, ⟨56, _⟩ => ⟨S512x1, .i32⟩
  | .hbm, ⟨57, _⟩ => ⟨S512x1, .i32⟩
  | .hbm, ⟨58, _⟩ => ⟨S_, .i32⟩
  | .hbm, ⟨59, _⟩ => ⟨S512x32, .i32⟩
  | .hbm, ⟨60, _⟩ => ⟨S512x32, .i1⟩
  | .hbm, ⟨61, _⟩ => ⟨S_, .i32⟩
  | .hbm, ⟨62, _⟩ => ⟨S512x32, .i32⟩
  | .hbm, ⟨63, _⟩ => ⟨S512x32, .i32⟩
  | .hbm, ⟨64, _⟩ => ⟨S512x32, .i32⟩
  | .hbm, ⟨65, _⟩ => ⟨S512x32, .i32⟩
  | .hbm, ⟨66, _⟩ => ⟨S512x32x1, .i32⟩
  | .hbm, ⟨67, _⟩ => ⟨S512x32x1, .i32⟩
  | .hbm, ⟨68, _⟩ => ⟨S512x32x2, .i32⟩
  | .hbm, ⟨69, _⟩ => ⟨S512x42024, .f32⟩
  | .hbm, ⟨70, _⟩ => ⟨S16x32x42024, .f32⟩
  | .hbm, ⟨71, _⟩ => ⟨S16x32x2048, .f32⟩
  | .hbm, ⟨72, _⟩ => ⟨S2048x1024, .f32⟩
  | .hbm, ⟨73, _⟩ => ⟨S16x32x1024, .f32⟩
  | .hbm, ⟨74, _⟩ => ⟨S1x1x1024, .f32⟩
  | .hbm, ⟨75, _⟩ => ⟨S16x32x1024, .f32⟩
  | .hbm, ⟨76, _⟩ => ⟨S16x32x1024, .f32⟩
  | .hbm, ⟨77, _⟩ => ⟨S_, .f32⟩
  | .hbm, ⟨78, _⟩ => ⟨S16x32x1024, .f32⟩
  | .hbm, ⟨79, _⟩ => ⟨S16x32x1024, .f32⟩
  | .hbm, ⟨80, _⟩ => ⟨S1024x1, .f32⟩
  | .hbm, ⟨81, _⟩ => ⟨S16x32x1, .f32⟩
  | .hbm, ⟨82, _⟩ => ⟨S1x1x1, .f32⟩
  | .hbm, ⟨83, _⟩ => ⟨S16x32x1, .f32⟩
  | .hbm, ⟨84, _⟩ => ⟨S16x32x1, .f32⟩
  | .hbm, ⟨85, _⟩ => ⟨S16x32x1, .f32⟩
  | .hbm, ⟨86, _⟩ => ⟨S16x32x1, .f32⟩
  | .hbm, ⟨87, _⟩ => ⟨S_, .f32⟩
  | .hbm, ⟨88, _⟩ => ⟨S16x32x1, .f32⟩
  | .hbm, ⟨89, _⟩ => ⟨S16x32x1, .f32⟩
  | .hbm, ⟨90, _⟩ => ⟨S_, .f32⟩
  | .hbm, ⟨91, _⟩ => ⟨S16x32x1, .f32⟩
  | .hbm, ⟨92, _⟩ => ⟨S16x32x1, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_c : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call0_cst : Ref sig .tc := ⟨.hbm, 77, rfl⟩
abbrev main_call0_v0 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== Proof.Setup.lean ====
/-
  The kernel as the launch theorem sees it. The program's body table is the SparseCore call's over the three pipelined
  calls' (`K.defs D`), and the algebra of the proof has four components side by side: the rounds of the SparseCore
  handshakes (`EH`), the rounds of the pipelines' staging cells (`EP`), the write-mode cells (`EW`), the counters of the copies the tiles start
  themselves. Everything here is stated at any float values `F`; the two frames and the value claim are one run.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.WriteMode
public import Idealize.ShloMosaic.Lib.StableHlo.Run
public import Idealize.ShloMosaic.Lib.Pipeline.Kit
public import Idealize.ShloMosaic.Lib.Pipeline.FrameBody
public import Idealize.ShloMosaic.Lib.Pipeline.RegionsLoop
public import Idealize.ShloMosaic.Lib.Pipeline.FrameSuffix
public import Idealize.ShloMosaic.Lib.Tactic
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels of the pipelined calls, -/
abbrev ΛP : Labels := Pipeline.Sig Λ₀ (Fin 3) fun p => (pcfgs (F := F) p).Adm
/-- the SparseCore calls of the program (one), -/
abbrev K : SparseCore.Cfg τ sig (ΛP (F := F)) 1 := sc (F := F)
/-- and the body table beneath them. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] in
theorem nSub_zero [FloatOps F] : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the cells of elements several transfers write at once. -/
abbrev UH : Type := URounds (GSem nD τ sig) ℕ
abbrev UP : Type := URounds (GSem nD τ sig) Unit
abbrev UW (F : FTy → Type) : Type := WmRA nD τ sig (Elt F)
abbrev UU (F : FTy → Type) : Type := UH × (UP × (UW F × Counters))

local notation "𝕄" => MT nD τ sig (HIx 1) (Elt F) ℕ (UU F) ℕ

abbrev EH : Emb UH (MT nD τ sig (HIx 1) (Elt F) ℕ (UU F) ℕ) := embL
/-- The pipelines' rounds sit in the middle component. -/
def EP : Emb UP (MT nD τ sig (HIx 1) (Elt F) ℕ (UU F) ℕ) := (Emb.inl : Emb UP (UP × (UW F × Counters))).trans embR
instance EP_landsIn : (EP (F := F)).LandsIn (upEmb : UEmb _ (MT nD τ sig (HIx 1) (Elt F) ℕ (UU F) ℕ)) := by
  unfold EP embR; infer_instance

/-- The write-mode cells sit beside the counters. -/
def EW : UEmb (UW F) (UU F) := (UEmb.inl.trans UEmb.inr).trans UEmb.inr

/-- A pipelined call's invariant: the scoped buffers it does not stage its windows in, and the generator register. -/
def Inv {gr : Nat} {W : Nat} (spec : Fin W → Pipeline.WinSpec sig gr) (c : Dev nD) : sProp 𝕄 :=
  iprop(Pipeline.scopedRest spec c ∗ ∃ r, prngReg c r)

end Cert.Proof.Kern
-- ==== Proof.Body.lean ====
/-
  The tile's body, row by row. The printed body is cut into parts of sixty statements which do not line up with the
  sixteen rows a tile serves; it is, by computation, the two copies in, sixteen times one row's program, and the
  scatter out (`body_eq`).
-/
module

public import proofs.«01_k».proof.Proof.Setup

@[expose] public section

noncomputable section

namespace Cert.Proof.Kern

open Cert.KernelIdeal Cert.KernelIdeal.Gen
open Idealize.ShloMosaic Idealize.SL.Sem

variable {F : FTy → Type} [FloatOps F]

/-- A tile's copies of its words: ids, weights, target words and values, and the row buffer. -/
abbrev MI : Memref sig .scVector .vmem S512 .i32 := Memref.whole cc3_scratch0
abbrev MW : Memref sig .scVector .vmem S512 .f32 := Memref.whole cc3_scratch1
abbrev MX : Memref sig .scVector .vmem S512 .i32 := Memref.whole cc3_scratch2
abbrev MV : Memref sig .scVector .vmem S512 .f32 := Memref.whole cc3_scratch3
abbrev MB : Memref sig .scVector .vmem S42032 .f32 := Memref.whole cc3_scratch4

/-- The mask of lane `j`. -/
def maskAt (j : BitVec 32) : IVec S16 1 := cmpi .eq (iota .scVector S16 32 [0] iota_S16_d0_w32_scVector) (broadcast S16 j)

section Prog
/-- A program of the tile at the pair `i` of the call's grid. -/
abbrev PP (F : FTy → Type) (i : grid3.Coords) : Type → Type _ :=
  Prog (TpuEff nD τ sig (Elt F) Λ₀ (.scVector ((i 0).castLE hcore3) ((i 1).castLE hsub3)))

variable (i : grid3.Coords)

/-- The masked additions of one row, one lane at a time from each half. -/
def addsProg (iv0 iv1 : IVec S16 32) (w0 w1 : FVec F S16 .f32)
    (h0 : ∀ a x, ((![iv0] : Fin 1 → IVec S16 32) a x).toNat < S42032.size a) (h1 : ∀ a x, ((![iv1] : Fin 1 → IVec S16 32) a x).toNat < S42032.size a) :
    List (BitVec 32) → PP F i PUnit
  | [] => pure ⟨⟩
  | j :: js => do
    SparseCore.vectorStoreIdx MB ![iv0] w0 (maskAt j) true h0 (View.stores_vmem_bits_univ h_S42032 rfl)
    SparseCore.vectorStoreIdx MB ![iv1] w1 (maskAt j) true h1 (View.stores_vmem_bits_univ h_S42032 rfl)
    addsProg iv0 iv1 w0 w1 h0 h1 js

abbrev lanes : List (BitVec 32) := [0#32, 1#32, 2#32, 3#32, 4#32, 5#32, 6#32, 7#32, 8#32, 9#32, 10#32, 11#32, 12#32, 13#32, 14#32, 15#32]

/-- The tile's first row. -/
def base : BitVec 32 := Scalar.muli (Scalar.addi (Scalar.muli (BitVec.ofNat 32 (i 1).val) 2#32) (BitVec.ofNat 32 (i 0).val)) 16#32

/-- One row: read its ids and weights, zero the words the ids name, add the weights lane by lane, read the sums back
    and put the target words and the sums down for the scatter. -/
def rowProg (r : BitVec 32) (o0 o1 : Nat) (b0 : ∀ a, (![o0] : Fin 1 → Nat) a + S16.size a ≤ S512.size a)
    (b1 : ∀ a, (![o1] : Fin 1 → Nat) a + S16.size a ≤ S512.size a) : PP F i PUnit := do
  let iv0 : Vec F S16 .i32 ← Prog.lift (.load MI (Rect.unit (s := S512) ![o0] S16.size b0).toLoadRect (View.loadsAt_vmem h_S16))
  have hw0 : k3_chk1 iv0 := (← Prog.lift (TpuEff.assume (k3_chk1 iv0) (k3_chk1.dec iv0))).down
  let iv1 : Vec F S16 .i32 ← Prog.lift (.load MI (Rect.unit (s := S512) ![o1] S16.size b1).toLoadRect (View.loadsAt_vmem h_S16))
  have hw1 : k3_chk1 iv1 := (← Prog.lift (TpuEff.assume (k3_chk1 iv1) (k3_chk1.dec iv1))).down
  let w0 : Vec F S16 .f32 ← Prog.lift (.load MW (Rect.unit (s := S512) ![o0] S16.size b0).toLoadRect (View.loadsAt_vmem h_S16))
  let w1 : Vec F S16 .f32 ← Prog.lift (.load MW (Rect.unit (s := S512) ![o1] S16.size b1).toLoadRect (View.loadsAt_vmem h_S16))
  SparseCore.vectorStoreIdx MB ![iv0] (broadcast S16 (Scalar.ofBits .f32 0x00000000#32)) (fun _ => 1#1) false hw0.1 (View.stores_vmem_bits_univ h_S42032 rfl)
  SparseCore.vectorStoreIdx MB ![iv1] (broadcast S16 (Scalar.ofBits .f32 0x00000000#32)) (fun _ => 1#1) false hw1.1 (View.stores_vmem_bits_univ h_S42032 rfl)
  addsProg i iv0 iv1 w0 w1 hw0.1 hw1.1 lanes
  let g0 : Vec F S16 .f32 ← SparseCore.vectorLoadIdx MB ![iv0] hw0.1 (View.loads_vmem h_S42032)
  let g1 : Vec F S16 .f32 ← SparseCore.vectorLoadIdx MB ![iv1] hw1.1 (View.loads_vmem h_S42032)
  let _x0 : Vec F S16 .i32 ← Prog.lift (.load MX (Rect.unit (s := S512) ![o0] S16.size b0).toLoadRect (View.loadsAt_vmem h_S16))
  Prog.lift (.store MX (Rect.unit (s := S512) ![o0] S16.size b0) (addi iv0 (broadcast S16 (Scalar.muli (Scalar.addi (base i) r) 42024#32))) Finset.univ (View.stores_vmem_bits_univ h_S16 rfl) (.inl rfl))
  let _x1 : Vec F S16 .i32 ← Prog.lift (.load MX (Rect.unit (s := S512) ![o1] S16.size b1).toLoadRect (View.loadsAt_vmem h_S16))
  Prog.lift (.store MX (Rect.unit (s := S512) ![o1] S16.size b1) (addi iv1 (broadcast S16 (Scalar.muli (Scalar.addi (base i) r) 42024#32))) Finset.univ (View.stores_vmem_bits_univ h_S16 rfl) (.inl rfl))
  let _y0 : Vec F S16 .f32 ← Prog.lift (.load MV (Rect.unit (s := S512) ![o0] S16.size b0).toLoadRect (View.loadsAt_vmem h_S16))
  Prog.lift (.store MV (Rect.unit (s := S512) ![o0] S16.size b0) g0 Finset.univ (View.stores_vmem_bits_univ h_S16 rfl) (.inl rfl))
  let _y1 : Vec F S16 .f32 ← Prog.lift (.load MV (Rect.unit (s := S512) ![o1] S16.size b1).toLoadRect (View.loadsAt_vmem h_S16))
  Prog.lift (.store MV (Rect.unit (s := S512) ![o1] S16.size b1) g1 Finset.univ (View.stores_vmem_bits_univ h_S16 rfl) (.inl rfl))

/-- The two copies that bring the tile's ids and weights in. -/
def copiesProg : PP F i PUnit := do
  Prog.lift (.enqueueDma ((Memref.whole main_v10_scv : Memref sig .scVector .hbm S16384 .i32).slice (Rect.unit (s := S16384) (k3_off1 i) S512.size (k3_off1_inb i)) (fun _ => rfl)) (.here MI) (.dma cc3_scoped0.sem) (View.wordExact_bits rfl) (Memref.isWhole_whole _).wordExact ⟨Or.inl rfl, trivial⟩)
  Prog.lift (.waitDma2 cc3_scoped0.sem ((Memref.whole main_v10_scv : Memref sig .scVector .hbm S16384 .i32).slice (Rect.unit (s := S16384) (k3_off1 i) S512.size (k3_off1_inb i)) (fun _ => rfl)) MI (View.wordExact_bits rfl) (Memref.isWhole_whole _).wordExact)
  Prog.lift (.enqueueDma ((Memref.whole main_v11_scv : Memref sig .scVector .hbm S16384 .f32).slice (Rect.unit (s := S16384) (k3_off1 i) S512.size (k3_off1_inb i)) (fun _ => rfl)) (.here MW) (.dma cc3_scoped1.sem) (View.wordExact_bits rfl) (Memref.isWhole_whole _).wordExact ⟨Or.inl rfl, trivial⟩)
  Prog.lift (.waitDma2 cc3_scoped1.sem ((Memref.whole main_v11_scv : Memref sig .scVector .hbm S16384 .f32).slice (Rect.unit (s := S16384) (k3_off1 i) S512.size (k3_off1_inb i)) (fun _ => rfl)) MW (View.wordExact_bits rfl) (Memref.isWhole_whole _).wordExact)

/-- The target's memref as the scatter names it. -/
abbrev MT' : Memref sig .scVector .hbm S21516288 .f32 :=
  (Memref.whole main_v12_scv : Memref sig .scVector .hbm S21516288 .f32).slice (Rect.unit (s := S21516288) ![0] S21516288.size inb_S21516288_S21516288_0) (fun _ => rfl)

/-- The scatter out. -/
def outProg : PP F i PUnit := do
  SparseCore.enqueueIndirectScatter rfl MV MT' gathers_S21516288_S512 MX rfl cc3_scratch5.sem rfl (Or.inl rfl)
  SparseCore.waitIndirectScatter cc3_scratch5.sem MV MT' (Memref.isWhole_whole _).wordExact (View.wordExact_bits rfl)

def bodyProg : PP F i PUnit := do
  copiesProg i
  rowProg i 0#32 0 16 inb_S512_S16_0 inb_S512_S16_16
  rowProg i 1#32 32 48 inb_S512_S16_32 inb_S512_S16_48
  rowProg i 2#32 64 80 inb_S512_S16_64 inb_S512_S16_80
  rowProg i 3#32 96 112 inb_S512_S16_96 inb_S512_S16_112
  rowProg i 4#32 128 144 inb_S512_S16_128 inb_S512_S16_144
  rowProg i 5#32 160 176 inb_S512_S16_160 inb_S512_S16_176
  rowProg i 6#32 192 208 inb_S512_S16_192 inb_S512_S16_208
  rowProg i 7#32 224 240 inb_S512_S16_224 inb_S512_S16_240
  rowProg i 8#32 256 272 inb_S512_S16_256 inb_S512_S16_272
  rowProg i 9#32 288 304 inb_S512_S16_288 inb_S512_S16_304
  rowProg i 10#32 320 336 inb_S512_S16_320 inb_S512_S16_336
  rowProg i 11#32 352 368 inb_S512_S16_352 inb_S512_S16_368
  rowProg i 12#32 384 400 inb_S512_S16_384 inb_S512_S16_400
  rowProg i 13#32 416 432 inb_S512_S16_416 inb_S512_S16_432
  rowProg i 14#32 448 464 inb_S512_S16_448 inb_S512_S16_464
  rowProg i 15#32 480 496 inb_S512_S16_480 inb_S512_S16_496
  outProg i

end Prog

set_option maxRecDepth 1000000 in
set_option maxHeartbeats 0 in
/-- The printed body is the rows' program. -/
theorem body_eq (i : grid3.Coords) (h2 h3 h4 h5 h6 h7 h8 h9 h10) :
    cc3__sc_body (F := F) i (Memref.whole main_v12_scv) h2 (Memref.whole main_v10_scv) h3 (Memref.whole main_v11_scv) h4
      (Memref.whole main_v12_scv) h5 (Memref.whole cc3_scratch0) h6 (Memref.whole cc3_scratch1) h7 (Memref.whole cc3_scratch2) h8
      (Memref.whole cc3_scratch3) h9 (Memref.whole cc3_scratch4) h10 cc3_scratch5 cc3_scoped0 cc3_scoped1 = bodyProg i := rfl

end Cert.Proof.Kern
-- ==== Proof.RowValue.lean ====
/-
  What one row's indexed stores leave in the row buffer, as plain functions. A row has thirty-two ids in two vectors of
  sixteen; the words the ids name are zeroed, then lane by lane the weight of the first half's lane and of the second
  half's is added at the word its id names. At a word some id names the buffer ends holding `rowSum`, whatever it
  held before.
-/
module

public import proofs.«01_k».proof.Proof.Body

@[expose] public section

noncomputable section

namespace Cert.Proof.Kern

open Cert.KernelIdeal Cert.KernelIdeal.Gen
open Idealize.ShloMosaic

variable {F : FTy → Type} [FloatOps F]

/-- Lane `j` of a vector of sixteen. -/
abbrev ln (j : Fin 16) : S16.Idx := Shape.ofLane (d := ![16]) j

/-- A running sum with lane `j`'s weight added if the lane's id is `p`. -/
def addLane (iv : IVec S16 32) (w : FVec F S16 .f32) (p : ℕ) (j : Fin 16) (a : F .f32) : F .f32 :=
  if (iv (ln j)).toNat = p then FloatOps.idxAddf a (w (ln j)) else a

/-- The sum of the weights whose id is `p`, in the order the lanes are added. -/
def rowSum (iv0 iv1 : IVec S16 32) (w0 w1 : FVec F S16 .f32) (p : ℕ) : F .f32 :=
  (List.finRange 16).foldl (fun a j => addLane iv1 w1 p j (addLane iv0 w0 p j a)) (Scalar.ofBits .f32 0x00000000#32)

theorem idxAt_iff (iv : IVec S16 32) (h : ∀ a x, ((![iv] : Fin 1 → IVec S16 32) a x).toNat < S42032.size a) (x : S16.Idx) (y : S42032.Idx) :
    (∀ a, (y a).val = (idxAt (![iv] : Fin 1 → IVec S16 32) h x a).val) ↔ (iv x).toNat = (y 0).val :=
  ⟨fun hh => (hh 0).symm, fun hh a => by obtain rfl : a = 0 := Subsingleton.elim _ _; exact hh.symm⟩

/-- Mask `j` has lane `j` alone. -/
theorem maskAt_iff : ∀ j k : Fin 16, maskAt (BitVec.ofNat 32 j.val) (ln k) = 1 ↔ k = j := by
  intro j k
  have h : maskAt (BitVec.ofNat 32 j.val) (ln k) = IntOp.cmpi .eq (BitVec.ofNat 32 (0 * 16 + k.val)) (BitVec.ofNat 32 j.val) := rfl
  rw [h]
  revert j k
  decide

/-- A fold that acts at one member of its list alone. -/
theorem foldl_one {α β : Type} (j : β) (g : α → α) (step : α → β → α) (hj : ∀ a, step a j = g a) (hn : ∀ a k, k ≠ j → step a k = a) :
    ∀ (l : List β), l.Nodup → ∀ a, (j ∈ l → l.foldl step a = g a) ∧ (j ∉ l → l.foldl step a = a)
  | [], _, a => ⟨fun h => absurd h List.not_mem_nil, fun _ => rfl⟩
  | k :: l, hl, a => by
    obtain ⟨hk, hl⟩ := List.nodup_cons.mp hl
    refine ⟨fun h => ?_, fun h => ?_⟩
    · by_cases e : k = j
      · subst e
        rw [List.foldl_cons, hj]; exact (foldl_one k g step hj hn l hl _).2 hk
      · rw [List.foldl_cons, hn _ _ e]
        exact (foldl_one j g step hj hn l hl _).1 ((List.mem_cons.mp h).resolve_left fun h => e h.symm)
    · have e : k ≠ j := fun e => h (e ▸ List.mem_cons_self)
      rw [List.foldl_cons, hn _ _ e]
      exact (foldl_one j g step hj hn l hl _).2 fun h' => h (List.mem_cons_of_mem _ h')

/-- A masked add at lane `j` alone. -/
theorem storeIdx_lane (f : FVec F S42032 .f32) (iv : IVec S16 32) (w : FVec F S16 .f32) (j : Fin 16)
    (h : ∀ a x, ((![iv] : Fin 1 → IVec S16 32) a x).toNat < S42032.size a) (y : S42032.Idx) :
    storeIdx (F := F) (e := .f32) f ![iv] w (maskAt (BitVec.ofNat 32 j.val)) true h y = addLane iv w (y 0).val j (f y) := by
  unfold storeIdx
  refine (congrFun ((foldl_one j (fun g y => addLane iv w (y 0).val j (g y)) _ ?_ ?_ _ (List.nodup_finRange _) f).1 (List.mem_finRange _)) y)
  · intro a
    have hm := (maskAt_iff j j).mpr rfl
    funext y
    simp only [hm, ↓reduceIte]
    unfold addLane
    by_cases hy : (iv (ln j)).toNat = (y 0).val
    · rw [if_pos ((idxAt_iff iv h _ y).mpr hy), if_pos hy, Elt.idxAdd_f32]
      congr 1
      congr 1
      funext a; exact Fin.ext ((idxAt_iff iv h _ y).mpr hy a).symm
    · rw [if_neg fun hh => hy ((idxAt_iff iv h _ y).mp hh), if_neg hy]
  · intro a k hk
    have hm : ¬ maskAt (BitVec.ofNat 32 j.val) (Shape.ofLane k) = 1 := fun h => hk ((maskAt_iff j k).mp h)
    simp only [hm, ↓reduceIte]

/-- An unmasked store of one value: at the words named, that value; elsewhere what was there. -/
theorem storeIdx_const (f : FVec F S42032 .f32) (iv : IVec S16 32) (z : F .f32)
    (h : ∀ a x, ((![iv] : Fin 1 → IVec S16 32) a x).toNat < S42032.size a) (y : S42032.Idx) :
    storeIdx (F := F) (e := .f32) f ![iv] (broadcast S16 z) (fun _ => 1#1) false h y
      = if ∃ k : Fin 16, (iv (ln k)).toNat = (y 0).val then z else f y := by
  have key : ∀ (l : List (Fin 16)) (f : FVec F S42032 .f32),
      (l.foldl (fun (g : FVec F S42032 .f32) k => fun y => if ∀ a, (y a).val = (idxAt (![iv] : Fin 1 → IVec S16 32) h (ln k) a).val then z else g y) f) y
        = if ∃ k ∈ l, (iv (ln k)).toNat = (y 0).val then z else f y := by
    intro l
    induction l with
    | nil => intro f; simp
    | cons k l ih =>
      intro f
      rw [List.foldl_cons, ih]
      by_cases hl : ∃ k ∈ l, (iv (ln k)).toNat = (y 0).val
      · obtain ⟨k', hk', e⟩ := hl
        rw [if_pos ⟨k', hk', e⟩, if_pos ⟨k', List.mem_cons_of_mem _ hk', e⟩]
      · rw [if_neg hl]
        by_cases hk : (iv (ln k)).toNat = (y 0).val
        · rw [if_pos ((idxAt_iff iv h _ y).mpr hk), if_pos ⟨k, List.mem_cons_self, hk⟩]
        · rw [if_neg fun hh => hk ((idxAt_iff iv h _ y).mp hh), if_neg]
          rintro ⟨k', hk', e⟩
          rcases List.mem_cons.mp hk' with rfl | hk'
          · exact hk e
          · exact hl ⟨k', hk', e⟩
  refine Eq.trans ?_ ((key (List.finRange 16) f).trans ?_)
  · unfold storeIdx
    simp only [↓reduceIte, Bool.false_eq_true]
    rfl
  · simp only [List.mem_finRange, true_and]

/-- The buffer after the masked additions of a list of lanes. -/
def bufAdds (iv0 iv1 : IVec S16 32) (w0 w1 : FVec F S16 .f32)
    (h0 : ∀ a x, ((![iv0] : Fin 1 → IVec S16 32) a x).toNat < S42032.size a) (h1 : ∀ a x, ((![iv1] : Fin 1 → IVec S16 32) a x).toNat < S42032.size a)
    (js : List (BitVec 32)) (B : FVec F S42032 .f32) : FVec F S42032 .f32 :=
  js.foldl (fun B j => storeIdx (F := F) (e := .f32) (storeIdx (F := F) (e := .f32) B ![iv0] w0 (maskAt j) true h0) ![iv1] w1 (maskAt j) true h1) B

/-- The buffer with the words the row's ids name zeroed. -/
def bufZero (iv0 iv1 : IVec S16 32)
    (h0 : ∀ a x, ((![iv0] : Fin 1 → IVec S16 32) a x).toNat < S42032.size a) (h1 : ∀ a x, ((![iv1] : Fin 1 → IVec S16 32) a x).toNat < S42032.size a)
    (B : FVec F S42032 .f32) : FVec F S42032 .f32 :=
  storeIdx (F := F) (e := .f32) (storeIdx (F := F) (e := .f32) B ![iv0] (broadcast S16 (Scalar.ofBits .f32 0x00000000#32)) (fun _ => 1#1) false h0)
    ![iv1] (broadcast S16 (Scalar.ofBits .f32 0x00000000#32)) (fun _ => 1#1) false h1

/-- The 32 masked adds, at a word: lane by lane, each weight whose id names it is added to what it held. -/
theorem bufAdds_apply (iv0 iv1 : IVec S16 32) (w0 w1 : FVec F S16 .f32) (h0) (h1) (y : S42032.Idx) (B : FVec F S42032 .f32) :
    bufAdds iv0 iv1 w0 w1 h0 h1 lanes B y
      = (List.finRange 16).foldl (fun a j => addLane iv1 w1 (y 0).val j (addLane iv0 w0 (y 0).val j a)) (B y) := by
  have hl : lanes = (List.finRange 16).map fun j => BitVec.ofNat 32 j.val := by decide
  have key : ∀ (l : List (Fin 16)) (B : FVec F S42032 .f32), bufAdds iv0 iv1 w0 w1 h0 h1 (l.map fun j => BitVec.ofNat 32 j.val) B y
      = l.foldl (fun a j => addLane iv1 w1 (y 0).val j (addLane iv0 w0 (y 0).val j a)) (B y) := by
    intro l
    induction l with
    | nil => intro B; rfl
    | cons j l ih =>
      intro B
      rw [List.foldl_cons]
      refine (ih _).trans ?_
      dsimp only
      rw [storeIdx_lane, storeIdx_lane]
  rw [hl]; exact key _ B

/-- At a word one of the row's ids names, the buffer ends with the row's sum there. -/
theorem buf_rowSum (iv0 iv1 : IVec S16 32) (w0 w1 : FVec F S16 .f32) (h0) (h1) (B : FVec F S42032 .f32) (y : S42032.Idx)
    (hy : (∃ k : Fin 16, (iv0 (ln k)).toNat = (y 0).val) ∨ ∃ k : Fin 16, (iv1 (ln k)).toNat = (y 0).val) :
    bufAdds iv0 iv1 w0 w1 h0 h1 lanes (bufZero iv0 iv1 h0 h1 B) y = rowSum iv0 iv1 w0 w1 (y 0).val := by
  rw [bufAdds_apply]
  unfold rowSum
  congr 1
  unfold bufZero
  rw [storeIdx_const, storeIdx_const]
  split
  · rfl
  · rename_i hn; rw [if_pos (hy.resolve_right hn)]

theorem ln_eta (x : S16.Idx) : ln (x 0) = x := by
  funext a; obtain rfl : a = 0 := Subsingleton.elim _ _; rfl

/-- What the two reads after the additions fetch: each lane its id's sum. -/
theorem load_rowSum0 (iv0 iv1 : IVec S16 32) (w0 w1 : FVec F S16 .f32) (h0) (h1) (B : FVec F S42032 .f32) :
    loadIdx (F := F) (e := .f32) (bufAdds iv0 iv1 w0 w1 h0 h1 lanes (bufZero iv0 iv1 h0 h1 B)) ![iv0] h0
      = fun x => rowSum iv0 iv1 w0 w1 (iv0 x).toNat := by
  funext x
  exact buf_rowSum iv0 iv1 w0 w1 h0 h1 B _ (.inl ⟨x 0, by rw [ln_eta]; rfl⟩)

theorem load_rowSum1 (iv0 iv1 : IVec S16 32) (w0 w1 : FVec F S16 .f32) (h0) (h1) (B : FVec F S42032 .f32) :
    loadIdx (F := F) (e := .f32) (bufAdds iv0 iv1 w0 w1 h0 h1 lanes (bufZero iv0 iv1 h0 h1 B)) ![iv1] h1
      = fun x => rowSum iv0 iv1 w0 w1 (iv1 x).toNat := by
  funext x
  exact buf_rowSum iv0 iv1 w0 w1 h0 h1 B _ (.inr ⟨x 0, by rw [ln_eta]; rfl⟩)

end Cert.Proof.Kern
-- ==== Proof.Row.lean ====
/-
  One row of a tile, as a step of its program: the tile holds its ids and weights, has put down the target words and
  the sums of the rows before, and goes on with those of this row put down too. The row buffer may hold anything
  before and holds something after.
-/
module

public import proofs.«01_k».proof.Proof.RowValue
public import Idealize.ShloMosaic.Lib.Pipeline.Value

@[expose] public section

noncomputable section

namespace Cert.Proof.Kern

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- The position `n` of a list of 512. -/
def at512 (n : ℕ) : S512.Idx := fun a => ⟨n % 512, by obtain rfl : a = 0 := Subsingleton.elim _ _; exact Nat.mod_lt _ (by decide)⟩

/-- Lane `n` of a vector of sixteen. -/
def lane16 (n : ℕ) : S16.Idx := fun a => ⟨n % 16, by obtain rfl : a = 0 := Subsingleton.elim _ _; exact Nat.mod_lt _ (by decide)⟩

/-- The sixteen words of a list from `o` on. -/
def cut16 {α : Type} (f : S512.Idx → α) (o : ℕ) : S16.Idx → α := fun x => f (at512 (o + (x 0).val))

/-- What the tile puts down as target words: the id moved to its row of the flat result. -/
def tgtWord (i : grid3.Coords) (fI : IVec S512 32) (k : S512.Idx) : BitVec 32 :=
  fI k + (base i + BitVec.ofNat 32 ((k 0).val / 32)) * 42024#32

/-- What it puts down as values: the sum, over the entry's row, of the weights with the entry's id. -/
def tgtSum (fI : IVec S512 32) (fW : FVec F S512 .f32) (k : S512.Idx) : F .f32 :=
  rowSum (cut16 fI (32 * ((k 0).val / 32))) (cut16 fI (32 * ((k 0).val / 32) + 16))
    (cut16 fW (32 * ((k 0).val / 32))) (cut16 fW (32 * ((k 0).val / 32) + 16)) (fI k).toNat

theorem at512_self (k : S512.Idx) : at512 (k 0).val = k := by
  funext a; obtain rfl : a = 0 := Subsingleton.elim _ _
  exact Fin.ext (Nat.mod_eq_of_lt (k 0).isLt)

section Reads
variable (d : Dev nD) (i : grid3.Coords)

/-- The tile of the pair `i`. -/
abbrev thr : Thread nD τ := (d, .scVector ((i 0).castLE hcore3) ((i 1).castLE hsub3))

theorem idx_unit (o : ℕ) (b : ∀ a, (![o] : Fin 1 → Nat) a + S16.size a ≤ S512.size a) (x : S16.Idx) :
    (Rect.unit (s := S512) ![o] S16.size b).toLoadRect.idx x = at512 (o + (x 0).val) := by
  funext a; obtain rfl : a = 0 := Subsingleton.elim _ _
  apply Fin.ext
  rw [LoadRect.idx_apply]
  show o + 1 * (x 0).val = (o + (x 0).val) % 512
  have hb : o + 16 ≤ 512 := b 0
  have hx : (x 0).val < 16 := (x 0).isLt
  rw [Nat.mod_eq_of_lt (by omega)]; omega

theorem read_MI (o : ℕ) (b : ∀ a, (![o] : Fin 1 → Nat) a + S16.size a ≤ S512.size a) (f : IVec S512 32) :
    (MI.view.readAt (Elt F) (Rect.unit (s := S512) ![o] S16.size b).toLoadRect f : IVec S16 32) = cut16 f o := by
  funext x
  rw [View.readAt_apply, idx_unit]; rfl

theorem read_MW (o : ℕ) (b : ∀ a, (![o] : Fin 1 → Nat) a + S16.size a ≤ S512.size a) (f : FVec F S512 .f32) :
    (MW.view.readAt (Elt F) (Rect.unit (s := S512) ![o] S16.size b).toLoadRect f : FVec F S16 .f32) = cut16 f o := by
  funext x
  rw [View.readAt_apply, idx_unit]; rfl

/-- Sixteen words written at `o`. -/
theorem write_MX (o : ℕ) (b : ∀ a, (![o] : Fin 1 → Nat) a + S16.size a ≤ S512.size a) (f : IVec S512 32) (w : IVec S16 32) (k : S512.Idx) :
    ((MX.access (Rect.unit (s := S512) ![o] S16.size b)).write (Elt F) f w Finset.univ : IVec S512 32) k
      = if o ≤ (k 0).val ∧ (k 0).val < o + 16 then w (lane16 ((k 0).val - o)) else f k := by
  have e := congrFun (View.write_whole_slice_unit (Val := Elt F) (cc3_scratch2 : Ref sig .scVector) ![o] S16.size b f w) k
  refine e.trans ?_
  unfold updateSlice
  by_cases h : o ≤ (k 0).val ∧ (k 0).val < o + 16
  · refine (dif_pos (fun a : Fin 1 => by obtain rfl : a = 0 := Subsingleton.elim _ _; exact h)).trans (Eq.trans ?_ (if_pos h).symm)
    refine congrArg w (funext fun (a : Fin 1) => ?_)
    obtain rfl : a = 0 := Subsingleton.elim _ _
    exact Fin.ext (Nat.mod_eq_of_lt (by omega : (k 0).val - o < 16)).symm
  · exact (dif_neg fun hh => h (hh 0)).trans (if_neg h).symm

theorem write_MV (o : ℕ) (b : ∀ a, (![o] : Fin 1 → Nat) a + S16.size a ≤ S512.size a) (f : FVec F S512 .f32) (w : FVec F S16 .f32) (k : S512.Idx) :
    ((MV.access (Rect.unit (s := S512) ![o] S16.size b)).write (Elt F) f w Finset.univ : FVec F S512 .f32) k
      = if o ≤ (k 0).val ∧ (k 0).val < o + 16 then w (lane16 ((k 0).val - o)) else f k := by
  have e := congrFun (View.write_whole_slice_unit (Val := Elt F) (cc3_scratch3 : Ref sig .scVector) ![o] S16.size b f w) k
  refine e.trans ?_
  unfold updateSlice
  by_cases h : o ≤ (k 0).val ∧ (k 0).val < o + 16
  · refine (dif_pos (fun a : Fin 1 => by obtain rfl : a = 0 := Subsingleton.elim _ _; exact h)).trans (Eq.trans ?_ (if_pos h).symm)
    refine congrArg w (funext fun (a : Fin 1) => ?_)
    obtain rfl : a = 0 := Subsingleton.elim _ _
    exact Fin.ext (Nat.mod_eq_of_lt (by omega : (k 0).val - o < 16)).symm
  · exact (dif_neg fun hh => h (hh 0)).trans (if_neg h).symm

end Reads

/-- A list of 512 that agrees with `t` before `n`, given sixteen more of `t` at `n`, agrees before `n + 16`. -/
theorem agree_step {α : Type} (t f f' : S512.Idx → α) (n : ℕ) (w : S16.Idx → α) (hf : ∀ k : S512.Idx, (k 0).val < n → f k = t k)
    (hw : ∀ x : S16.Idx, n + (x 0).val < 512 → w x = t (at512 (n + (x 0).val)))
    (hf' : ∀ k : S512.Idx, f' k = if n ≤ (k 0).val ∧ (k 0).val < n + 16 then w (lane16 ((k 0).val - n)) else f k) :
    ∀ k : S512.Idx, (k 0).val < n + 16 → f' k = t k := by
  intro k hk
  rw [hf' k]
  by_cases h : n ≤ (k 0).val
  · have hk5 : (k 0).val < 512 := (k 0).isLt
    have hl : (lane16 ((k 0).val - n) 0).val = (k 0).val - n := Nat.mod_eq_of_lt (by omega : (k 0).val - n < 16)
    rw [if_pos ⟨h, hk⟩, hw _ (by rw [hl]; omega), hl, show n + ((k 0).val - n) = (k 0).val by omega, at512_self]
  · rw [if_neg fun hh => h hh.1]
    exact hf k (by omega)

section Steps
variable (d : Dev nD) (i : grid3.Coords)

/-- What the tile holds between two rows: ids and weights as they came, the target words and sums of the first `n`
    entries put down, the row buffer with something in it. -/
def rowInv (fI : IVec S512 32) (fW : FVec F S512 .f32) (n : ℕ) : sProp 𝕄 :=
  iprop((MI.view.loc (thr d i) ↦[Finset.univ]{fullShare} (fI : Buf (Elt F) (MI.view.loc (thr d i))))
    ∗ (MW.view.loc (thr d i) ↦[Finset.univ]{fullShare} (fW : Buf (Elt F) (MW.view.loc (thr d i))))
    ∗ (∃ fX : IVec S512 32, ⌜∀ k : S512.Idx, (k 0).val < n → fX k = tgtWord i fI k⌝
        ∗ (MX.view.loc (thr d i) ↦[Finset.univ]{fullShare} (fX : Buf (Elt F) (MX.view.loc (thr d i)))))
    ∗ (∃ fV : FVec F S512 .f32, ⌜∀ k : S512.Idx, (k 0).val < n → fV k = tgtSum fI fW k⌝
        ∗ (MV.view.loc (thr d i) ↦[Finset.univ]{fullShare} (fV : Buf (Elt F) (MV.view.loc (thr d i)))))
    ∗ ∃ fB : FVec F S42032 .f32, MB.view.loc (thr d i) ↦[Finset.univ]{fullShare} (fB : Buf (Elt F) (MB.view.loc (thr d i))))

/-- An indexed store, over the whole row buffer. -/
theorem wp_bufStore {α : Type} {Q : α → sProp 𝕄} (iv : IVec S16 32) (w : FVec F S16 .f32) (mask : IVec S16 1) (add : Bool)
    (h : ∀ a x, ((![iv] : Fin 1 → IVec S16 32) a x).toNat < S42032.size a) (hs : (MB.access (.whole S42032)).Stores Finset.univ)
    (k : PUnit → PP F i α) (fB : FVec F S42032 .f32) :
    (MB.view.loc (thr d i) ↦[Finset.univ]{fullShare} (fB : Buf (Elt F) (MB.view.loc (thr d i))) : sProp 𝕄)
      ⊢ iprop(((MB.view.loc (thr d i) ↦[Finset.univ]{fullShare} ((storeIdx (F := F) (e := .f32) fB ![iv] w mask add h : FVec F S42032 .f32) : Buf (Elt F) (MB.view.loc (thr d i))))
          -∗ wp frame (wpE (defs₀ (F := F)) 𝒱₀ (thr d i) none) Set.univ (k ⟨⟩) Q)
        -∗ wp frame (wpE (defs₀ (F := F)) 𝒱₀ (thr d i) none) Set.univ (SparseCore.vectorStoreIdx MB ![iv] w mask add h hs >>= k) Q) := by
  have e : ∀ f : FVec F S42032 .f32, (((MB.access (.whole S42032)).loc (thr d i) ↦[(MB.access (.whole S42032)).set]{fullShare} (f : Buf (Elt F) (MB.view.loc (thr d i)))) : sProp 𝕄)
      = (MB.view.loc (thr d i) ↦[Finset.univ]{fullShare} (f : Buf (Elt F) (MB.view.loc (thr d i)))) := fun f => by
    rw [show (MB.access (.whole S42032)).set = Finset.univ from Memref.set_access_whole (cc3_scratch4 : Ref sig .scVector)]
  have r := SparseCore.wp_vectorStoreIdx (defs := defs₀ (F := F)) 𝒱₀ (thr d i) none Set.univ (Q := Q) (base := MB) (idxs := ![iv]) (v := w) (mask := mask)
    (add := add) (h := h) (hs := hs) (k := k) (f := (fB : Buf (Elt F) (MB.view.loc (thr d i))))
  rw [show (MB.access (.whole S42032)).read (Elt F) fB = fB from Memref.read_access_whole (Elt F) (cc3_scratch4 : Ref sig .scVector) fB,
    show (MB.access (.whole S42032)).write (Elt F) fB (storeIdx (F := F) (e := .f32) fB ![iv] w mask add h) Finset.univ = storeIdx (F := F) (e := .f32) fB ![iv] w mask add h
      from Memref.write_access_whole_univ (Elt F) (cc3_scratch4 : Ref sig .scVector) fB _] at r
  rw [← e fB, ← e (storeIdx (F := F) (e := .f32) fB ![iv] w mask add h)]
  exact r

/-- An indexed load of the row buffer. -/
theorem wp_bufLoad {α : Type} {Q : α → sProp 𝕄} (iv : IVec S16 32)
    (h : ∀ a x, ((![iv] : Fin 1 → IVec S16 32) a x).toNat < S42032.size a) (hl : MB.view.Loads)
    (k : Vec F S16 .f32 → PP F i α) (fB : FVec F S42032 .f32) :
    (MB.view.loc (thr d i) ↦[Finset.univ]{fullShare} (fB : Buf (Elt F) (MB.view.loc (thr d i))) : sProp 𝕄)
      ⊢ iprop(((MB.view.loc (thr d i) ↦[Finset.univ]{fullShare} (fB : Buf (Elt F) (MB.view.loc (thr d i))))
          -∗ wp frame (wpE (defs₀ (F := F)) 𝒱₀ (thr d i) none) Set.univ (k (loadIdx (F := F) (e := .f32) fB ![iv] h)) Q)
        -∗ wp frame (wpE (defs₀ (F := F)) 𝒱₀ (thr d i) none) Set.univ (SparseCore.vectorLoadIdx MB ![iv] h hl >>= k) Q) := by
  have r := SparseCore.wp_vectorLoadIdx (defs := defs₀ (F := F)) 𝒱₀ (thr d i) none Set.univ (Q := Q) (base := MB) (idxs := ![iv])
    (h := h) (hl := hl) (k := k) (S := Finset.univ) (q := fullShare) (f := (fB : Buf (Elt F) (MB.view.loc (thr d i)))) (Finset.subset_univ _)
  rw [show (MB.access (.whole S42032)).read (Elt F) fB = fB from Memref.read_access_whole (Elt F) (cc3_scratch4 : Ref sig .scVector) fB] at r
  exact r

/-- A store of sixteen words into the list of target words. -/
theorem wp_putMX {α : Type} {Q : α → sProp 𝕄} (o : ℕ) (b : ∀ a, (![o] : Fin 1 → Nat) a + S16.size a ≤ S512.size a) (w : IVec S16 32)
    (hx) (hm) (k : PUnit → PP F i α) (f : IVec S512 32) :
    (MX.view.loc (thr d i) ↦[Finset.univ]{fullShare} (f : Buf (Elt F) (MX.view.loc (thr d i))) : sProp 𝕄)
      ⊢ iprop(((MX.view.loc (thr d i) ↦[Finset.univ]{fullShare}
            (((MX.access (Rect.unit (s := S512) ![o] S16.size b)).write (Elt F) f w Finset.univ : IVec S512 32) : Buf (Elt F) (MX.view.loc (thr d i))))
          -∗ wp frame (wpE (defs₀ (F := F)) 𝒱₀ (thr d i) none) Set.univ (k ⟨⟩) Q)
        -∗ wp frame (wpE (defs₀ (F := F)) 𝒱₀ (thr d i) none) Set.univ (.op (.store MX (Rect.unit (s := S512) ![o] S16.size b) w Finset.univ hx hm) k) Q) :=
  wp_store (defs := defs₀ (F := F)) 𝒱₀ (thr d i) none Set.univ (m := MX) (r := Rect.unit (s := S512) ![o] S16.size b) (S := Finset.univ) (Finset.subset_univ _)

/-- A store of sixteen words into the list of sums. -/
theorem wp_putMV {α : Type} {Q : α → sProp 𝕄} (o : ℕ) (b : ∀ a, (![o] : Fin 1 → Nat) a + S16.size a ≤ S512.size a) (w : FVec F S16 .f32)
    (hx) (hm) (k : PUnit → PP F i α) (f : FVec F S512 .f32) :
    (MV.view.loc (thr d i) ↦[Finset.univ]{fullShare} (f : Buf (Elt F) (MV.view.loc (thr d i))) : sProp 𝕄)
      ⊢ iprop(((MV.view.loc (thr d i) ↦[Finset.univ]{fullShare}
            (((MV.access (Rect.unit (s := S512) ![o] S16.size b)).write (Elt F) f w Finset.univ : FVec F S512 .f32) : Buf (Elt F) (MV.view.loc (thr d i))))
          -∗ wp frame (wpE (defs₀ (F := F)) 𝒱₀ (thr d i) none) Set.univ (k ⟨⟩) Q)
        -∗ wp frame (wpE (defs₀ (F := F)) 𝒱₀ (thr d i) none) Set.univ (.op (.store MV (Rect.unit (s := S512) ![o] S16.size b) w Finset.univ hx hm) k) Q) :=
  wp_store (defs := defs₀ (F := F)) 𝒱₀ (thr d i) none Set.univ (m := MV) (r := Rect.unit (s := S512) ![o] S16.size b) (S := Finset.univ) (Finset.subset_univ _)

/-- The masked additions of a list of lanes. -/
theorem wp_adds {α : Type} {Q : α → sProp 𝕄} (iv0 iv1 : IVec S16 32) (w0 w1 : FVec F S16 .f32) (h0) (h1) (k : PUnit → PP F i α) :
    ∀ (js : List (BitVec 32)) (fB : FVec F S42032 .f32),
    (MB.view.loc (thr d i) ↦[Finset.univ]{fullShare} (fB : Buf (Elt F) (MB.view.loc (thr d i))) : sProp 𝕄)
      ⊢ iprop(((MB.view.loc (thr d i) ↦[Finset.univ]{fullShare} ((bufAdds iv0 iv1 w0 w1 h0 h1 js fB : FVec F S42032 .f32) : Buf (Elt F) (MB.view.loc (thr d i))))
          -∗ wp frame (wpE (defs₀ (F := F)) 𝒱₀ (thr d i) none) Set.univ (k ⟨⟩) Q)
        -∗ wp frame (wpE (defs₀ (F := F)) 𝒱₀ (thr d i) none) Set.univ (addsProg i iv0 iv1 w0 w1 h0 h1 js >>= k) Q)
  | [], fB => by
    iintro H Hk
    iapply Hk
    iexact H
  | j :: js, fB => by
    have e : (addsProg i iv0 iv1 w0 w1 h0 h1 (j :: js) >>= k)
        = (SparseCore.vectorStoreIdx MB ![iv0] w0 (maskAt j) true h0 (View.stores_vmem_bits_univ h_S42032 rfl) >>= fun _ =>
            SparseCore.vectorStoreIdx MB ![iv1] w1 (maskAt j) true h1 (View.stores_vmem_bits_univ h_S42032 rfl) >>= fun _ =>
              addsProg i iv0 iv1 w0 w1 h0 h1 js >>= k) := rfl
    rw [e]
    iintro H Hk
    iapply (wp_bufStore d i iv0 w0 (maskAt j) true h0 _ _ fB) $$ H
    iintro H
    iapply (wp_bufStore d i iv1 w1 (maskAt j) true h1 _ _ _) $$ H
    iintro H
    iapply (wp_adds iv0 iv1 w0 w1 h0 h1 k js _) $$ H
    iexact Hk

/-- A row's check passes: its ids are below the table's height. -/
theorem chk_row (fI : IVec S512 32) (hI : ∀ k, (fI k).toNat < 42024) (o : ℕ) : k3_chk1 (cut16 fI o) := by
  have h : ∀ a x, ((![cut16 fI o] : Fin 1 → IVec S16 32) a x).toNat < S42032.size a := by
    intro a x
    obtain rfl : a = 0 := Subsingleton.elim _ _
    exact lt_of_lt_of_le (hI _) (by decide)
  exact ⟨h, h, h, h, h, h, h, h, h, h, h, h, h, h, h, h, h, h⟩

theorem tgtWord_row (fI : IVec S512 32) (r : ℕ) (o : ℕ) (ho : o / 32 = r) (ho' : o % 16 = 0) (x : S16.Idx) (hx : o + (x 0).val < 512) :
    (addi (cut16 fI o) (broadcast S16 (Scalar.muli (Scalar.addi (base i) (BitVec.ofNat 32 r)) 42024#32)) : IVec S16 32) x
      = tgtWord i fI (at512 (o + (x 0).val)) := by
  have hx' : (x 0).val < 16 := (x 0).isLt
  have hk : ((at512 (o + (x 0).val)) 0).val = o + (x 0).val := Nat.mod_eq_of_lt hx
  unfold tgtWord
  rw [hk, show (o + (x 0).val) / 32 = r by omega]
  rfl

theorem tgtSum_row (fI : IVec S512 32) (fW : FVec F S512 .f32) (r : ℕ) (o : ℕ) (ho : o / 32 = r) (ho' : o % 16 = 0) (x : S16.Idx) (hx : o + (x 0).val < 512) :
    rowSum (cut16 fI (32 * r)) (cut16 fI (32 * r + 16)) (cut16 fW (32 * r)) (cut16 fW (32 * r + 16)) (cut16 fI o x).toNat
      = tgtSum fI fW (at512 (o + (x 0).val)) := by
  have hx' : (x 0).val < 16 := (x 0).isLt
  have hk : ((at512 (o + (x 0).val)) 0).val = o + (x 0).val := Nat.mod_eq_of_lt hx
  unfold tgtSum
  rw [hk, show (o + (x 0).val) / 32 = r by omega]
  rfl

set_option maxHeartbeats 1000000 in
/-- One row. -/
theorem wp_row {α : Type} {Q : α → sProp 𝕄} (fI : IVec S512 32) (fW : FVec F S512 .f32) (hI : ∀ k, (fI k).toNat < 42024)
    (r : ℕ) (o0 o1 n n' : ℕ) (h0 : o0 = 32 * r) (h1 : o1 = 32 * r + 16) (hn : n = 32 * r) (hn' : n' = 32 * r + 32) (b0) (b1) (k : PUnit → PP F i α) :
    rowInv d i fI fW n
      ⊢ iprop((rowInv d i fI fW n' -∗ wp frame (wpE (defs₀ (F := F)) 𝒱₀ (thr d i) none) Set.univ (k ⟨⟩) Q)
        -∗ wp frame (wpE (defs₀ (F := F)) 𝒱₀ (thr d i) none) Set.univ (rowProg i (BitVec.ofNat 32 r) o0 o1 b0 b1 >>= k) Q) := by
  subst h0 h1 hn hn'
  have hb : 32 * r + 16 + 16 ≤ 512 := b1 0
  unfold rowInv
  iintro ⟨HI, HW, ⟨%fX, %hX, HX⟩, ⟨%fV, %hV, HV⟩, ⟨%fB, HB⟩⟩ Hk
  unfold rowProg
  simp only [Prog.lift, Prog.bind_op, Prog.bind_ret, Prog.pure_eq_ret, Prog.bind_assoc]
  iapply (wp_load 𝒱₀ (thr d i) none Set.univ (m := MI) (S := Finset.univ) (Finset.subset_univ _)) $$ HI; iintro HI
  rw [read_MI]
  rw [wp_assume_of _ _ _ _ (chk_row fI hI _)]
  iapply (wp_load 𝒱₀ (thr d i) none Set.univ (m := MI) (S := Finset.univ) (Finset.subset_univ _)) $$ HI; iintro HI
  rw [read_MI]
  rw [wp_assume_of _ _ _ _ (chk_row fI hI _)]
  iapply (wp_load 𝒱₀ (thr d i) none Set.univ (m := MW) (S := Finset.univ) (Finset.subset_univ _)) $$ HW; iintro HW
  rw [read_MW]
  iapply (wp_load 𝒱₀ (thr d i) none Set.univ (m := MW) (S := Finset.univ) (Finset.subset_univ _)) $$ HW; iintro HW
  rw [read_MW]
  iapply (wp_bufStore d i _ _ _ _ _ _ _ fB) $$ HB; iintro HB
  iapply (wp_bufStore d i _ _ _ _ _ _ _ _) $$ HB; iintro HB
  iapply (wp_adds d i _ _ _ _ _ _ _ lanes _) $$ HB; iintro HB
  iapply (wp_bufLoad d i _ _ _ _ _) $$ HB; iintro HB
  iapply (wp_bufLoad d i _ _ _ _ _) $$ HB; iintro HB
  have e0 := load_rowSum0 (cut16 fI (32 * r)) (cut16 fI (32 * r + 16)) (cut16 fW (32 * r)) (cut16 fW (32 * r + 16)) (chk_row fI hI _).1 (chk_row fI hI _).1 fB
  have e1 := load_rowSum1 (cut16 fI (32 * r)) (cut16 fI (32 * r + 16)) (cut16 fW (32 * r)) (cut16 fW (32 * r + 16)) (chk_row fI hI _).1 (chk_row fI hI _).1 fB
  unfold bufZero at e0 e1
  rw [e0, e1]
  iapply (wp_load 𝒱₀ (thr d i) none Set.univ (m := MX) (S := Finset.univ) (Finset.subset_univ _)) $$ HX; iintro HX
  iapply (wp_putMX d i _ _ _ _ _ _ _) $$ HX; iintro HX
  iapply (wp_load 𝒱₀ (thr d i) none Set.univ (m := MX) (S := Finset.univ) (Finset.subset_univ _)) $$ HX; iintro HX
  iapply (wp_putMX d i _ _ _ _ _ _ _) $$ HX; iintro HX
  iapply (wp_load 𝒱₀ (thr d i) none Set.univ (m := MV) (S := Finset.univ) (Finset.subset_univ _)) $$ HV; iintro HV
  iapply (wp_putMV d i _ _ _ _ _ _ _) $$ HV; iintro HV
  iapply (wp_load 𝒱₀ (thr d i) none Set.univ (m := MV) (S := Finset.univ) (Finset.subset_univ _)) $$ HV; iintro HV
  iapply (wp_putMV d i _ _ _ _ _ _ _) $$ HV; iintro HV
  iapply Hk
  isplitl [HI]; · iexact HI
  isplitl [HW]; · iexact HW
  isplitl [HX]
  · iexists _
    isplitr
    rotate_left
    · iexact HX
    · ipureintro
      exact agree_step _ _ _ (32 * r + 16) _
        (agree_step _ _ _ (32 * r) _ hX (fun x hx => tgtWord_row i fI r (32 * r) (by omega) (by omega) x hx) (write_MX _ b0 _ _))
        (fun x hx => tgtWord_row i fI r (32 * r + 16) (by omega) (by omega) x hx) (write_MX _ b1 _ _)
  isplitl [HV]
  · iexists _
    isplitr
    rotate_left
    · iexact HV
    · ipureintro
      exact agree_step _ _ _ (32 * r + 16) _
        (agree_step _ _ _ (32 * r) _ hV (fun x hx => tgtSum_row fI fW r (32 * r) (by omega) (by omega) x hx) (write_MV _ b0 _ _))
        (fun x hx => tgtSum_row fI fW r (32 * r + 16) (by omega) (by omega) x hx) (write_MV _ b1 _ _)
  iexists _; iexact HB

end Steps

end Cert.Proof.Kern
-- ==== Proof.TileValue.lean ====
/-
  The flat result the scatter leaves, and what one tile has to do with it. Row `R` of the flat result is its words
  `42024 R` up to `42024 (R + 1)`; the lists hold the row's thirty-two ids and weights at `32 R` up to `32 (R + 1)`. A
  tile serves sixteen rows, so the words its entries name lie in the tile's own stretch of the result (`slab`).
-/
module

public import proofs.«01_k».proof.Proof.Row

@[expose] public section

noncomputable section

namespace Cert.Proof.Kern

open Cert.KernelIdeal Cert.KernelIdeal.Gen
open Idealize.ShloMosaic

variable {F : FTy → Type} [FloatOps F]

/-- Position `n` of the flat lists. -/
def at16384 (n : ℕ) : S16384.Idx := fun a => ⟨n % 16384, by obtain rfl : a = 0 := Subsingleton.elim _ _; exact Nat.mod_lt _ (by decide)⟩

/-- The sixteen entries of a flat list from `o` on. -/
def cutG {α : Type} (f : S16384.Idx → α) (o : ℕ) : S16.Idx → α := fun x => f (at16384 (o + (x 0).val))

/-- The flat result: at a word one of its row's ids names, the row's sum there; elsewhere what was there. -/
def flatRes (ids : IVec S16384 32) (wts : FVec F S16384 .f32) (old : FVec F S21516288 .f32) : FVec F S21516288 .f32 := fun y =>
  if ∃ k, k < 32 ∧ (ids (at16384 (32 * ((y 0).val / 42024) + k))).toNat = (y 0).val % 42024 then
    rowSum (cutG ids (32 * ((y 0).val / 42024))) (cutG ids (32 * ((y 0).val / 42024) + 16))
      (cutG wts (32 * ((y 0).val / 42024))) (cutG wts (32 * ((y 0).val / 42024) + 16)) ((y 0).val % 42024)
  else old y

/-- The number of a tile. -/
def wid (i : grid3.Coords) : ℕ := 2 * (i 1).val + (i 0).val

theorem wid_lt (i : grid3.Coords) : wid i < 32 := by
  have h0 : (i 0).val < 2 := (i 0).isLt
  have h1 : (i 1).val < 16 := (i 1).isLt
  unfold wid; omega

/-- The tile's stretch of the flat result. -/
def slab (i : grid3.Coords) : Finset S21516288.Idx :=
  Finset.univ.filter fun y => wid i * 672384 ≤ (y 0).val ∧ (y 0).val < wid i * 672384 + 672384

theorem mem_slab (i : grid3.Coords) (y : S21516288.Idx) : y ∈ slab i ↔ wid i * 672384 ≤ (y 0).val ∧ (y 0).val < wid i * 672384 + 672384 := by
  unfold slab; rw [Finset.mem_filter]; exact ⟨fun h => h.2, fun h => ⟨Finset.mem_univ _, h⟩⟩

/-- The tile's 512 entries of a flat list. -/
def tileOf {α : Type} (i : grid3.Coords) (f : S16384.Idx → α) : S512.Idx → α := fun k => f (at16384 (wid i * 512 + (k 0).val))

theorem base_eq (i : grid3.Coords) : base i = BitVec.ofNat 32 (wid i * 16) := by
  have h0 : (i 0).val < 2 := (i 0).isLt
  have h1 : (i 1).val < 16 := (i 1).isLt
  apply BitVec.eq_of_toNat_eq
  show (((BitVec.ofNat 32 (i 1).val * 2#32) + BitVec.ofNat 32 (i 0).val) * 16#32).toNat = _
  unfold wid
  simp only [BitVec.toNat_mul, BitVec.toNat_add, BitVec.toNat_ofNat]
  omega

theorem tgtWord_toNat (i : grid3.Coords) (fI : IVec S512 32) (hI : ∀ k, (fI k).toNat < 42024) (k : S512.Idx) :
    (tgtWord i fI k).toNat = (wid i * 16 + (k 0).val / 32) * 42024 + (fI k).toNat := by
  have hk : (k 0).val < 512 := (k 0).isLt
  have hw := wid_lt i
  have h := hI k
  unfold tgtWord
  rw [base_eq]
  simp only [BitVec.toNat_mul, BitVec.toNat_add, BitVec.toNat_ofNat]
  omega

/-- Every word a tile's entry names is in the tile's stretch. -/
theorem tgtWord_slab (i : grid3.Coords) (fI : IVec S512 32) (hI : ∀ k, (fI k).toNat < 42024) (k : S512.Idx) :
    wid i * 672384 ≤ (tgtWord i fI k).toNat ∧ (tgtWord i fI k).toNat < wid i * 672384 + 672384 := by
  have hk : (k 0).val < 512 := (k 0).isLt
  have h := hI k
  rw [tgtWord_toNat i fI hI]
  omega

theorem tgtWord_lt (i : grid3.Coords) (fI : IVec S512 32) (hI : ∀ k, (fI k).toNat < 42024) (k : S512.Idx) : (tgtWord i fI k).toNat < 21516288 := by
  have h := tgtWord_slab i fI hI k
  have := wid_lt i
  omega

theorem cut_tile {α : Type} (i : grid3.Coords) (f : S16384.Idx → α) (o : ℕ) (ho : o + 16 ≤ 512) : cut16 (tileOf i f) o = cutG f (wid i * 512 + o) := by
  funext x
  have hx : (x 0).val < 16 := (x 0).isLt
  show f (at16384 (wid i * 512 + (o + (x 0).val) % 512)) = f (at16384 (wid i * 512 + o + (x 0).val))
  rw [Nat.mod_eq_of_lt (by omega), Nat.add_assoc]

/-- At the word an entry names the flat result holds what the tile puts down for the entry. -/
theorem res_entry (i : grid3.Coords) (ids : IVec S16384 32) (wts : FVec F S16384 .f32) (old : FVec F S21516288 .f32)
    (hI : ∀ k, (ids k).toNat < 42024) (k : S512.Idx) (y : S21516288.Idx) (hy : (y 0).val = (tgtWord i (tileOf i ids) k).toNat) :
    flatRes ids wts old y = tgtSum (tileOf i ids) (tileOf i wts) k := by
  have hk : (k 0).val < 512 := (k 0).isLt
  have hb : (tileOf i ids k).toNat < 42024 := hI _
  rw [tgtWord_toNat i (tileOf i ids) (fun k => hI _)] at hy
  have hR : (y 0).val / 42024 = wid i * 16 + (k 0).val / 32 := by omega
  have hv : (y 0).val % 42024 = (tileOf i ids k).toNat := by omega
  unfold flatRes tgtSum
  rw [hR, hv, if_pos, cut_tile i ids _ (by omega), cut_tile i ids _ (by omega), cut_tile i wts _ (by omega), cut_tile i wts _ (by omega)]
  · congr 2 <;> omega
  · refine ⟨(k 0).val % 32, Nat.mod_lt _ (by decide), ?_⟩
    unfold tileOf
    rw [show 32 * (wid i * 16 + (k 0).val / 32) + (k 0).val % 32 = wid i * 512 + (k 0).val by omega]

/-- A word of the tile's stretch that no entry names keeps its contents. -/
theorem res_other (i : grid3.Coords) (ids : IVec S16384 32) (wts : FVec F S16384 .f32) (old : FVec F S21516288 .f32)
    (hI : ∀ k, (ids k).toNat < 42024) (y : S21516288.Idx) (hy : y ∈ slab i) (hn : ∀ k, (y 0).val ≠ (tgtWord i (tileOf i ids) k).toNat) :
    flatRes ids wts old y = old y := by
  unfold flatRes
  rw [if_neg]
  rintro ⟨k, hk, e⟩
  have hs := (mem_slab i y).mp hy
  have hkk : 32 * ((y 0).val / 42024 - wid i * 16) + k < 512 := by omega
  refine hn (at512 (32 * ((y 0).val / 42024 - wid i * 16) + k)) ?_
  have e0 : ((at512 (32 * ((y 0).val / 42024 - wid i * 16) + k)) 0).val = 32 * ((y 0).val / 42024 - wid i * 16) + k := Nat.mod_eq_of_lt hkk
  rw [tgtWord_toNat i (tileOf i ids) (fun k => hI _)]
  unfold tileOf
  rw [e0, show wid i * 512 + (32 * ((y 0).val / 42024 - wid i * 16) + k) = 32 * ((y 0).val / 42024) + k by omega, e]
  omega

end Cert.Proof.Kern
-- ==== Proof.Copies.lean ====
/-
  A tile's two copies in, as a step of its program: its 512 ids and its 512 weights come to lie in its own memory.
-/
module

public import proofs.«01_k».proof.Proof.TileValue

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- The tile's stretch of the flat ids and of the flat weights. -/
abbrev M10 (i : grid3.Coords) : Memref sig .scVector .hbm S512 .i32 :=
  (Memref.whole main_v10_scv : Memref sig .scVector .hbm S16384 .i32).slice (Rect.unit (s := S16384) (k3_off1 i) S512.size (k3_off1_inb i)) (fun _ => rfl)
abbrev M11 (i : grid3.Coords) : Memref sig .scVector .hbm S512 .f32 :=
  (Memref.whole main_v11_scv : Memref sig .scVector .hbm S16384 .f32).slice (Rect.unit (s := S16384) (k3_off1 i) S512.size (k3_off1_inb i)) (fun _ => rfl)

/-- Its positions. -/
def stretch (i : grid3.Coords) : Finset S16384.Idx :=
  Finset.univ.filter fun y => wid i * 512 ≤ (y 0).val ∧ (y 0).val < wid i * 512 + 512

theorem mem_stretch (i : grid3.Coords) (y : S16384.Idx) : y ∈ stretch i ↔ wid i * 512 ≤ (y 0).val ∧ (y 0).val < wid i * 512 + 512 := by
  unfold stretch; rw [Finset.mem_filter]; exact ⟨fun h => h.2, fun h => ⟨Finset.mem_univ _, h⟩⟩

theorem off1_wid (i : grid3.Coords) : k3_off1 i 0 = wid i * 512 := by
  rw [k3_off1_eq]; show 1024 * (i 1).val + 512 * (i 0).val = _; unfold wid; omega

theorem rect_stretch (i : grid3.Coords) : (Rect.unit (s := S16384) (k3_off1 i) S512.size (k3_off1_inb i)).set = stretch i := by
  ext y
  rw [Rect.mem_set_unit, mem_stretch]
  constructor
  · intro h; have := h 0; rw [off1_wid] at this; exact this
  · intro h a; obtain rfl : a = 0 := Subsingleton.elim _ _; rw [off1_wid]; exact h

theorem set_M10 (i : grid3.Coords) : (M10 i).view.set = stretch i := (View.set_slice_whole _ _).trans (rect_stretch i)
theorem set_M11 (i : grid3.Coords) : (M11 i).view.set = stretch i := (View.set_slice_whole _ _).trans (rect_stretch i)

theorem emb_stretch (i : grid3.Coords) (k : S512.Idx) :
    (Rect.unit (s := S16384) (k3_off1 i) S512.size (k3_off1_inb i)).emb k = at16384 (wid i * 512 + (k 0).val) := by
  funext a; obtain rfl : a = 0 := Subsingleton.elim _ _
  apply Fin.ext
  rw [Rect.emb_apply]
  show k3_off1 i 0 + 1 * (k 0).val = (wid i * 512 + (k 0).val) % 16384
  have hk : (k 0).val < 512 := (k 0).isLt
  have := wid_lt i
  rw [off1_wid, Nat.mod_eq_of_lt (by omega)]; omega

theorem read_M10 (i : grid3.Coords) (f : IVec S16384 32) : ((M10 i).view.read (Elt F) f : IVec S512 32) = tileOf i f := by
  funext k
  refine (View.read_apply _ _).trans ((cast_eq _ _).trans ?_)
  exact congrArg f (emb_stretch i k)
theorem read_M11 (i : grid3.Coords) (f : FVec F S16384 .f32) : ((M11 i).view.read (Elt F) f : FVec F S512 .f32) = tileOf i f := by
  funext k
  refine (View.read_apply _ _).trans ((cast_eq _ _).trans ?_)
  exact congrArg f (emb_stretch i k)

variable (d : Dev nD) (i : grid3.Coords)

set_option maxHeartbeats 4000000 in
/-- The two copies. -/
theorem wp_copies {α : Type} {Q : α → sProp 𝕄} (O : CellTallies nD τ sig (HIx 1)) (W : Waits sig (HIx 1)) (hO : ∀ g, O g none = 0)
    (f10 : IVec S16384 32) (f11 : FVec F S16384 .f32) (fi : IVec S512 32) (fw : FVec F S512 .f32) (k : PUnit → PP F i α) :
    iprop(levAts (K (F := F)).L (K (F := F)).lev
        ∗ ((M10 i).view.loc (thr d i) ↦[(M10 i).view.set]{fullShare} (f10 : Buf (Elt F) ((M10 i).view.loc (thr d i))))
        ∗ ((M11 i).view.loc (thr d i) ↦[(M11 i).view.set]{fullShare} (f11 : Buf (Elt F) ((M11 i).view.loc (thr d i))))
        ∗ (MI.view.loc (thr d i) ↦{fullShare} (fi : Buf (Elt F) (MI.view.loc (thr d i))))
        ∗ (MW.view.loc (thr d i) ↦{fullShare} (fw : Buf (Elt F) (MW.view.loc (thr d i))))
        ∗ semVal (thr d i, SemLoc.dma cc3_scoped0.sem) 0 ∗ semVal (thr d i, SemLoc.dma cc3_scoped1.sem) 0
        ∗ owes (thr d i) O W)
      ⊢ iprop((iprop(((M10 i).view.loc (thr d i) ↦[(M10 i).view.set]{fullShare} (f10 : Buf (Elt F) ((M10 i).view.loc (thr d i))))
        ∗ ((M11 i).view.loc (thr d i) ↦[(M11 i).view.set]{fullShare} (f11 : Buf (Elt F) ((M11 i).view.loc (thr d i))))
        ∗ (MI.view.loc (thr d i) ↦{fullShare} (tileOf i f10 : Buf (Elt F) (MI.view.loc (thr d i))))
        ∗ (MW.view.loc (thr d i) ↦{fullShare} (tileOf i f11 : Buf (Elt F) (MW.view.loc (thr d i))))
        ∗ semVal (thr d i, SemLoc.dma cc3_scoped0.sem) 0 ∗ semVal (thr d i, SemLoc.dma cc3_scoped1.sem) 0
        ∗ ∃ W', ⌜∀ p ∈ W', p ∈ W ∨ p.2 = none⌝ ∗ owes (thr d i) O W')
          -∗ wp frame (wpE (defs₀ (F := F)) 𝒱₀ (thr d i) none) Set.univ (k ⟨⟩) Q)
        -∗ wp frame (wpE (defs₀ (F := F)) 𝒱₀ (thr d i) none) Set.univ (copiesProg i >>= k) Q) := by
  iintro ⟨#Hlv, H10, H11, HI, HW, HsA, HsB, HO⟩ Hk
  ihave Hmw := (show levAts (K (F := F)).L (K (F := F)).lev ⊢ Transfers.MayWaits (thr d i) (default : HIx 1) O from
    (K (F := F)).mayWaits_none (thr := thr d i) hO) $$ Hlv
  unfold copiesProg
  sl_exec
  iapply Hk
  isplitl [H10]; · iexact H10
  isplitl [H11]; · iexact H11
  isplitl [HI]
  · have eI : View.write (Elt F) MI.view fi (wp_copies.sl.dma0 (F := F) i f10) Finset.univ = tileOf i f10 :=
      (View.write_whole_univ cc3_scratch0 fi (wp_copies.sl.dma0 (F := F) i f10)).trans (show wp_copies.sl.dma0 (F := F) i f10 = tileOf i f10 by unfold wp_copies.sl.dma0; exact read_M10 i f10)
    iapply (Entails.of_eq (congrArg (fun f => (MI.view.loc (thr d i) ↦{fullShare} (f : Buf (Elt F) (MI.view.loc (thr d i))) : sProp 𝕄)) eI)) $$ HI
  isplitl [HW]
  · have eW : View.write (Elt F) MW.view fw (wp_copies.sl.dma0_1 (F := F) i f11) Finset.univ = tileOf i f11 :=
      (View.write_whole_univ cc3_scratch1 fw (wp_copies.sl.dma0_1 (F := F) i f11)).trans (show wp_copies.sl.dma0_1 (F := F) i f11 = tileOf i f11 by unfold wp_copies.sl.dma0_1; exact read_M11 i f11)
    iapply (Entails.of_eq (congrArg (fun f => (MW.view.loc (thr d i) ↦{fullShare} (f : Buf (Elt F) (MW.view.loc (thr d i))) : sProp 𝕄)) eW)) $$ HW
  isplitl [HsA]; · iexact HsA
  isplitl [HsB]; · iexact HsB
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.Proof.Kern
-- ==== Proof.ScatterDup.lean ====
/-
  An indirect scatter whose list may name one target word several times. The rows of such a scatter write the same
  elements, so none of them can hold its row outright: the target goes into write mode (every element with the value it
  is to hold at the end), each row writes at a share of its own, and the wait hands back the shares joined, with the
  named rows marked as written. What the target then holds is `willBeTo_castOut_some`'s. The premise is that any two
  entries naming one row carry the same payload: `Admitted`, per entry, by the one final buffer `G`.
-/
module

public import proofs.«01_k».proof.Proof.Setup

@[expose] public section

noncomputable section

namespace Cert.Proof.ScatterDup

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem
open Transfers (ent bigSep_sep_in bigSep_sep_out bigSep_mono_pers)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {emb : UEmb (WmRA nD τ sig (Elt F)) U} {ιw : Name}

local notation "𝕄" => MT nD τ sig Ix (Elt F) Name U Lvl

omit [Preorder Lvl] in
/-- A share of write-mode elements dealt among the members of a nonempty set, and taken back with what each has marked. -/
theorem deal {I : Type} [DecidableEq I] (s : Finset I) (hs : s.Nonempty) : ∀ q : PosShare TreeShare, ∃ qs : I → PosShare TreeShare,
    ∀ (ℓ : Loc nD τ sig) (S : Finset (Idx ℓ)) (f : Buf (Elt F) ℓ) (g : Tgt (Elt F) ℓ),
      ((willBeTo emb ℓ S q f g ∅ : sProp 𝕄) ⊢ bigSep s fun k => willBeTo emb ℓ S (qs k) f g ∅)
      ∧ ∀ W : I → Finset (Idx ℓ), (bigSep s fun k => (willBeTo emb ℓ S (qs k) f g (W k) : sProp 𝕄)) ⊢ willBeTo emb ℓ S q f g (s.biUnion W) := by
  induction hs using Finset.Nonempty.cons_induction with
  | singleton a =>
    intro q
    refine ⟨fun _ => q, fun ℓ S f g => ⟨?_, fun W => ?_⟩⟩
    · rw [BI.bigSep_singleton]
    · rw [BI.bigSep_singleton, Finset.singleton_biUnion]
  | cons a s ha hs ih =>
    intro q
    obtain ⟨qs, hqs⟩ := ih q.right
    refine ⟨Function.update qs a q.left, fun ℓ S f g => ?_⟩
    have hne : ∀ k ∈ s, Function.update qs a q.left k = qs k := fun k hk => Function.update_of_ne (fun h : k = a => ha (h ▸ hk)) _ _
    have hcg : ∀ W : I → Finset (Idx ℓ), (bigSep s fun k => (willBeTo emb ℓ S (Function.update qs a q.left k) f g (W k) : sProp 𝕄))
        = bigSep s fun k => willBeTo emb ℓ S (qs k) f g (W k) := fun W => BI.bigSep_congr fun k hk => by rw [hne k hk]
    obtain ⟨h1, h2⟩ := hqs ℓ S f g
    refine ⟨?_, fun W => ?_⟩
    · rw [Finset.cons_eq_insert, BI.bigSep_insert ha, Function.update_self, hcg fun _ => ∅]
      refine BIBase.Entails.trans ?_ (sep_mono_right h1)
      iintro ⟨H1, H2⟩
      isplitl [H1] <;> iassumption
    · rw [Finset.cons_eq_insert, BI.bigSep_insert ha, Function.update_self, hcg W, Finset.biUnion_insert]
      refine BIBase.Entails.trans (sep_mono_right (h2 W)) ?_
      iintro ⟨H1, H2⟩
      icombine H1 H2 as H
      iexact H

variable {sp : Space} {s₀ s si : Shape} {e : EltTy} {a : Nat} {α : Type}

set_option maxHeartbeats 2000000 in
/-- THE RULE. From a share of the source rows, the target's elements `Sd` outright — among them every row the list
    names —, a share of the list with its words in range, and the semaphore at zero: the stream is issued, and its wait
    will hand back the target in write mode at the full share with the named rows marked, the source's share and the list's. -/
theorem wp_scatter [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α} {Q : α → sProp 𝕄}
    {q qo : PosShare TreeShare} {fs : Buf (Elt F) (src.view.loc c)} {fd : Buf (Elt F) (dst.view.loc c)} {fo : Buf (Elt F) (offs.view.loc c)}
    (ι : Ix) (N : ℕ) (hs : 0 < s.numel) (hin : ∀ x, (offs.view.read (Elt F) fo x).toNat < s₀.size hg.axis)
    (hN : ∑ j, (dst.slice (s₀.rowRect hg.axis (rows (offs.view.read (Elt F) fo) hn hin j)) (s₀.stride_rowRect hg.axis _)).view.dmaCredit = N)
    (Sd : Finset (Idx (dst.view.loc c))) (hSd : namedRows c dst.view hg.axis (rows (offs.view.read (Elt F) fo) hn hin) ⊆ Sd) (G : Buf (Elt F) (dst.view.loc c))
    (hadm : ∀ j, (dst.view.slice (s₀.rowRect hg.axis (rows (offs.view.read (Elt F) fo) hn hin j))).Admitted (Elt F) (fun i => some (G i))
      (scatterRowPayload c src hg fs j) Finset.univ) :
    iprop(wmInv emb ιw ∗ (src.view.loc c ↦[src.view.set]{q} fs) ∗ (dst.view.loc c ↦[Sd]{fullShare} fd)
        ∗ (offs.view.loc c ↦[offs.view.set]{qo} fo) ∗ semVal (c, SemLoc.dma sem) 0)
      ⊢ iprop((Transfers.Flight EC c (.dma sem) ι N
                iprop((willBeTo emb (dst.view.loc c) Sd fullShare fd (fun i => some (G i))
                        (namedRows c dst.view hg.axis (rows (offs.view.read (Elt F) fo) hn hin)))
                  ∗ (src.view.loc c ↦[src.view.set]{q} fs) ∗ (offs.view.loc c ↦[offs.view.set]{qo} fo))
              -∗ wp frame (wpE defs 𝒱 c bd) Set.univ (k ⟨⟩) Q)
          -∗ wp frame (wpE defs 𝒱 c bd) Set.univ (enqueueIndirectScatter hp src dst hg offs hn sem he hsp hr >>= k) Q) := by
  classical
  rw [enqueueIndirectScatter_bind]
  have ho : 0 < s.size hg.axis' := Shape.size_pos_of_numel_pos hs _
  have hne : (Finset.univ : Finset (Fin (s.size hg.axis'))).Nonempty := ⟨⟨0, ho⟩, Finset.mem_univ _⟩
  let r : Fin (s.size hg.axis') → Fin (s₀.size hg.axis) := rows (offs.view.read (Elt F) fo) hn hin
  let rowV : Fin (s.size hg.axis') → View sig c.2.kind sp (s₀.rowShape hg.axis) e := fun j => dst.view.slice (s₀.rowRect hg.axis (r j))
  let St : Stream nD τ sig (Elt F) :=
    Stream.issued c offs.view hn sem (fun j w => (rowOf (s₀.size hg.axis) w).map (scatterRow c src dst hg sem he hsp hr j)) 0
  let rd : Fin (s.size hg.axis') → RowDma τ sig (Elt F) c.2 sem := fun j => scatterRow c src dst hg sem he hsp hr j (r j)
  let am : Fin (s.size hg.axis') → ℕ := fun j => (dst.slice (s₀.rowRect hg.axis (r j)) (s₀.stride_rowRect hg.axis _)).view.dmaCredit
  have hpos : 0 < (s₀.rowShape hg.axis).numel := by rw [← hg.rowShape_eq]; exact rowShape_numel_pos hs _
  have ham : ∀ j, 0 < am j := fun j => View.dmaCredit_pos _ hpos
  have hwin : ∀ j, (rowV j).set ⊆ Sd := fun j i hi => hSd (Finset.mem_biUnion.mpr ⟨j, Finset.mem_univ j, hi⟩)
  obtain ⟨qs, hqs⟩ := deal (nD := nD) (τ := τ) (sig := sig) (Ix := Ix) (F := F) (Name := Name) (U := U) (Lvl := Lvl) (emb := emb)
    (Finset.univ : Finset (Fin (s.size hg.axis'))) hne fullShare
  obtain ⟨hdeal, hback⟩ := hqs (dst.view.loc c) Sd fd (fun i => some (G i))
  -- an entry's part of the target, before and after its row is written
  let tg : Fin (s.size hg.axis') → Finset (Idx (dst.view.loc c)) → sProp 𝕄 := fun j M =>
    willBeTo emb (dst.view.loc c) Sd (qs j) fd (fun i => some (G i)) M
  let srcRow : Fin (s.size hg.axis') → sProp 𝕄 := fun j => src.view.loc c ↦[(src.view.slice (s.rowRect hg.axis' j)).set]{q} fs
  let Dl : Fin (s.size hg.axis') → sProp 𝕄 := fun j => iprop((tg j (∅ ∪ (rowV j).set) ∗ St.heldEntry qo fo j) ∗ srcRow j)
  have hA : St.RowsAgree := by
    intro j x x' ρ ρ' h h'
    obtain ⟨_, _, rfl⟩ := Option.map_eq_some_iff.mp h
    obtain ⟨_, _, rfl⟩ := Option.map_eq_some_iff.mp h'
    rfl
  have hrd : ∀ j, St.row j (St.word fo j) = some (rd j) := fun j => by
    change (rowOf (s₀.size hg.axis) (offs.view.read (Elt F) fo (St.entry j))).map _ = _
    rw [rowOf_of_lt (hin _)]; rfl
  have hen : Function.Bijective St.entry := si.rowMajor.symm.bijective.comp (finCongr hn.symm).bijective
  have hsrc : ∀ j, (src.view.slice (s.rowRect hg.axis' j)).set = (rd j).src.view.set := fun j =>
    (View.set_cast (v := src.view.slice (s.rowRect hg.axis' j)) _ _).symm
  -- one entry's resources
  have hrow : ∀ γ δ κ, ∀ j, iprop((wmInv emb ιw ∗ inv κ (Transfers.streamBody EC (c, SemLoc.dma sem) am Dl γ δ))
        ∗ (((tg j ∅ ∗ St.heldEntry qo fo j) ∗ srcRow j) ∗ count EC (γ j) 0))
      ⊢ iprop(St.heldEntry qo fo j ∗ (St.heldEntry qo fo j -∗ rowRes c (rd j))) := fun γ δ κ j => by
    iintro ⟨⟨#Hwm, #Hst⟩, ⟨⟨Ht, He⟩, Hsr⟩, Hc⟩
    isplitl [He]; · iexact He
    iintro He
    unfold rowRes
    iexists q, fs, iprop(tg j (∅ ∪ (rowV j).set) ∗ St.heldEntry qo fo j)
    isplitl [Hsr]
    · iapply (BIBase.Entails.of_eq (congrArg (fun I => (src.view.loc c ↦[I]{q} fs : sProp 𝕄)) (hsrc j))) $$ Hsr
    isplitl [Ht He]
    · iapply writeUpdate_frame
      isplitl [Ht]
      · iapply (willBeTo_writeUpdate (emb := emb) (ιwm := ιw) c (v := rowV j) (w := scatterRowPayload c src hg fs j) (S := Sd) (q := qs j) (f := fd)
          (g := fun i => some (G i)) (W := ∅) (hwin j) (hadm j))
        isplitr; · iexact Hwm
        iexact Ht
      · iexact He
    · have hcr : (creditUpdate (c, SemLoc.dma sem) (am j) 0 (Dl j) : sProp 𝕄)
          ⊢ creditUpdate (c, SemLoc.dma sem) ((rd j).dst.view.amount (.dma sem)) 0
            iprop((tg j (∅ ∪ (rowV j).set) ∗ St.heldEntry qo fo j) ∗ ((rd j).src.view.loc c ↦[(rd j).src.view.set]{q} fs)) :=
        BIBase.Entails.of_eq (show _ = creditUpdate (c, SemLoc.dma sem) ((rd j).dst.view.amount (.dma sem)) 0
            iprop((tg j (∅ ∪ (rowV j).set) ∗ St.heldEntry qo fo j) ∗ (src.view.loc c ↦[(rd j).src.view.set]{q} fs)) from by rw [← hsrc j])
      iapply hcr
      iapply (Transfers.stream_creditUpdate EC (a := am) (D := Dl) (δ := δ) j)
      isplitr; · iexact Hst
      iexact Hc
  have hjoin : bigSep Finset.univ Dl
      ⊢ iprop((willBeTo emb (dst.view.loc c) Sd fullShare fd (fun i => some (G i)) (namedRows c dst.view hg.axis r))
          ∗ (src.view.loc c ↦[src.view.set]{q} fs) ∗ (offs.view.loc c ↦[offs.view.set]{qo} fo)) := by
    iintro H
    ihave H1 := bigSep_sep_out _ _ _ $$ H
    icases H1 with ⟨H2, Hs⟩
    ihave H3 := bigSep_sep_out _ _ _ $$ H2
    icases H3 with ⟨Ht, Ho⟩
    isplitl [Ht]
    · have hW : (Finset.univ.biUnion fun j => (∅ : Finset (Idx (dst.view.loc c))) ∪ (rowV j).set) = namedRows c dst.view hg.axis r := by
        simp only [Finset.empty_union]; rfl
      rw [← hW]
      iapply (hback fun j => ∅ ∪ (rowV j).set) $$ Ht
    isplitl [Hs]
    · iapply (BIBase.Entails.of_eq (pointsTo_rows c src.view hg.axis' q fs).symm) $$ Hs
    · iapply (BIBase.Entails.of_eq (pointsTo_entries c offs.view St.entry hen qo fo).symm) $$ Ho
  iintro ⟨#Hwm, Hs, Hd, Ho, Hv⟩ Hk
  imod (Transfers.stream_alloc EC ham Dl (g := (c, SemLoc.dma sem))) $$ Hv with ⟨%γ, %δ, %κ, #Hst, Hγ, Hδ⟩
  ihave Hcast := (pointsTo_castIn (emb := emb) (ιwm := ιw) (E := Set.univ) (ℓ := dst.view.loc c) (I := Sd) (f := fd) (fun i => some (G i))) $$ [Hd]
  · isplitr; · iexact Hwm
    iexact Hd
  imod Hcast with Ht
  ihave Ht' := hdeal $$ Ht
  ihave Ho' := (BIBase.Entails.of_eq (pointsTo_entries c offs.view St.entry hen qo fo)) $$ Ho
  ihave Hs' := (BIBase.Entails.of_eq (pointsTo_rows c src.view hg.axis' q fs)) $$ Hs
  iapply (wp_enqueueIndirectDma 𝒱 c bd Set.univ (qo := qo) (fo := fo) (rd := rd) ι N hA hrd hN) $$ [Ht' Ho' Hs' Hγ]
  · unfold Stream.res
    ihave H1 := bigSep_sep_in _ _ _ $$ [Ht' Ho']; · isplitl [Ht'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow γ δ κ j)
    isplitr
    · isplitr; · iexact Hwm
      iexact Hst
    iexact H3
  · iintro Hcred
    iapply Hk
    iapply (Transfers.Flight_mono EC c hjoin)
    iapply (Transfers.stream_flight EC (a := am) hN)
    isplitr; · iexact Hst
    isplitl [Hδ] <;> iassumption

end Cert.Proof.ScatterDup
-- ==== Proof.Out.lean ====
/-
  A tile's scatter out: its 512 words of the target come to hold the sums that their entries name; every other word of
  its stretch of the target keeps its contents. Entries may name one word twice: they then carry the same sum.
-/
module

public import proofs.«01_k».proof.Proof.Copies
public import proofs.«01_k».proof.Proof.ScatterDup

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- The row of the target that an entry names, as a window. -/
theorem row_emb (r : Fin (S21516288.size gathers_S21516288_S512.axis)) (x : (S21516288.rowShape gathers_S21516288_S512.axis).Idx) :
    (((MT'.view.slice (S21516288.rowRect gathers_S21516288_S512.axis r)).emb x : S21516288.Idx) 0).val = r.val := by
  rw [View.emb_slice]
  show 0 + 1 * (((S21516288.rowRect gathers_S21516288_S512.axis r).emb x) 0).val = r.val
  rw [Shape.rowRect_emb_val, if_pos (Subsingleton.elim _ _)]; omega

variable (d : Dev nD) (i : grid3.Coords)

/-- What entry `j` carries. -/
theorem payload_val (fV : FVec F S512 .f32) (j : Fin (S512.size gathers_S21516288_S512.axis')) (x : (S21516288.rowShape gathers_S21516288_S512.axis).Idx) :
    (SparseCore.scatterRowPayload (thr d i) MV gathers_S21516288_S512 (fV : Buf (Elt F) (MV.view.loc (thr d i))) j x : F .f32) = fV (at512 j.val) := by
  refine (View.read_apply _ _).trans ((cast_eq _ _).trans ?_)
  refine congrArg fV ?_
  have hj : j.val < 512 := j.isLt
  refine funext fun (a : Fin 1) => ?_
  obtain rfl : a = 0 := Subsingleton.elim _ _
  apply Fin.ext
  refine (Shape.rowRect_emb_val (s := S512) gathers_S21516288_S512.axis' j _ 0).trans ?_
  rw [if_pos (Subsingleton.elim _ _)]
  exact (Nat.mod_eq_of_lt hj).symm

/-- The word that entry `j` names. -/
theorem row_val (fX : IVec S512 32) (hin) (j : Fin (S512.size gathers_S21516288_S512.axis')) :
    (SparseCore.rows (F := F) (si := S512) (z := S21516288.size gathers_S21516288_S512.axis) fX rfl hin j).val = (fX (at512 j.val)).toNat := by
  show (fX (S512.rowMajor.symm (j.cast _))).toNat = _
  congr 2
  have hj : j.val < 512 := j.isLt
  funext a; obtain rfl : a = 0 := Subsingleton.elim _ _
  apply Fin.ext
  rw [← Shape.rowMajor_val_one, Equiv.apply_symm_apply]
  exact (Nat.mod_eq_of_lt hj).symm

theorem hadm_out (fX : IVec S512 32) (fV : FVec F S512 .f32) (hin) (G : FVec F S21516288 .f32)
    (hG : ∀ (k : S512.Idx) (y : S21516288.Idx), (y 0).val = (fX k).toNat → G y = fV k) (j : Fin (S512.size gathers_S21516288_S512.axis')) :
    (MT'.view.slice (S21516288.rowRect gathers_S21516288_S512.axis
        (SparseCore.rows (F := F) (si := S512) (z := S21516288.size gathers_S21516288_S512.axis) fX rfl hin j))).Admitted (Elt F) (fun y => some (G y))
      (SparseCore.scatterRowPayload (thr d i) MV gathers_S21516288_S512 (fV : Buf (Elt F) (MV.view.loc (thr d i))) j) Finset.univ := by
  refine View.admitted_some_iff.mpr fun x _ => ?_
  refine (payload_val d i fV j x).trans (Eq.symm ?_)
  refine (View.read_apply _ _).trans ((cast_eq _ _).trans ?_)
  exact hG (at512 j.val) _ ((row_emb _ x).trans (row_val fX hin j))

/-- The words named. -/
theorem mem_named (fX : IVec S512 32) (hin) (y : S21516288.Idx) :
    y ∈ SparseCore.namedRows (thr d i) MT'.view gathers_S21516288_S512.axis
        (SparseCore.rows (F := F) (si := S512) (z := S21516288.size gathers_S21516288_S512.axis) fX rfl hin)
      ↔ ∃ k : S512.Idx, (y 0).val = (fX k).toNat := by
  constructor
  · intro h
    obtain ⟨j, _, h⟩ := Finset.mem_biUnion.mp h
    obtain ⟨x, _, rfl⟩ := Finset.mem_map.mp h
    exact ⟨at512 j.val, (row_emb _ x).trans (row_val fX hin j)⟩
  · rintro ⟨k, hk⟩
    refine Finset.mem_biUnion.mpr ⟨(k 0 : Fin 512), Finset.mem_univ _, ?_⟩
    refine Finset.mem_map.mpr ⟨fun a => ⟨0, by obtain rfl : a = 0 := Subsingleton.elim _ _; exact Nat.zero_lt_one⟩, Finset.mem_univ _, ?_⟩
    refine funext fun (a : Fin 1) => ?_
    obtain rfl : a = 0 := Subsingleton.elim _ _
    apply Fin.ext
    refine (row_emb _ _).trans ((row_val fX hin _).trans ?_)
    rw [hk]
    exact congrArg (fun k => (fX k).toNat) (at512_self k)

/-- The rows' credits together. -/
theorem credit_out (d : Dev nD) (i : grid3.Coords) (r : Fin (S512.size gathers_S21516288_S512.axis') → Fin (S21516288.size gathers_S21516288_S512.axis)) :
    ∑ j, (MT'.slice (S21516288.rowRect gathers_S21516288_S512.axis (r j)) (S21516288.stride_rowRect gathers_S21516288_S512.axis _)).view.dmaCredit = MV.view.dmaCredit :=
  SparseCore.sum_scatterCredit_eq_srcCredit (thr d i) MV MT' gathers_S21516288_S512 rfl r (fun _ => rfl) (fun _ => rfl)

/-- The scatter's start, over the tile's whole stretch of the target. -/
theorem wp_issue {α : Type} {Q : α → sProp 𝕄} (ιw : ℕ) {fX : IVec S512 32} {fV : FVec F S512 .f32} {old G : FVec F S21516288 .f32}
    (hin : ∀ x, (fX x).toNat < S21516288.size gathers_S21516288_S512.axis)
    (hsub : SparseCore.namedRows (thr d i) MT'.view gathers_S21516288_S512.axis
      (SparseCore.rows (F := F) (si := S512) (z := S21516288.size gathers_S21516288_S512.axis) fX rfl hin) ⊆ slab i)
    (hadm : ∀ j, (MT'.view.slice (S21516288.rowRect gathers_S21516288_S512.axis
        (SparseCore.rows (F := F) (si := S512) (z := S21516288.size gathers_S21516288_S512.axis) fX rfl hin j))).Admitted (Elt F) (fun y => some (G y))
      (SparseCore.scatterRowPayload (thr d i) MV gathers_S21516288_S512 (fV : Buf (Elt F) (MV.view.loc (thr d i))) j) Finset.univ)
    (k : PUnit → PP F i α) :
    iprop(wmInv (EW (F := F)) ιw
        ∗ (MV.view.loc (thr d i) ↦[MV.view.set]{fullShare} (fV : Buf (Elt F) (MV.view.loc (thr d i))))
        ∗ (MT'.view.loc (thr d i) ↦[slab i]{fullShare} (old : Buf (Elt F) (MT'.view.loc (thr d i))))
        ∗ (MX.view.loc (thr d i) ↦[MX.view.set]{fullShare} (fX : Buf (Elt F) (MX.view.loc (thr d i))))
        ∗ semVal (thr d i, SemLoc.dma cc3_scratch5.sem) 0)
      ⊢ iprop((Transfers.Flight countersEmb (thr d i) (.dma cc3_scratch5.sem) (default : HIx 1) MV.view.dmaCredit
          iprop((willBeTo (EW (F := F)) (MT'.view.loc (thr d i)) (slab i) fullShare (old : Buf (Elt F) (MT'.view.loc (thr d i))) (fun y => some (G y))
              (SparseCore.namedRows (thr d i) MT'.view gathers_S21516288_S512.axis
                (SparseCore.rows (F := F) (si := S512) (z := S21516288.size gathers_S21516288_S512.axis) fX rfl hin)))
            ∗ (MV.view.loc (thr d i) ↦[MV.view.set]{fullShare} (fV : Buf (Elt F) (MV.view.loc (thr d i))))
            ∗ (MX.view.loc (thr d i) ↦[MX.view.set]{fullShare} (fX : Buf (Elt F) (MX.view.loc (thr d i)))))
          -∗ wp frame (wpE (defs₀ (F := F)) 𝒱₀ (thr d i) none) Set.univ (k ⟨⟩) Q)
        -∗ wp frame (wpE (defs₀ (F := F)) 𝒱₀ (thr d i) none) Set.univ
          ((SparseCore.enqueueIndirectScatter rfl MV MT' gathers_S21516288_S512 MX rfl cc3_scratch5.sem rfl (Or.inl rfl) : PP F i PUnit) >>= k) Q) :=
  ScatterDup.wp_scatter countersEmb 𝒱₀ (thr d i) none (emb := EW (F := F)) (ιw := ιw) (src := MV) (dst := MT') (offs := MX) (hn := rfl)
    (fs := (fV : Buf (Elt F) (MV.view.loc (thr d i))))
    (fd := (old : Buf (Elt F) (MT'.view.loc (thr d i)))) (fo := (fX : Buf (Elt F) (MX.view.loc (thr d i))))
    (default : HIx 1) MV.view.dmaCredit (Nat.zero_lt_succ 511) hin (credit_out d i _)
    (slab i) hsub G hadm

theorem outProg_bind {α : Type} (k : PUnit → PP F i α) :
    outProg i >>= k = ((SparseCore.enqueueIndirectScatter rfl MV MT' gathers_S21516288_S512 MX rfl cc3_scratch5.sem rfl (Or.inl rfl) : PP F i PUnit) >>= fun _ =>
      (Prog.op (.waitDma2 cc3_scratch5.sem MT' MV (View.wordExact_bits rfl) (Memref.isWhole_whole _).wordExact) k : PP F i α)) := rfl

set_option maxHeartbeats 4000000 in
/-- The scatter out and its wait. -/
theorem wp_out {α : Type} {Q : α → sProp 𝕄} (O : CellTallies nD τ sig (HIx 1)) (W : Waits sig (HIx 1)) (hO : ∀ g, O g none = 0) (ιw : ℕ)
    (ids : IVec S16384 32) (wts : FVec F S16384 .f32) (old : FVec F S21516288 .f32) (hI : ∀ k, (ids k).toNat < 42024)
    (fX : IVec S512 32) (fV : FVec F S512 .f32) (hX : ∀ k, fX k = tgtWord i (tileOf i ids) k) (hV : ∀ k, fV k = tgtSum (tileOf i ids) (tileOf i wts) k)
    (k : PUnit → PP F i α) :
    iprop(levAts (K (F := F)).L (K (F := F)).lev ∗ wmInv (EW (F := F)) ιw
        ∗ (MX.view.loc (thr d i) ↦[Finset.univ]{fullShare} (fX : Buf (Elt F) (MX.view.loc (thr d i))))
        ∗ (MV.view.loc (thr d i) ↦[Finset.univ]{fullShare} (fV : Buf (Elt F) (MV.view.loc (thr d i))))
        ∗ (MT'.view.loc (thr d i) ↦[slab i]{fullShare} (old : Buf (Elt F) (MT'.view.loc (thr d i))))
        ∗ semVal (thr d i, SemLoc.dma cc3_scratch5.sem) 0
        ∗ owes (thr d i) O W)
      ⊢ iprop((iprop((MX.view.loc (thr d i) ↦[Finset.univ]{fullShare} (fX : Buf (Elt F) (MX.view.loc (thr d i))))
        ∗ (MV.view.loc (thr d i) ↦[Finset.univ]{fullShare} (fV : Buf (Elt F) (MV.view.loc (thr d i))))
        ∗ (MT'.view.loc (thr d i) ↦[slab i]{fullShare} (flatRes ids wts old : Buf (Elt F) (MT'.view.loc (thr d i))))
        ∗ semVal (thr d i, SemLoc.dma cc3_scratch5.sem) 0
        ∗ owes (thr d i) O (insert (SemLoc.dma cc3_scratch5.sem, (none : HIx 1)) W))
          -∗ wp frame (wpE (defs₀ (F := F)) 𝒱₀ (thr d i) none) Set.univ (k ⟨⟩) Q)
        -∗ wp frame (wpE (defs₀ (F := F)) 𝒱₀ (thr d i) none) Set.univ (outProg i >>= k) Q) := by
  have hX' : ∀ x, (fX x).toNat < S21516288.size gathers_S21516288_S512.axis := by
    intro x
    show (fX x).toNat < 21516288
    rw [hX]; exact tgtWord_lt i _ (fun _ => hI _) x
  have hG : ∀ (k : S512.Idx) (y : S21516288.Idx), (y 0).val = (fX k).toNat → flatRes ids wts old y = fV k := by
    intro k y hy; rw [hX] at hy; rw [hV]; exact res_entry i ids wts old hI k y hy
  have hmX : MX.view.set = Finset.univ := View.set_whole _
  have hmV : MV.view.set = Finset.univ := View.set_whole _
  have hsub : SparseCore.namedRows (thr d i) MT'.view gathers_S21516288_S512.axis
      (SparseCore.rows (F := F) (si := S512) (z := S21516288.size gathers_S21516288_S512.axis) fX rfl hX') ⊆ slab i := fun y hy => by
    obtain ⟨k, hk⟩ := (mem_named d i fX hX' y).mp hy
    rw [hX] at hk
    rw [mem_slab, hk]
    exact tgtWord_slab i (tileOf i ids) (fun _ => hI _) k
  have hadm := hadm_out d i fX fV hX' _ hG
  have hres : ∀ h, ∀ y ∈ slab i, ((SparseCore.namedRows (thr d i) MT'.view gathers_S21516288_S512.axis
      (SparseCore.rows (F := F) (si := S512) (z := S21516288.size gathers_S21516288_S512.axis) fX rfl h)).piecewise
        (flatRes ids wts old : Buf (Elt F) (MT'.view.loc (thr d i))) (old : Buf (Elt F) (MT'.view.loc (thr d i)))) y = flatRes ids wts old y := fun h y hy => by
    by_cases hm : y ∈ SparseCore.namedRows (thr d i) MT'.view gathers_S21516288_S512.axis
      (SparseCore.rows (F := F) (si := S512) (z := S21516288.size gathers_S21516288_S512.axis) fX rfl h)
    · exact Finset.piecewise_eq_of_mem _ _ _ hm
    · refine (Finset.piecewise_eq_of_notMem _ _ _ hm).trans (res_other i ids wts old hI y hy fun k hk => hm ?_).symm
      exact (mem_named d i fX h y).mpr ⟨k, by rw [hX]; exact hk⟩
  iintro ⟨#Hlv, #Hwm, HX, HV, HT, Hs, HO⟩ Hk
  ihave Hmw := (show levAts (K (F := F)).L (K (F := F)).lev ⊢ Transfers.MayWaits (thr d i) (default : HIx 1) O from
    (K (F := F)).mayWaits_none (thr := thr d i) hO) $$ Hlv
  ihave HX := (Entails.of_eq (show (MX.view.loc (thr d i) ↦[Finset.univ]{fullShare} (fX : Buf (Elt F) (MX.view.loc (thr d i))) : sProp 𝕄)
      = (MX.view.loc (thr d i) ↦[MX.view.set]{fullShare} (fX : Buf (Elt F) (MX.view.loc (thr d i)))) by rw [hmX])) $$ HX
  ihave HV := (Entails.of_eq (show (MV.view.loc (thr d i) ↦[Finset.univ]{fullShare} (fV : Buf (Elt F) (MV.view.loc (thr d i))) : sProp 𝕄)
      = (MV.view.loc (thr d i) ↦[MV.view.set]{fullShare} (fV : Buf (Elt F) (MV.view.loc (thr d i)))) by rw [hmV])) $$ HV
  rw [outProg_bind]
  iapply (wp_issue d i ιw hX' hsub hadm _) $$ [HX HV HT Hs]
  · isplitr; · iexact Hwm
    isplitl [HV]; · iexact HV
    isplitl [HT]; · iexact HT
    isplitl [HX]; · iexact HX
    iexact Hs
  iintro Hfl
  iapply (Transfers.wp_waitLocalO countersEmb 𝒱₀ (thr d i) none (default : HIx 1) (rfl : MV.view.dmaCredit = _)) $$ [Hfl HO]
  · isplitl [Hfl]; · iexact Hfl
    isplitl [HO]; · iexact HO
    iapply (Transfers.MayWaits.elim (SemLoc.dma cc3_scratch5.sem)) $$ Hmw
  iintro ⟨⟨HT, HV, HX⟩, Hs, HO⟩
  imod (willBeTo_castOut_some (E := Set.univ)) $$ [HT] with HT
  · isplitr; · iexact Hwm
    iexact HT
  iapply Hk
  isplitl [HX]
  · rw [hmX]; iexact HX
  isplitl [HV]
  · rw [hmV]; iexact HV
  isplitl [HT]
  · iapply (Entails.of_eq (pointsTo_congr (hres hX'))) $$ HT
  isplitl [Hs]; · iexact Hs
  iexact HO

end Cert.Proof.Kern
-- ==== Proof.Tile.lean ====
/-
  One tile's task, whole: from its stretches of the ids, of the weights and of the target to the same with the target's
  stretch at the rows' sums (`flatRes`).
-/
module

public import proofs.«01_k».proof.Proof.Out

@[expose] public section

noncomputable section

namespace Cert.Proof.Kern

open Cert.KernelIdeal Cert.KernelIdeal.Gen
open Idealize.ShloMosaic
open Idealize.ShloMosaic.SparseCore.Cfg (HIx mem_ownCells ownCells ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- The three buffers of the call, as the TensorCore names them. -/
abbrev l10 (d : Dev nD) : Loc nD τ sig := (SparseCore.T d).loc main_v10
abbrev l11 (d : Dev nD) : Loc nD τ sig := (SparseCore.T d).loc main_v11
abbrev l12 (d : Dev nD) : Loc nD τ sig := (SparseCore.T d).loc main_v12

/-- A tile's parts of the three. -/
def tilePts (d : Dev nD) (i : grid3.Coords) (ids : IVec S16384 32) (wts : FVec F S16384 .f32) (tgt : FVec F S21516288 .f32) : sProp 𝕄 :=
  iprop((l10 d ↦[stretch i]{fullShare} (ids : Buf (Elt F) (l10 d))) ∗ (l11 d ↦[stretch i]{fullShare} (wts : Buf (Elt F) (l11 d)))
    ∗ (l12 d ↦[slab i]{fullShare} (tgt : Buf (Elt F) (l12 d))))

variable (d : Dev nD) (i : grid3.Coords)

theorem pts_M10 (f : IVec S16384 32) :
    ((M10 i).view.loc (thr d i) ↦[(M10 i).view.set]{fullShare} (f : Buf (Elt F) ((M10 i).view.loc (thr d i))) : sProp 𝕄)
      = l10 d ↦[stretch i]{fullShare} (f : Buf (Elt F) (l10 d)) := by
  rw [set_M10]
theorem pts_M11 (f : FVec F S16384 .f32) :
    ((M11 i).view.loc (thr d i) ↦[(M11 i).view.set]{fullShare} (f : Buf (Elt F) ((M11 i).view.loc (thr d i))) : sProp 𝕄)
      = l11 d ↦[stretch i]{fullShare} (f : Buf (Elt F) (l11 d)) := by
  rw [set_M11]

/-- The tile's own cells of the task: two for the copies in, one for the scatter out. -/
abbrev cellA : GSem nD τ sig := (thr d i, .dma cc3_scoped0.sem)
abbrev cellB : GSem nD τ sig := (thr d i, .dma cc3_scoped1.sem)
abbrev cellC : GSem nD τ sig := (thr d i, .dma cc3_scratch5.sem)

theorem ownSems0_tile :
    (SparseCore.Cfg.ownSems0 (thr d i) : sProp 𝕄)
      = iprop(semVal (cellA d i) 0 ∗ semVal (cellB d i) 0 ∗ semVal (cellC d i) 0
          ∗ bigSep ((((ownCells (thr d i)).erase (cellA d i)).erase (cellB d i)).erase (cellC d i)) fun g => semVal g 0) := by
  unfold SparseCore.Cfg.ownSems0
  rw [SparseCore.bigSep_erase' ((mem_ownCells (g := cellA d i)).mpr ⟨rfl, by
      show (SemLoc.dma cc3_scoped0.sem : SemLoc sig).isScoped .scVector = true; decide⟩),
    SparseCore.bigSep_erase' (Finset.mem_erase.mpr ⟨by simp [cellA, cellB]; decide, (mem_ownCells (g := cellB d i)).mpr ⟨rfl, by
      show (SemLoc.dma cc3_scoped1.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d i)).mpr ⟨rfl, by show (SemLoc.dma cc3_scratch5.sem : SemLoc sig).isScoped .scVector = true; decide⟩⟩⟩)]

/-- A buffer of the tile's own, as the launch names it. -/
abbrev own (b : Ref sig .scVector) : DevRef τ sig := (thr d i).2.devRef b

theorem own_ne {b b' : Ref sig .scVector} (h : b ≠ b') : own d i b ≠ own d i b' := fun e => h (Proc.devRef_injective _ e)

/-- What is left of the tile's own buffers beside the five of its task. -/
def restRefs : Finset (DevRef τ sig) :=
  (((((ownRefs (τ := τ) (sig := sig) (thr d i).2).erase (own d i cc3_scratch0)).erase (own d i cc3_scratch1)).erase (own d i cc3_scratch2)).erase
    (own d i cc3_scratch3)).erase (own d i cc3_scratch4)

theorem ownBufs_tile :
    (SparseCore.Cfg.ownBufs (thr d i) : sProp 𝕄)
      = iprop((∃ f, (thr d i).loc cc3_scratch0 ↦{fullShare} f) ∗ (∃ f, (thr d i).loc cc3_scratch1 ↦{fullShare} f)
          ∗ (∃ f, (thr d i).loc cc3_scratch2 ↦{fullShare} f) ∗ (∃ f, (thr d i).loc cc3_scratch3 ↦{fullShare} f)
          ∗ (∃ f, (thr d i).loc cc3_scratch4 ↦{fullShare} f)
          ∗ bigSep (restRefs d i) fun b => iprop(∃ f, ((d, b) : Loc nD τ sig) ↦{fullShare} f)) := by
  have h0 : own d i cc3_scratch0 ∈ ownRefs (τ := τ) (sig := sig) (thr d i).2 := SparseCore.Cfg.mem_ownRefs_of_owner (p := (thr d i).2) rfl
  have h1 : own d i cc3_scratch1 ∈ ownRefs (τ := τ) (sig := sig) (thr d i).2 := SparseCore.Cfg.mem_ownRefs_of_owner (p := (thr d i).2) rfl
  have h2 : own d i cc3_scratch2 ∈ ownRefs (τ := τ) (sig := sig) (thr d i).2 := SparseCore.Cfg.mem_ownRefs_of_owner (p := (thr d i).2) rfl
  have h3 : own d i cc3_scratch3 ∈ ownRefs (τ := τ) (sig := sig) (thr d i).2 := SparseCore.Cfg.mem_ownRefs_of_owner (p := (thr d i).2) rfl
  have h4 : own d i cc3_scratch4 ∈ ownRefs (τ := τ) (sig := sig) (thr d i).2 := SparseCore.Cfg.mem_ownRefs_of_owner (p := (thr d i).2) rfl
  have e {s : Finset (DevRef τ sig)} {a b} (n : a ≠ b) (h : a ∈ s) : a ∈ s.erase b := Finset.mem_erase.mpr ⟨n, h⟩
  have n (b b' : Ref sig .scVector) (h : b ≠ b') := own_ne d i h
  unfold SparseCore.Cfg.ownBufs restRefs
  refine (SparseCore.bigSep_erase' h0).trans ?_
  rw [SparseCore.bigSep_erase' (e (n cc3_scratch1 cc3_scratch0 (by decide)) h1),
    SparseCore.bigSep_erase' (e (n cc3_scratch2 cc3_scratch1 (by decide)) (e (n cc3_scratch2 cc3_scratch0 (by decide)) h2)),
    SparseCore.bigSep_erase' (e (n cc3_scratch3 cc3_scratch2 (by decide)) (e (n cc3_scratch3 cc3_scratch1 (by decide))
      (e (n cc3_scratch3 cc3_scratch0 (by decide)) h3))),
    SparseCore.bigSep_erase' (e (n cc3_scratch4 cc3_scratch3 (by decide)) (e (n cc3_scratch4 cc3_scratch2 (by decide))
      (e (n cc3_scratch4 cc3_scratch1 (by decide)) (e (n cc3_scratch4 cc3_scratch0 (by decide)) h4))))]

theorem outProg_pure : (outProg i : PP F i PUnit) = outProg i >>= fun _ => pure ⟨⟩ := (bind_pure _).symm

set_option maxHeartbeats 4000000 in
/-- The task. -/
theorem tile_body (hF : (K (F := F)).Facts) (ids : IVec S16384 32) (wts : FVec F S16384 .f32) (old : FVec F S21516288 .f32)
    (hI : ∀ k, (ids k).toNat < 42024) (O : CellTallies nD τ sig (HIx 1)) (W : Waits sig (HIx 1)) (hO : ∀ g, O g none = 0) (h2 h3 h4 h5 h6 h7 h8 h9 h10) :
    iprop(levAts (K (F := F)).L (K (F := F)).lev ∗ (∃ ι, wmInv (EW (F := F)) ι)
        ∗ tilePts d i ids wts old
        ∗ scopedBufs (thr d i) ∗ scopedSems0 (thr d i) ∗ owes (thr d i) O W)
      ⊢ wp frame (wpE (defs₀ (F := F)) 𝒱₀ (thr d i) none) Set.univ
          (cc3__sc_body (F := F) i (Memref.whole main_v12_scv) h2 (Memref.whole main_v10_scv) h3 (Memref.whole main_v11_scv) h4
            (Memref.whole main_v12_scv) h5 (Memref.whole cc3_scratch0) h6 (Memref.whole cc3_scratch1) h7 (Memref.whole cc3_scratch2) h8
            (Memref.whole cc3_scratch3) h9 (Memref.whole cc3_scratch4) h10 cc3_scratch5 cc3_scoped0 cc3_scoped1)
          fun _ => iprop(tilePts d i ids wts (flatRes ids wts old)
            ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d ((i 0).castLE hcore3) ((i 1).castLE hsub3),
    SparseCore.Cfg.scopedSems0_V (Val := Elt F) d ((i 0).castLE hcore3) ((i 1).castLE hsub3), ownSems0_tile, ownBufs_tile]
  unfold bodyProg tilePts
  rw [outProg_pure]
  iintro ⟨#Hlv, ⟨%ι, #Hwm⟩, ⟨H10, H11, H12⟩, ⟨⟨%f0, HI⟩, ⟨%f1, HW⟩, ⟨%f2, HX⟩, ⟨%f3, HV⟩, ⟨%f4, HB⟩, Hbufs⟩, ⟨HsA, HsB, HsC, Hsems⟩, HO⟩
  ihave H10 := (Entails.of_eq (pts_M10 (F := F) d i ids).symm) $$ H10
  ihave H11 := (Entails.of_eq (pts_M11 (F := F) d i wts).symm) $$ H11
  iapply (wp_copies (F := F) d i O W hO ids wts f0 f1 _) $$ [H10 H11 HI HW HsA HsB HO]
  · isplitr; · iexact Hlv
    isplitl [H10]; · iexact H10
    isplitl [H11]; · iexact H11
    isplitl [HI]; · iexact HI
    isplitl [HW]; · iexact HW
    isplitl [HsA]; · iexact HsA
    isplitl [HsB]; · iexact HsB
    iexact HO
  iintro ⟨H10, H11, HI, HW, HsA, HsB, %W1, %hW1, HO⟩
  have hT : ∀ k, (tileOf i ids k).toNat < 42024 := fun _ => hI _
  ihave H : (rowInv (F := F) d i (tileOf i ids) (tileOf i wts) 0 : sProp 𝕄) $$ [HI HW HX HV HB]
  · unfold rowInv
    isplitl [HI]; · iexact HI
    isplitl [HW]; · iexact HW
    isplitl [HX]
    · iexists f2; isplitr
      · ipureintro; intro k hk; exact absurd hk (Nat.not_lt_zero _)
      · iexact HX
    isplitl [HV]
    · iexists f3; isplitr
      · ipureintro; intro k hk; exact absurd hk (Nat.not_lt_zero _)
      · iexact HV
    iexists f4; iexact HB
  iapply (wp_row (F := F) d i (tileOf i ids) (tileOf i wts) hT 0 _ _ _ 32 rfl rfl rfl rfl _ _ _) $$ H; iintro H
  iapply (wp_row (F := F) d i (tileOf i ids) (tileOf i wts) hT 1 _ _ _ 64 rfl rfl rfl rfl _ _ _) $$ H; iintro H
  iapply (wp_row (F := F) d i (tileOf i ids) (tileOf i wts) hT 2 _ _ _ 96 rfl rfl rfl rfl _ _ _) $$ H; iintro H
  iapply (wp_row (F := F) d i (tileOf i ids) (tileOf i wts) hT 3 _ _ _ 128 rfl rfl rfl rfl _ _ _) $$ H; iintro H
  iapply (wp_row (F := F) d i (tileOf i ids) (tileOf i wts) hT 4 _ _ _ 160 rfl rfl rfl rfl _ _ _) $$ H; iintro H
  iapply (wp_row (F := F) d i (tileOf i ids) (tileOf i wts) hT 5 _ _ _ 192 rfl rfl rfl rfl _ _ _) $$ H; iintro H
  iapply (wp_row (F := F) d i (tileOf i ids) (tileOf i wts) hT 6 _ _ _ 224 rfl rfl rfl rfl _ _ _) $$ H; iintro H
  iapply (wp_row (F := F) d i (tileOf i ids) (tileOf i wts) hT 7 _ _ _ 256 rfl rfl rfl rfl _ _ _) $$ H; iintro H
  iapply (wp_row (F := F) d i (tileOf i ids) (tileOf i wts) hT 8 _ _ _ 288 rfl rfl rfl rfl _ _ _) $$ H; iintro H
  iapply (wp_row (F := F) d i (tileOf i ids) (tileOf i wts) hT 9 _ _ _ 320 rfl rfl rfl rfl _ _ _) $$ H; iintro H
  iapply (wp_row (F := F) d i (tileOf i ids) (tileOf i wts) hT 10 _ _ _ 352 rfl rfl rfl rfl _ _ _) $$ H; iintro H
  iapply (wp_row (F := F) d i (tileOf i ids) (tileOf i wts) hT 11 _ _ _ 384 rfl rfl rfl rfl _ _ _) $$ H; iintro H
  iapply (wp_row (F := F) d i (tileOf i ids) (tileOf i wts) hT 12 _ _ _ 416 rfl rfl rfl rfl _ _ _) $$ H; iintro H
  iapply (wp_row (F := F) d i (tileOf i ids) (tileOf i wts) hT 13 _ _ _ 448 rfl rfl rfl rfl _ _ _) $$ H; iintro H
  iapply (wp_row (F := F) d i (tileOf i ids) (tileOf i wts) hT 14 _ _ _ 480 rfl rfl rfl rfl _ _ _) $$ H; iintro H
  iapply (wp_row (F := F) d i (tileOf i ids) (tileOf i wts) hT 15 _ _ _ 512 rfl rfl rfl rfl _ _ _) $$ H; iintro H
  unfold rowInv
  icases H with ⟨HI, HW, ⟨%fX, %hX, HX⟩, ⟨%fV, %hV, HV⟩, ⟨%fB, HB⟩⟩
  iapply (wp_out (F := F) d i O W1 hO ι ids wts old hI fX fV (fun k => hX k (k 0).isLt) (fun k => hV k (k 0).isLt) _) $$ [HX HV H12 HsC HO]
  · isplitr; · iexact Hlv
    isplitr; · iexact Hwm
    isplitl [HX]; · iexact HX
    isplitl [HV]; · iexact HV
    isplitl [H12]; · iexact H12
    isplitl [HsC]; · iexact HsC
    iexact HO
  iintro ⟨HX, HV, H12, HsC, HO⟩
  ihave H10 := (Entails.of_eq (pts_M10 (F := F) d i ids)) $$ H10
  ihave H11 := (Entails.of_eq (pts_M11 (F := F) d i wts)) $$ H11
  sl_step
  isplitl [H10 H11 H12]
  · isplitl [H10]; · iexact H10
    isplitl [H11]; · iexact H11
    iexact H12
  isplitl [HI HW HX HV HB Hbufs]
  · isplitl [HI]; · iexists _; iexact HI
    isplitl [HW]; · iexists _; iexact HW
    isplitl [HX]; · iexists _; iexact HX
    isplitl [HV]; · iexists _; iexact HV
    isplitl [HB]; · iexists _; iexact HB
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  exact hW1 p hp

end Cert.Proof.Kern
-- ==== Proof.Task.lean ====
/-
  What the call's handshakes carry, and its tasks over them: a SparseCore is handed its sixteen tiles' parts and hands
  them back with the target's at the rows' sums.
-/
module

public import proofs.«01_k».proof.Proof.Tile

@[expose] public section

noncomputable section

namespace Cert.Proof.Kern

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- Tile `s` of SparseCore `c`. -/
def tileAt (c : Fin 2) (s : Fin 16) : grid3.Coords :=
  fun | 0 => c | 1 => s | ⟨_ + 2, h⟩ => absurd h (Nat.not_lt.2 (Nat.le_add_left _ _))

variable (ids : Dev nD → IVec S16384 32) (wts : Dev nD → FVec F S16384 .f32) (old : Dev nD → FVec F S21516288 .f32)

/-- A tile's parts before the call and after it. -/
abbrev partIn (d : Dev nD) (c : Fin 2) (s : Fin 16) : sProp 𝕄 := tilePts d (tileAt c s) (ids d) (wts d) (old d)
abbrev partOut (d : Dev nD) (c : Fin 2) (s : Fin 16) : sProp 𝕄 := tilePts d (tileAt c s) (ids d) (wts d) (flatRes (ids d) (wts d) (old d))

def P : (K (F := F)).Pay (nD := nD) (Val := Elt F) (Name := ℕ) (U := UU F) where
  st := fun q d c => match q with | 0 => bigSep Finset.univ fun s : Fin 16 => partIn ids wts old d (Fin.cast nCore_zero c) s
  dn := fun q d c => match q with | 0 => bigSep Finset.univ fun s : Fin 16 => partOut ids wts old d (Fin.cast nCore_zero c) s
  go := fun q d c i => match q with | 0 => partIn ids wts old d (Fin.cast nCore_zero c) (Fin.cast nSub_zero i)
  td := fun q d c i => match q with | 0 => partOut ids wts old d (Fin.cast nCore_zero c) (Fin.cast nSub_zero i)
  x := fun _ _ => iprop(∃ ι, wmInv (EW (F := F)) ι)

instance tilePts_storable (d : Dev nD) (i : grid3.Coords) (a : IVec S16384 32) (b : FVec F S16384 .f32) (t : FVec F S21516288 .f32) :
    BI.Storable (upEmb : UEmb _ 𝕄) (tilePts d i a b t) := by
  unfold tilePts; infer_instance

instance P_storable : (P ids wts old).IsStorable where
  st q d c := match q with
    | 0 => (inferInstance : BI.Storable (upEmb : UEmb _ 𝕄) (bigSep Finset.univ fun s : Fin 16 => partIn ids wts old d (Fin.cast nCore_zero c) s))
  dn q d c := match q with
    | 0 => (inferInstance : BI.Storable (upEmb : UEmb _ 𝕄) (bigSep Finset.univ fun s : Fin 16 => partOut ids wts old d (Fin.cast nCore_zero c) s))
  go q d c i := match q with
    | 0 => (inferInstance : BI.Storable (upEmb : UEmb _ 𝕄) (partIn ids wts old d (Fin.cast nCore_zero c) (Fin.cast nSub_zero i)))
  td q d c i := match q with
    | 0 => (inferInstance : BI.Storable (upEmb : UEmb _ 𝕄) (partOut ids wts old d (Fin.cast nCore_zero c) (Fin.cast nSub_zero i)))

theorem defs₀_vector (c : Fin τ.nSC) (s : Fin τ.nSub) :
    defs₀ (F := F) (.scVector c s) 3 ()
      = SparseCore.onTile hcore3 hsub3 (fun c s => cc3__sc_body (tileAt c s) (Memref.whole main_v12_scv) (Memref.isWhole_whole _)
          (Memref.whole main_v10_scv) (Memref.isWhole_whole _) (Memref.whole main_v11_scv) (Memref.isWhole_whole _)
          (Memref.whole main_v12_scv) (Memref.isWhole_whole _) (Memref.whole cc3_scratch0) (Memref.isWhole_whole _)
          (Memref.whole cc3_scratch1) (Memref.isWhole_whole _) (Memref.whole cc3_scratch2) (Memref.isWhole_whole _)
          (Memref.whole cc3_scratch3) (Memref.isWhole_whole _) (Memref.whole cc3_scratch4) (Memref.isWhole_whole _)
          cc3_scratch5 cc3_scoped0 cc3_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] cc3__sc_body flatRes in
set_option maxRecDepth 16384 in
/-- The task's obligation, given that the ids lie in the vocabulary. -/
theorem tileObl (hI : ∀ d k, (ids d k).toNat < 42024) : (K (F := F)).TileObl (D (F := F)) 𝒱 (P ids wts old) v₀ 0 := by
  intro d c i O W hO _ _
  simp only [show (P ids wts old).ox = fun _ _ => 0 from rfl, add_zero]
  have hci : ((K (F := F)).core 0 c).val < grid3.bound 0 ∧ ((K (F := F)).sub 0 i).val < grid3.bound 1 := ⟨c.isLt, i.isLt⟩
  change _ ⊢ wp _ _ _ (Pipeline.liftProg (defs₀ (F := F) (.scVector ((K (F := F)).core 0 c) ((K (F := F)).sub 0 i)) 3 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tileAt ⟨_, hci.1⟩ ⟨_, hci.2⟩) facts (ids d) (wts d) (old d) (hI d) O W hO _ _ _ _ _ _ _ _ _).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's part is its tiles' parts. -/
theorem vecSplit : (K (F := F)).VecSplit' (P ids wts old) 0 := by
  intro d c
  show (bigSep Finset.univ fun s : Fin 16 => partIn ids wts old d (Fin.cast nCore_zero c) s) ⊢ |={Set.univ}=> iprop(
      (bigSep Finset.univ fun i : Fin ((K (F := F)).nSub 0) => partIn ids wts old d (Fin.cast nCore_zero c) (Fin.cast nSub_zero i))
      ∗ ((bigSep Finset.univ fun i : Fin ((K (F := F)).nSub 0) => partOut ids wts old d (Fin.cast nCore_zero c) (Fin.cast nSub_zero i))
          -∗ (bigSep Finset.univ fun s : Fin 16 => partOut ids wts old d (Fin.cast nCore_zero c) s)))
  rw [bigSep_tasks (F := F) (fun s => partIn ids wts old d (Fin.cast nCore_zero c) s),
    bigSep_tasks (F := F) (fun s => partOut ids wts old d (Fin.cast nCore_zero c) s)]
  iintro H; imodintro
  isplitl [H]; · iexact H
  iintro H; iexact H

/-! ## All tiles' parts together are the three buffers -/

theorem wid_tileAt (c : Fin 2) (s : Fin 16) : wid (tileAt c s) = 2 * s.val + c.val := rfl

theorem slabs_disjoint : ∀ p ∈ (Finset.univ : Finset (Fin 2 × Fin 16)), ∀ q ∈ (Finset.univ : Finset (Fin 2 × Fin 16)), p ≠ q →
    Disjoint (slab (tileAt p.1 p.2)) (slab (tileAt q.1 q.2)) := fun p _ q _ h => by
  rw [Finset.disjoint_left]
  intro y hy hy'
  rw [mem_slab, wid_tileAt] at hy hy'
  have hp := p.1.isLt; have hq := q.1.isLt
  exact h (Prod.ext (Fin.ext (by omega)) (Fin.ext (by omega)))
theorem slabs_cover : (Finset.univ : Finset (Fin 2 × Fin 16)).biUnion (fun p => slab (tileAt p.1 p.2)) = Finset.univ := by
  refine Finset.eq_univ_iff_forall.mpr fun y => Finset.mem_biUnion.mpr ?_
  have hy : (y 0).val < 21516288 := (y 0).isLt
  refine ⟨(⟨(y 0).val / 672384 % 2, by omega⟩, ⟨(y 0).val / 672384 / 2, by omega⟩), Finset.mem_univ _, (mem_slab _ y).mpr ?_⟩
  rw [wid_tileAt]
  show (2 * ((y 0).val / 672384 / 2) + (y 0).val / 672384 % 2) * 672384 ≤ _ ∧ _ < (2 * ((y 0).val / 672384 / 2) + (y 0).val / 672384 % 2) * 672384 + 672384
  omega
theorem stretches_disjoint : ∀ p ∈ (Finset.univ : Finset (Fin 2 × Fin 16)), ∀ q ∈ (Finset.univ : Finset (Fin 2 × Fin 16)), p ≠ q →
    Disjoint (stretch (tileAt p.1 p.2)) (stretch (tileAt q.1 q.2)) := fun p _ q _ h => by
  rw [Finset.disjoint_left]
  intro y hy hy'
  rw [mem_stretch, wid_tileAt] at hy hy'
  have hp := p.1.isLt; have hq := q.1.isLt
  exact h (Prod.ext (Fin.ext (by omega)) (Fin.ext (by omega)))
theorem stretches_cover : (Finset.univ : Finset (Fin 2 × Fin 16)).biUnion (fun p => stretch (tileAt p.1 p.2)) = Finset.univ := by
  refine Finset.eq_univ_iff_forall.mpr fun y => Finset.mem_biUnion.mpr ?_
  have hy : (y 0).val < 16384 := (y 0).isLt
  refine ⟨(⟨(y 0).val / 512 % 2, by omega⟩, ⟨(y 0).val / 512 / 2, by omega⟩), Finset.mem_univ _, (mem_stretch _ y).mpr ?_⟩
  rw [wid_tileAt]
  show (2 * ((y 0).val / 512 / 2) + (y 0).val / 512 % 2) * 512 ≤ _ ∧ _ < (2 * ((y 0).val / 512 / 2) + (y 0).val / 512 % 2) * 512 + 512
  omega

/-- The three buffers, whole, are the tiles' parts. -/
theorem whole_parts (d : Dev nD) (a : IVec S16384 32) (b : FVec F S16384 .f32) (t : FVec F S21516288 .f32) :
    (iprop((l10 d ↦{fullShare} (a : Buf (Elt F) (l10 d))) ∗ (l11 d ↦{fullShare} (b : Buf (Elt F) (l11 d))) ∗ (l12 d ↦{fullShare} (t : Buf (Elt F) (l12 d)))) : sProp 𝕄)
      = bigSep Finset.univ fun c : Fin 2 => bigSep Finset.univ fun s : Fin 16 => tilePts d (tileAt c s) a b t := by
  have h : (bigSep Finset.univ fun c : Fin 2 => bigSep Finset.univ fun s : Fin 16 => (tilePts d (tileAt c s) a b t : sProp 𝕄))
      = bigSep Finset.univ fun p : Fin 2 × Fin 16 => tilePts d (tileAt p.1 p.2) a b t := by
    exact (bigSep_univ_prod (fun p : Fin 2 × Fin 16 => (tilePts d (tileAt p.1 p.2) a b t : sProp 𝕄))).symm
  rw [h]
  unfold tilePts
  rw [bigSep_sep', bigSep_sep', ← pointsTo_biUnion Finset.univ (ℓ := l10 d) (fun p : Fin 2 × Fin 16 => stretch (tileAt p.1 p.2)) stretches_disjoint,
    ← pointsTo_biUnion Finset.univ (ℓ := l11 d) (fun p : Fin 2 × Fin 16 => stretch (tileAt p.1 p.2)) stretches_disjoint,
    ← pointsTo_biUnion Finset.univ (ℓ := l12 d) (fun p : Fin 2 × Fin 16 => slab (tileAt p.1 p.2)) slabs_disjoint, stretches_cover, slabs_cover]
  try rfl

end Cert.Proof.Kern
-- ==== Proof.Region0.lean ====
/-
  The first pipelined call, over blocks of queries: what its body leaves in the two output windows, and the proof data.
-/
module

public import proofs.«01_k».proof.Proof.Setup
public import Idealize.ShloMosaic.Lib.Ring
public import Idealize.ShloMosaic.Lib.WordCmp

@[expose] public section

set_option maxRecDepth 16384

noncomputable section

namespace Cert.Proof.Kern

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ (UU F) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) (HIx 1) ℕ (UU F) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) (HIx 1) ℕ (UU F) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) (HIx 1) ℕ (UU F) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) (HIx 1) ℕ (UU F) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) (HIx 1) ℕ (UU F) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S32x1024 := Rect.unit (s := S32x1024) ![0, 0] S32x1024.size inb_S32x1024_S32x1024_0_0
abbrev r0_1 : Rect S1x2048 := Rect.unit (s := S1x2048) ![0, 0] S1x2048.size inb_S1x2048_S1x2048_0_0
abbrev r0_2 : Rect S32x32x1024 := Rect.unit (s := S32x32x1024) ![0, 0, 0] S32x1x1024.size inb_S32x32x1024_S32x1x1024_0_0_0
abbrev r0_3 : Rect S32x32x1024 := Rect.unit (s := S32x32x1024) ![0, 1, 0] S32x1x1024.size inb_S32x32x1024_S32x1x1024_0_1_0
abbrev r0_4 : Rect S32x32x1024 := Rect.unit (s := S32x32x1024) ![0, 2, 0] S32x1x1024.size inb_S32x32x1024_S32x1x1024_0_2_0
abbrev r0_5 : Rect S32x32x1024 := Rect.unit (s := S32x32x1024) ![0, 3, 0] S32x1x1024.size inb_S32x32x1024_S32x1x1024_0_3_0
abbrev r0_6 : Rect S32x32x1024 := Rect.unit (s := S32x32x1024) ![0, 4, 0] S32x1x1024.size inb_S32x32x1024_S32x1x1024_0_4_0
abbrev r0_7 : Rect S32x32x1024 := Rect.unit (s := S32x32x1024) ![0, 5, 0] S32x1x1024.size inb_S32x32x1024_S32x1x1024_0_5_0
abbrev r0_8 : Rect S32x32x1024 := Rect.unit (s := S32x32x1024) ![0, 6, 0] S32x1x1024.size inb_S32x32x1024_S32x1x1024_0_6_0
abbrev r0_9 : Rect S32x32x1024 := Rect.unit (s := S32x32x1024) ![0, 7, 0] S32x1x1024.size inb_S32x32x1024_S32x1x1024_0_7_0
abbrev r0_10 : Rect S32x32x1024 := Rect.unit (s := S32x32x1024) ![0, 8, 0] S32x1x1024.size inb_S32x32x1024_S32x1x1024_0_8_0
abbrev r0_11 : Rect S32x32x1024 := Rect.unit (s := S32x32x1024) ![0, 9, 0] S32x1x1024.size inb_S32x32x1024_S32x1x1024_0_9_0
abbrev r0_12 : Rect S32x32x1024 := Rect.unit (s := S32x32x1024) ![0, 10, 0] S32x1x1024.size inb_S32x32x1024_S32x1x1024_0_10_0
abbrev r0_13 : Rect S32x32x1024 := Rect.unit (s := S32x32x1024) ![0, 11, 0] S32x1x1024.size inb_S32x32x1024_S32x1x1024_0_11_0
abbrev r0_14 : Rect S32x32x1024 := Rect.unit (s := S32x32x1024) ![0, 12, 0] S32x1x1024.size inb_S32x32x1024_S32x1x1024_0_12_0
abbrev r0_15 : Rect S32x32x1024 := Rect.unit (s := S32x32x1024) ![0, 13, 0] S32x1x1024.size inb_S32x32x1024_S32x1x1024_0_13_0
abbrev r0_16 : Rect S32x32x1024 := Rect.unit (s := S32x32x1024) ![0, 14, 0] S32x1x1024.size inb_S32x32x1024_S32x1x1024_0_14_0
abbrev r0_17 : Rect S32x32x1024 := Rect.unit (s := S32x32x1024) ![0, 15, 0] S32x1x1024.size inb_S32x32x1024_S32x1x1024_0_15_0
abbrev r0_18 : Rect S32x32x1024 := Rect.unit (s := S32x32x1024) ![0, 16, 0] S32x1x1024.size inb_S32x32x1024_S32x1x1024_0_16_0
abbrev r0_19 : Rect S32x32x1024 := Rect.unit (s := S32x32x1024) ![0, 17, 0] S32x1x1024.size inb_S32x32x1024_S32x1x1024_0_17_0
abbrev r0_20 : Rect S32x32x1024 := Rect.unit (s := S32x32x1024) ![0, 18, 0] S32x1x1024.size inb_S32x32x1024_S32x1x1024_0_18_0
abbrev r0_21 : Rect S32x32x1024 := Rect.unit (s := S32x32x1024) ![0, 19, 0] S32x1x1024.size inb_S32x32x1024_S32x1x1024_0_19_0
abbrev r0_22 : Rect S32x32x1024 := Rect.unit (s := S32x32x1024) ![0, 20, 0] S32x1x1024.size inb_S32x32x1024_S32x1x1024_0_20_0
abbrev r0_23 : Rect S32x32x1024 := Rect.unit (s := S32x32x1024) ![0, 21, 0] S32x1x1024.size inb_S32x32x1024_S32x1x1024_0_21_0
abbrev r0_24 : Rect S32x32x1024 := Rect.unit (s := S32x32x1024) ![0, 22, 0] S32x1x1024.size inb_S32x32x1024_S32x1x1024_0_22_0
abbrev r0_25 : Rect S32x32x1024 := Rect.unit (s := S32x32x1024) ![0, 23, 0] S32x1x1024.size inb_S32x32x1024_S32x1x1024_0_23_0
abbrev r0_26 : Rect S32x32x1024 := Rect.unit (s := S32x32x1024) ![0, 24, 0] S32x1x1024.size inb_S32x32x1024_S32x1x1024_0_24_0
abbrev r0_27 : Rect S32x32x1024 := Rect.unit (s := S32x32x1024) ![0, 25, 0] S32x1x1024.size inb_S32x32x1024_S32x1x1024_0_25_0
abbrev r0_28 : Rect S32x32x1024 := Rect.unit (s := S32x32x1024) ![0, 26, 0] S32x1x1024.size inb_S32x32x1024_S32x1x1024_0_26_0
abbrev r0_29 : Rect S32x32x1024 := Rect.unit (s := S32x32x1024) ![0, 27, 0] S32x1x1024.size inb_S32x32x1024_S32x1x1024_0_27_0
abbrev r0_30 : Rect S32x32x1024 := Rect.unit (s := S32x32x1024) ![0, 28, 0] S32x1x1024.size inb_S32x32x1024_S32x1x1024_0_28_0
abbrev r0_31 : Rect S32x32x1024 := Rect.unit (s := S32x32x1024) ![0, 29, 0] S32x1x1024.size inb_S32x32x1024_S32x1x1024_0_29_0
abbrev r0_32 : Rect S32x32x1024 := Rect.unit (s := S32x32x1024) ![0, 30, 0] S32x1x1024.size inb_S32x32x1024_S32x1x1024_0_30_0
abbrev r0_33 : Rect S32x32x1024 := Rect.unit (s := S32x32x1024) ![0, 31, 0] S32x1x1024.size inb_S32x32x1024_S32x1x1024_0_31_0
abbrev r0_34 : Rect S1x1 := Rect.unit (s := S1x1) ![0, 0] S1x1.size inb_S1x1_S1x1_0_0
abbrev r0_35 : Rect S32x32 := Rect.unit (s := S32x32) ![0, 0] S32x32.size inb_S32x32_S32x32_0_0
abbrev r0_36 : Rect S32x2048 := Rect.unit (s := S32x2048) ![0, 0] S32x2048.size inb_S32x2048_S32x2048_0_0

/-! ## What the body leaves in each output window's buffer -/

/-! ### Values of the body that the stores' payloads, spelt out, would write more than once

    Each is a vector the body binds (often a part call's result), stated over the input windows' blocks and
    numbered on from the skeleton's payload functions (`k0_pay20` …, after `k0_pay19`), so that
    `out0_W` and the values after it name it instead of spelling it out (`unfold_out out0_W` opens a canon
    with them, `unfold_payloads` opens them with the payloads); the comment after each is the printed function's
    name for the value (a count appended where that name is bound again). -/

def k0_pay20 (x0 : Vec F S32x1024 .f32) (x1 : Vec F S32x32x1024 .f32) (x2 : Vec F S32x32 .f32) (x3 : Vec F S1x2048 .f32) (x4 : Vec F S1x1 .f32) : FVec F S32x1024 .f32 :=
  k0_pay2 (View.ld x0 r0_0) -- `v1`
def k0_pay21 (x0 : Vec F S32x1024 .f32) (x1 : Vec F S32x32x1024 .f32) (x2 : Vec F S32x32 .f32) (x3 : Vec F S1x2048 .f32) (x4 : Vec F S1x1 .f32) : FVec F S1x1024 .f32 :=
  k0_pay3 (View.ld x3 r0_1) -- `v3`
def k0_pay22 (x0 : Vec F S32x1024 .f32) (x1 : Vec F S32x32x1024 .f32) (x2 : Vec F S32x32 .f32) (x3 : Vec F S1x2048 .f32) (x4 : Vec F S1x1 .f32) : FVec F S1x1024 .f32 :=
  k0_pay4 (View.ld x3 r0_1) -- `v4`
def k0_pay23 (x0 : Vec F S32x1024 .f32) (x1 : Vec F S32x32x1024 .f32) (x2 : Vec F S32x32 .f32) (x3 : Vec F S1x2048 .f32) (x4 : Vec F S1x1 .f32) : FVec F S32x1024 .f32 :=
  k0_pay7 (k0_pay6 (k0_pay5 (View.ld x1 r0_2) (View.ld x1 r0_3) (View.ld x1 r0_4) (View.ld x1 r0_5) (View.ld x1 r0_6) (View.ld x1 r0_7) (View.ld x1 r0_8) (View.ld x1 r0_9)) (View.ld x1 r0_10) (View.ld x1 r0_11) (View.ld x1 r0_12) (View.ld x1 r0_13) (View.ld x1 r0_14) (View.ld x1 r0_15) (View.ld x1 r0_16) (View.ld x1 r0_17) (View.ld x1 r0_18) (View.ld x1 r0_19)) (View.ld x1 r0_20) (View.ld x1 r0_21) (View.ld x1 r0_22) (View.ld x1 r0_23) (View.ld x1 r0_24) (View.ld x1 r0_25) (View.ld x1 r0_26) (View.ld x1 r0_27) (View.ld x1 r0_28) (View.ld x1 r0_29) -- `v87`
def k0_pay24 (x0 : Vec F S32x1024 .f32) (x1 : Vec F S32x32x1024 .f32) (x2 : Vec F S32x32 .f32) (x3 : Vec F S1x2048 .f32) (x4 : Vec F S1x1 .f32) : FVec F S32x32 .f32 :=
  k0_pay8 (k0_pay20 x0 x1 x2 x3 x4) (k0_pay21 x0 x1 x2 x3 x4) (k0_pay22 x0 x1 x2 x3 x4) (k0_pay23 x0 x1 x2 x3 x4) (View.ld x1 r0_30) (View.ld x1 r0_31) (View.ld x1 r0_32) (View.ld x1 r0_33) (View.ld x4 r0_34) (View.ld x2 r0_35) -- `v127`
def k0_pay25 (x0 : Vec F S32x1024 .f32) (x1 : Vec F S32x32x1024 .f32) (x2 : Vec F S32x32 .f32) (x3 : Vec F S1x2048 .f32) (x4 : Vec F S1x1 .f32) : FVec F S32 .f32 :=
  k0_pay9 (k0_pay20 x0 x1 x2 x3 x4) (k0_pay21 x0 x1 x2 x3 x4) (k0_pay22 x0 x1 x2 x3 x4) (k0_pay23 x0 x1 x2 x3 x4) (View.ld x1 r0_30) (View.ld x1 r0_31) (View.ld x1 r0_32) (View.ld x1 r0_33) (View.ld x4 r0_34) (View.ld x2 r0_35) -- `v128`
def k0_pay26 (x0 : Vec F S32x1024 .f32) (x1 : Vec F S32x32x1024 .f32) (x2 : Vec F S32x32 .f32) (x3 : Vec F S1x2048 .f32) (x4 : Vec F S1x1 .f32) : FVec F S32x32 .f32 :=
  k0_pay10 (k0_pay24 x0 x1 x2 x3 x4) (k0_pay25 x0 x1 x2 x3 x4) -- `v131`

/-- Window 5's staging buffer after the body, from the input windows' blocks: its 1 store as pieces, LAST
    FIRST (Lib/Pipeline/FrameBody.lean `View.canon`; the payloads are the skeleton's and the values stated above). -/
def out0_5 (x0 : Vec F S32x1024 .f32) (x1 : Vec F S32x32x1024 .f32) (x2 : Vec F S32x32 .f32) (x3 : Vec F S1x2048 .f32) (x4 : Vec F S1x1 .f32) : Vec F S32x32 .f32 :=
  View.canon [⟨r0_35, k0_pay10 (k0_pay24 x0 x1 x2 x3 x4) (k0_pay25 x0 x1 x2 x3 x4)⟩]

/-- Its stores tile the buffer (checked by evaluation), so they cover it. -/
theorem cover0_5 (p0 : Vec F S32x32 .f32) (y : S32x32.Idx) :
    ∃ pc ∈ ([⟨r0_35, p0⟩] : List (View.Piece (Elt F) S32x32 .f32)), y ∈ pc.1.set :=
  View.cover_of_tiled [⟨r0_35, p0⟩] S32x32.size (by rfl) y

/-- Window 6's staging buffer after the body, from the input windows' blocks: its 1 store as pieces, LAST
    FIRST (Lib/Pipeline/FrameBody.lean `View.canon`; the payloads are the skeleton's and the values stated above). -/
def out0_6 (x0 : Vec F S32x1024 .f32) (x1 : Vec F S32x32x1024 .f32) (x2 : Vec F S32x32 .f32) (x3 : Vec F S1x2048 .f32) (x4 : Vec F S1x1 .f32) : Vec F S32x2048 .f32 :=
  View.canon [⟨r0_36, k0_pay1 (k0_pay20 x0 x1 x2 x3 x4) (k0_pay17 (k0_pay26 x0 x1 x2 x3 x4) (k0_pay16 (k0_pay26 x0 x1 x2 x3 x4) (k0_pay15 (k0_pay26 x0 x1 x2 x3 x4) (k0_pay12 (k0_pay26 x0 x1 x2 x3 x4) (k0_pay11 (k0_pay24 x0 x1 x2 x3 x4) (k0_pay25 x0 x1 x2 x3 x4) (View.ld x1 r0_2) (View.ld x1 r0_3) (View.ld x1 r0_4) (View.ld x1 r0_5) (View.ld x1 r0_6) (View.ld x1 r0_7)) (View.ld x1 r0_8) (View.ld x1 r0_9) (View.ld x1 r0_10) (View.ld x1 r0_11) (View.ld x1 r0_12) (View.ld x1 r0_13)) (k0_pay13 (View.ld x1 r0_14)) (k0_pay14 (k0_pay26 x0 x1 x2 x3 x4)) (View.ld x1 r0_15) (View.ld x1 r0_16) (View.ld x1 r0_17) (View.ld x1 r0_18) (View.ld x1 r0_19) (View.ld x1 r0_20)) (View.ld x1 r0_21) (View.ld x1 r0_22) (View.ld x1 r0_23) (View.ld x1 r0_24) (View.ld x1 r0_25) (View.ld x1 r0_26) (View.ld x1 r0_27)) (View.ld x1 r0_28) (View.ld x1 r0_29) (View.ld x1 r0_30) (View.ld x1 r0_31) (View.ld x1 r0_32)) (k0_pay18 (View.ld x1 r0_33)) (k0_pay19 (k0_pay26 x0 x1 x2 x3 x4))⟩]

/-- Its stores tile the buffer (checked by evaluation), so they cover it. -/
theorem cover0_6 (p0 : Vec F S32x2048 .f32) (y : S32x2048.Idx) :
    ∃ pc ∈ ([⟨r0_36, p0⟩] : List (View.Piece (Elt F) S32x2048 .f32)), y ∈ pc.1.set :=
  View.cover_of_tiled [⟨r0_36, p0⟩] S32x2048.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S32x1024 .f32) (harg1 : arg1.IsWhole) (arg2 : Memref sig .tc .vmem S32x32x1024 .f32) (harg2 : arg2.IsWhole) (arg3 : Memref sig .tc .vmem S32x32 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S32x32 .f32) (harg6 : arg6.IsWhole) (arg7 : Memref sig .tc .vmem S32x2048 .f32) (harg7 : arg7.IsWhole)
    (x0 : Vec F S32x1024 .f32) (x1 : Vec F S32x32x1024 .f32) (x2 : Vec F S32x32 .f32) (x3 : Vec F S1x2048 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__dense_body i arg1 harg1 arg2 harg2 arg3 harg3 arg4 harg4 arg5 harg5 arg6 harg6 arg7 harg7) K := by
  simp only [cc0__dense_body_eq_skeleton]; unfold cc0__dense_body_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _)).trans ?_
  rfl

/-! ## The pipeline's proof data -/

/-- The proof data of pipeline 0 on core `c`: the arrays as the region finds them (`V`); after the body at
    point `t` each input's buffer at its block and each output's at `out0_W` of the input blocks; the invariant `Inv`; what the core owes is the
    SparseCore call's start signals;
    full shares. -/
def dat0 (c : Dev nD) : Dat τ (Elt F) (HIx 1) ℕ (UU F) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Inv spec0 c
  q _ := fullShare
  owed _ := (K (F := F)).Otc c 0
  recorded _ := {p | p.2 = none}

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt none t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt none t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt none t.succ = (dat0 V c).owesAt none t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  rfl

/-- The library's body obligation, at every point: the body's triple restated (Lib/Pipeline/FrameBody.lean `triple_restated`). -/
theorem body_obligation0 (c : Dev nD) : BodyObligation (dat0 (F := F) V c) (defs₀ (F := F)) Variants.none none Set.univ := fun t => by
  rw [bigSep_W0, bigSep_W0, defs₀_row0]
  exact triple_restated (sound_body0 V c t) rfl .rfl fun _ => .rfl

end Cert.Proof.Kern
-- ==== Proof.Region1.lean ====
/-
  The second pipelined call (the small network behind lambda): what its body leaves, and the proof data.
-/
module

public import proofs.«01_k».proof.Proof.Setup
public import Idealize.ShloMosaic.Lib.Ring
public import Idealize.ShloMosaic.Lib.WordCmp

@[expose] public section

set_option maxRecDepth 16384

noncomputable section

namespace Cert.Proof.Kern

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ (UU F) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) (HIx 1) ℕ (UU F) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) (HIx 1) ℕ (UU F) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) (HIx 1) ℕ (UU F) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) (HIx 1) ℕ (UU F) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) (HIx 1) ℕ (UU F) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x2048 := Rect.unit (s := S512x2048) ![0, 0] S512x2048.size inb_S512x2048_S512x2048_0_0
abbrev r1_1 : Rect S1024x2048 := Rect.unit (s := S1024x2048) ![0, 0] S1024x2048.size inb_S1024x2048_S1024x2048_0_0
abbrev r1_2 : Rect S1x1024 := Rect.unit (s := S1x1024) ![0, 0] S1x1024.size inb_S1x1024_S1x1024_0_0
abbrev r1_3 : Rect S1x1 := Rect.unit (s := S1x1) ![0, 0] S1x1.size inb_S1x1_S1x1_0_0
abbrev r1_4 : Rect S512x1 := Rect.unit (s := S512x1) ![0, 0] S512x1.size inb_S512x1_S512x1_0_0

/-! ## What the body leaves in each output window's buffer -/

/-- Window 5's staging buffer after the body, from the input windows' blocks: its 1 store as pieces, LAST
    FIRST (Lib/Pipeline/FrameBody.lean `View.canon`; the payloads are the skeleton's). -/
def out1_5 (x0 : Vec F S512x2048 .f32) (x1 : Vec F S1024x2048 .f32) (x2 : Vec F S1x1024 .f32) (x3 : Vec F S1x1024 .f32) (x4 : Vec F S1x1 .f32) : Vec F S512x1 .f32 :=
  View.canon [⟨r1_4, k1_pay1 (View.ld x0 r1_0) (View.ld x1 r1_1) (View.ld x2 r1_2) (View.ld x3 r1_2) (View.ld x4 r1_3)⟩]

/-- Its stores tile the buffer (checked by evaluation), so they cover it. -/
theorem cover1_5 (p0 : Vec F S512x1 .f32) (y : S512x1.Idx) :
    ∃ pc ∈ ([⟨r1_4, p0⟩] : List (View.Piece (Elt F) S512x1 .f32)), y ∈ pc.1.set :=
  View.cover_of_tiled [⟨r1_4, p0⟩] S512x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S512x2048 .f32) (harg0 : arg0.IsWhole) (arg1 : Memref sig .tc .vmem S1024x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S512x1 .f32) (harg5 : arg5.IsWhole)
    (x0 : Vec F S512x2048 .f32) (x1 : Vec F S1024x2048 .f32) (x2 : Vec F S1x1024 .f32) (x3 : Vec F S1x1024 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__mlp_body arg0 harg0 arg1 harg1 arg2 harg2 arg3 harg3 arg4 harg4 arg5 harg5) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and each output's at `out1_W` of the input blocks; the invariant `Inv`; what the core owes is the
    SparseCore call's start signals;
    full shares. -/
def dat1 (c : Dev nD) : Dat τ (Elt F) (HIx 1) ℕ (UU F) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Inv spec1 c
  q _ := fullShare
  owed _ := (K (F := F)).Otc c 0
  recorded _ := {p | p.2 = none}

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt none t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt none t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt none t.succ = (dat1 V c).owesAt none t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  rfl

/-- The library's body obligation, at every point: the body's triple restated (Lib/Pipeline/FrameBody.lean `triple_restated`). -/
theorem body_obligation1 (c : Dev nD) : BodyObligation (dat1 (F := F) V c) (defs₀ (F := F)) Variants.none none Set.univ := fun t => by
  rw [bigSep_W1, bigSep_W1, defs₀_row1]
  exact triple_restated (sound_body1 V c t) rfl .rfl fun _ => .rfl

end Cert.Proof.Kern
-- ==== Proof.Region2.lean ====
/-
  The third pipelined call (zeroing the probabilities): what its body leaves, and the proof data.
-/
module

public import proofs.«01_k».proof.Proof.Setup
public import Idealize.ShloMosaic.Lib.Ring
public import Idealize.ShloMosaic.Lib.WordCmp

@[expose] public section

set_option maxRecDepth 16384

noncomputable section

namespace Cert.Proof.Kern

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ (UU F) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses -/

abbrev r2_0 : Rect S8x42024 := Rect.unit (s := S8x42024) ![0, 0] S8x42024.size inb_S8x42024_S8x42024_0_0

/-! ## What the body leaves in each output window's buffer -/

/-- Window 0's staging buffer after the body, from the input windows' blocks: its 1 store as pieces, LAST
    FIRST (Lib/Pipeline/FrameBody.lean `View.canon`; the payloads are the skeleton's). -/
def out2_0  : Vec F S8x42024 .f32 :=
  View.canon [⟨r2_0, k2_pay1 (F := F)⟩]

/-- Its stores tile the buffer (checked by evaluation), so they cover it. -/
theorem cover2_0 (p0 : Vec F S8x42024 .f32) (y : S8x42024.Idx) :
    ∃ pc ∈ ([⟨r2_0, p0⟩] : List (View.Piece (Elt F) S8x42024 .f32)), y ∈ pc.1.set :=
  View.cover_of_tiled [⟨r2_0, p0⟩] S8x42024.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S8x42024 .f32) (harg1 : arg1.IsWhole)
     (K : PUnit → sProp 𝕄) :
    iprop((∃ d, owns (c : Thread nD τ) arg1 fullShare d)
        ∗ (iprop(owns (c : Thread nD τ) arg1 fullShare (out2_0 )) -∗ K ⟨⟩))
      ⊢ wp frame (wpE (defs₀ (F := F)) Variants.none c none) E (cc2__zero_body i arg1 harg1) K := by
  simp only [cc2__zero_body_eq_skeleton]; unfold cc2__zero_body_skel
  unfold owns
  iintro ⟨⟨%d0, %f0, -, H0⟩, Hk⟩
  sl_exec
  sl_step
  iapply Hk
  iexists _; isplitr
  swap; · iexact H0
  ipureintro
  exact View.read_writes_eq_canon _ _ _ (cover2_0 _)

/-! ## The pipeline's proof data -/

/-- The proof data of pipeline 2 on core `c`: the arrays as the region finds them (`V`); after the body at
    point `t` each input's buffer at its block and each output's at `out2_W` of the input blocks; the invariant `Inv`; what the core owes is the
    SparseCore call's start signals;
    full shares. -/
def dat2 (c : Dev nD) : Dat τ (Elt F) (HIx 1) ℕ (UU F) ℕ cfg2 c where
  A w := V c (Pipeline.arrRef spec2 w)
  after w t := match w with
    | ⟨0, _⟩ => out2_0
  Φ _ := Inv spec2 c
  q _ := fullShare
  owed _ := (K (F := F)).Otc c 0
  recorded _ := {p | p.2 = none}

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = out2_0  := by dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d)))

/-- and what it returns. -/
def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt none t.succ = (dat2 V c).owesAt none t.castSucc from rfl,
    after2_0]
  iintro ⟨HΦ, Ho, ⟨%d0, H0⟩⟩
  iapply (sound_kernel2 c Set.univ (grid2.coords t) _ _  _)
  isplitl [H0]; · iexists _; iexact H0
  iintro ⟨H0⟩
  isplitl [HΦ]; · iexact HΦ
  isplitl [Ho]; · iexact Ho
  iexact H0

/-- The body table's row at point `t`'s slots is the body as `bodyAt2` spells it. -/
theorem defs₀_row2 (t : Fin cfg2.N) :
    defs₀ (F := F) .tc cfg2.body (cfg2.bodyArgs t (cfg2.slots t)) = bodyAt2 t := by
  rfl

/-- The library's body obligation, at every point: the body's triple restated (Lib/Pipeline/FrameBody.lean `triple_restated`). -/
theorem body_obligation2 (c : Dev nD) : BodyObligation (dat2 (F := F) V c) (defs₀ (F := F)) Variants.none none Set.univ := fun t => by
  rw [bigSep_W2, bigSep_W2, defs₀_row2]
  exact triple_restated (sound_body2 V c t) rfl .rfl fun _ => .rfl

end Cert.Proof.Kern
-- ==== Proof.Chain.lean ====
/-
  The contents of the TensorCore's buffers at each boundary of @main up to the SparseCore call: a fold from the launch memory
  (`W0` … `W6`), a stretch of host operations by what it computes, a pipelined call by what its write-backs leave; and each
  argument array read back through the fold.
-/
module

public import proofs.«01_k».proof.Proof.Region0
public import proofs.«01_k».proof.Proof.Region1
public import proofs.«01_k».proof.Proof.Region2

@[expose] public section

set_option maxRecDepth 16384

noncomputable section

namespace Cert.Proof.Kern

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ (UU F) ℕ

/-- 4 host operations of @main, in order. -/
abbrev hostOps0 : List (HloOp τ sig (Elt F)) :=
  [ StableHlo.reshape main_arg0 main_v0 (rfl : (.f32 : EltTy) = .f32) shapeCasts_S16x32x1024_S512x1024,
    StableHlo.reshape main_arg1 main_v1 (rfl : (.f32 : EltTy) = .f32) shapeCasts_S16x32x32x1024_S512x32x1024,
    StableHlo.reshape main_arg3 main_v2 (rfl : (.f32 : EltTy) = .f32) shapeCasts_S16x32x32_S512x32,
    StableHlo.reshape main_arg5 main_v3 (rfl : (.f32 : EltTy) = .f32) shapeCasts_S1_S1x1 ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..⟩
/-- 2 host operations of @main, in order. -/
abbrev hostOps1 : List (HloOp τ sig (Elt F)) :=
  [ StableHlo.reshape main_arg7 main_v5 (rfl : (.f32 : EltTy) = .f32) shapeCasts_S1024_S1x1024,
    StableHlo.reshape main_arg9 main_v6 (rfl : (.f32 : EltTy) = .f32) shapeCasts_S1_S1x1 ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  ⟨StableHlo.reshape_bufs_sub .., StableHlo.reshape_bufs_sub ..⟩
/-- 4 host operations of @main, in order: the SparseCore call's operands. -/
abbrev hostOps3 : List (HloOp τ sig (Elt F)) :=
  [ StableHlo.reshape main_v8 main_v9 (rfl : (.f32 : EltTy) = .f32) shapeCasts_S512x42024_S21516288,
    StableHlo.reshape main_arg2 main_v10 (rfl : (.i32 : EltTy) = .i32) shapeCasts_S16x32x32_S16384,
    StableHlo.reshape main_v4_0 main_v11 (rfl : (.f32 : EltTy) = .f32) shapeCasts_S512x32_S16384,
    StableHlo.unary main_v9 main_v12 id ]
/-- Each touches TensorCore references only (`HostSeg.ofOps` over `StableHlo.tcRefs`, or a subset by `sub_ucRefs`). -/
theorem hostOps3_sub : (hostOps3 : List (HloOp τ sig (Elt F))).Forall fun op => op.bufs ⊆ StableHlo.tcRefs τ sig :=
  ⟨StableHlo.reshape_bufs_sub .., StableHlo.reshape_bufs_sub .., StableHlo.reshape_bufs_sub .., StableHlo.unary_bufs_sub ..⟩
/-- 2 host operations of @main, in order: the results' shapes. -/
abbrev hostOps4 : List (HloOp τ sig (Elt F)) :=
  [ StableHlo.reshape main_v12 main_v13 (rfl : (.f32 : EltTy) = .f32) shapeCasts_S21516288_S16x32x42024,
    StableHlo.reshape main_v7 main_v14 (rfl : (.f32 : EltTy) = .f32) shapeCasts_S512x1_S16x32x1 ]
/-- Each touches TensorCore references only. -/
theorem hostOps4_sub : (hostOps4 : List (HloOp τ sig (Elt F))).Forall fun op => op.bufs ⊆ StableHlo.tcRefs τ sig :=
  ⟨StableHlo.reshape_bufs_sub .., StableHlo.reshape_bufs_sub ..⟩

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5, main_v6]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v9, main_v10, main_v11, main_v12]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v13, main_v14]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

end Cert.Proof.Kern
-- ==== Proof.TcSegs.lean ====
/-
  The three pipelined calls as steps of @main. A call is entered with every unscoped buffer of the TensorCore at the
  contents of its entry boundary and left with them at its exit boundary's; all the while the TensorCore owes the start
  signals of the SparseCore call that follows (`K.Otc c 0`), and every wait it has recorded is one of its own copies'
  (`owesTc`). One construction (`regOf`) serves the three.
-/
module

public import proofs.«01_k».proof.Proof.Chain

@[expose] public section

set_option maxRecDepth 16384

noncomputable section

namespace Cert.Proof.Kern

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ (UU F) ℕ

variable (m : (ℓ : Loc nD τ sig) → Buf (Elt F) ℓ) (ρ : Dev nD → PrngReg)

/-- The prefetched tables' admissible contents: no pipeline has a table. -/
abbrev adm : (p : Fin 3) → (pcfgs (F := F) p).Adm := fun p => (cfgs p).toPCfg_adm

/-- Every pipeline's proof data, each at its call's entry contents. -/
def pdats : (p : Fin 3) → (c : Dev nD) → Dat τ (Elt F) (HIx 1) ℕ (UU F) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c

/-- The TensorCore owes the start signals, having waited on its own copies only. -/
def owesTc (c : Dev nD) : sProp 𝕄 :=
  iprop(∃ W, ⌜∀ p ∈ W, p.2 = none⌝ ∗ owes (c : Thread nD τ) ((K (F := F)).Otc c 0) W)

/-- What rides beside the buffers: the generator register at some state and what the core owes. -/
abbrev R (c : Dev nD) : sProp 𝕄 := iprop((∃ r, prngReg c r) ∗ owesTc c)

/-- A start signal is never owed at a copy's own level. -/
theorem Otc_none (d : Dev nD) (g : GSem nD τ sig) : (K (F := F)).Otc d 0 g none = 0 := by
  by_contra h
  have := SparseCore.Cfg.lev_of_Otc_pos (K := K (F := F)) (d := d) (n := 0) (g := g) (ι := none) (Nat.pos_of_ne_zero h)
  simp [SparseCore.Cfg.lev] at this

/-- Every wait of the pipelines is allowed under that debt. -/
theorem waitsOf (p : Fin 3) (c : Dev nD) (howed : ∀ t, (pdats m ρ p c).owed t = (K (F := F)).Otc c 0) :
    (levAts (K (F := F)).L (K (F := F)).lev : sProp 𝕄) ⊢ Pipeline.cellsWaits (Pipeline.pin (pcfgs (F := F)) adm) (pdats m ρ) none p c :=
  Pipeline.cellsWaits_of_cut _ (pdats m ρ) none p c 0 ((K (F := F)).Otc c 0) howed (fun _ _ => Finset.mem_univ _)
    (fun _ _ => le_rfl) (fun g i h => ⟨Finset.mem_univ _, by
      cases i with
      | none => rw [Otc_none] at h; exact absurd h (Nat.lt_irrefl 0)
      | some q => exact (K (F := F)).lev_some_pos g q⟩)

/-- A pipelined call over the thread state: entered with every unscoped buffer at `W`, left with them at `W'`, where `W'`
    has the call's arrays at what its write-backs leave (`hF`) and every other buffer as it was (`hrest`). -/
def regOf (p : Fin 3) (kit : Pipeline.LaunchFacts (nD := nD) (τ := τ) cfgs p)
    (W W' : Dev nD → Valuation τ sig (Elt F))
    (hbody : ∀ c, BodyObligation (pdats m ρ p c) (defs₀ (F := F)) Variants.none none Set.univ)
    (howed : ∀ c t, (pdats m ρ p c).owed t = (K (F := F)).Otc c 0)
    (hrec : ∀ c t, (pdats m ρ p c).recorded t = {q | q.2 = none})
    (hshare : ∀ c w, (pdats m ρ p c).share w = fullShare)
    (hΦ : ∀ c t, (pdats m ρ p c).Φ t = Inv (cfgs p).spec c)
    (hA : ∀ c w, (pdats m ρ p c).A w = W c (Proc.devRef .tc (Pipeline.arrRef (cfgs p).spec w)))
    (hF : ∀ c w, (pdats m ρ p c).arrAt w (cfgs p).N = W' c (Proc.devRef .tc (Pipeline.arrRef (cfgs p).spec w)))
    (hrest : ∀ c (b : Ref sig .tc), b ∉ Finset.univ.image (Pipeline.arrRef (cfgs p).spec) → W' c (Proc.devRef .tc b) = W c (Proc.devRef .tc b)) :
    Pipeline.RegionSeg (pcfgs (F := F)) adm (pdats m ρ) none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := waitsOf m ρ p c (howed c)
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := HIx 1) (Name := ℕ) (U := UU F) (Lvl := ℕ) (cfgs p).spec c (fun b => W c (Proc.devRef .tc b))
  hentry c := by
    rw [Pipeline.ownSems0_none]
    have hsplit := Pipeline.arrays_of_unscopedBufs (p := p) (pcfgs (F := F)) adm (pdats m ρ) kit.win kit.arr_whole c
      (hshare c) (fun b => W c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesTc
      rw [howed]
      icases HO with ⟨%W, %hW, HO⟩; iexists W; isplitr
      · ipureintro; exact fun q hq => Or.inl (by rw [hrec]; exact hW q hq)
      iexact HO
    isplitl [Hp]; · iexact Hp
    iexact Hrest
  hin c := by
    rw [hΦ]; unfold Inv
    iintro ⟨Hp, -, Hr⟩
    isplitl [Hr]; · iexact Hr
    iexact Hp
  hout c := by
    rw [Pipeline.ownSems0_none, hΦ]; unfold Inv
    iintro ⟨Hr, Hp⟩
    isplitl [Hp]; · iexact Hp
    isplitr; · iempintro
    iexact Hr
  hexit c := by
    have hjoin := Pipeline.unscopedBufs_of_arrays (p := p) (pcfgs (F := F)) adm (Ix := HIx 1) (Name := ℕ) (U := UU F) (Lvl := ℕ)
      kit.win kit.arr_whole c (pdats m ρ) (hshare c)
      (fun b => W c (Proc.devRef .tc b)) (fun b => W' c (Proc.devRef .tc b)) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin owesTc
    rw [howed]
    icases HO with ⟨%W, %hW, HO⟩; iexists W; isplitr
    · ipureintro; intro q hq
      rcases hW hq with h | h
      · rw [hrec] at h; exact h
      · obtain ⟨_, _, h⟩ := h; exact h ▸ rfl
    iexact HO

/-- The dense scores, -/
def reg0 := regOf m ρ 0 launch0 (W1 m ρ) (W2 m ρ) (body_obligation0 (V1 m ρ)) (fun _ _ => rfl) (fun _ _ => rfl)
  (fun c => (pdats m ρ 0 c).share_full fun _ => rfl) (fun _ _ => rfl) (fun c => A_eq0 (V1 m ρ) c) (hF0 m ρ) (hrest0 m ρ)
/-- the small network, -/
def reg1 := regOf m ρ 1 launch1 (W3 m ρ) (W4 m ρ) (body_obligation1 (V3 m ρ)) (fun _ _ => rfl) (fun _ _ => rfl)
  (fun c => (pdats m ρ 1 c).share_full fun _ => rfl) (fun _ _ => rfl) (fun c => A_eq1 (V3 m ρ) c) (hF1 m ρ) (hrest1 m ρ)
/-- the zeros. -/
def reg2 := regOf m ρ 2 launch2 (W4 m ρ) (W5 m ρ) (body_obligation2 (V4 m ρ)) (fun _ _ => rfl) (fun _ _ => rfl)
  (fun c => (pdats m ρ 2 c).share_full fun _ => rfl) (fun _ _ => rfl) (fun c => A_eq2 (V4 m ρ) c) (hF2 m ρ) (hrest2 m ρ)

/-- A pipelined call at its place in @main, under the program's own body table. -/
theorem wp_region {p : Fin 3} (Rg : Pipeline.RegionSeg (pcfgs (F := F)) adm (pdats m ρ) none defs₀ 𝒱₀ (K (F := F)).L (K (F := F)).lev p)
    (c : Dev nD) {α : Type} (k : PUnit → Prog (TpuEff nD τ sig (Elt F) (SparseCore.Sig (ΛP (F := F)) 1) .tc) α) (Q : α → sProp 𝕄) :
    iprop((iprop(boundary (c : Thread nD τ) ∗ Rg.post c) -∗ wp frame (wpE ((K (F := F)).defs D) 𝒱 (c : Thread nD τ) none) Set.univ (k ⟨⟩) Q)
        ∗ boundary (c : Thread nD τ) ∗ Rg.pre c ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs D) 𝒱 (c : Thread nD τ) none) Set.univ
          (Prog.lift (.customCall (SparseCore.inner (Pipeline.entry p)) ()) >>= k) Q := by
  rw [wp_bind]
  refine .trans ?_ ((K (F := F)).wp_liftProg D 𝒱 (c : Thread nD τ) Set.univ none (Prog.lift (.customCall (Pipeline.entry p) ())) _)
  refine .trans ?_ (Pipeline.RegionSeg.wp (pcfgs (F := F)) adm (pdats m ρ) none cellOf_inj EP defs₀ 𝒱₀ _ _ Rg c none
    (by intro u hu; exact absurd hu (by simp)) _ _)
  iintro ⟨Hk, Hb, Hpre, Hl, Hg, Ht⟩
  isplitl [Hk]
  · iintro H
    rw [wp_ret]; imodintro
    iapply Hk; iexact H
  isplitl [Hb]; · iexact Hb
  isplitl [Hpre]; · iexact Hpre
  isplitl [Hl]; · iexact Hl
  isplitl [Hg]; · iexact Hg
  iexact Ht

end Cert.Proof.Kern
-- ==== Proof.Main.lean ====
/-
  @main on the TensorCore: the host stretches, the three pipelined calls, the SparseCore call on what they leave, and the
  results' reshapes; and the program's run from it, with both results at the contents the fold names.
-/
module

public import proofs.«01_k».proof.Proof.Task
public import proofs.«01_k».proof.Proof.TcSegs

@[expose] public section

set_option maxRecDepth 16384

noncomputable section

namespace Cert.Proof.Kern

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (ρ : Dev nD → PrngReg)

/-! ## The SparseCore call's operands and the buffers past it -/

/-- The words the call reads, -/
def ids6 (d : Dev nD) : IVec S16384 32 := W6 m ρ d (Proc.devRef .tc main_v10)
/-- the scores beside them, -/
def wts6 (d : Dev nD) : FVec F S16384 .f32 := W6 m ρ d (Proc.devRef .tc main_v11)
/-- and what its target holds before it. -/
def old6 (d : Dev nD) : FVec F S21516288 .f32 := W6 m ρ d (Proc.devRef .tc main_v12)
/-- What the target holds after it. -/
def res7 (d : Dev nD) : FVec F S21516288 .f32 := flatRes (ids6 m ρ d) (wts6 m ρ d) (old6 m ρ d)

/-- What the call's handshakes carry. -/
abbrev PM : (K (F := F)).Pay (nD := nD) (Val := Elt F) (Name := ℕ) (U := UU F) := P (ids6 m ρ) (wts6 m ρ) (old6 m ρ)

/-- After the SparseCore call: its target at the rows' sums, every other buffer as it was. -/
def W7 (c : Dev nD) : Valuation τ sig (Elt F) := Function.update (W6 m ρ c) (Proc.devRef .tc main_v12) (res7 m ρ c)
theorem W7_target (c : Dev nD) : W7 m ρ c (Proc.devRef .tc main_v12) = res7 m ρ c := Function.update_self ..
theorem W7_ne (c : Dev nD) {b : DevRef τ sig} (h : b ≠ Proc.devRef .tc main_v12) : W7 m ρ c b = W6 m ρ c b := Function.update_of_ne h ..
/-- No argument is the call's target. -/
theorem args_ne : ∀ a ∈ argRefs, (Proc.devRef (τ := τ) .tc a) ≠ Proc.devRef .tc main_v12 := ListAll.forall_mem_of_all_decide (by decide +kernel)
theorem W7_args (c : Dev nD) : ∀ a ∈ argRefs, W7 m ρ c (Proc.devRef .tc a) = m ((c : Thread nD τ).loc a) :=
  fun a ha => (W7_ne m ρ c (args_ne a ha)).trans (W6_args m ρ c a ha)
/-- After the results' reshapes. -/
abbrev W8 : Dev nD → Valuation τ sig (Elt F) := fun c => StableHlo.after hostOps4 (W7 m ρ c)
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h
theorem W8_args (c : Dev nD) : ∀ a ∈ argRefs, W8 m ρ c (Proc.devRef .tc a) = m ((c : Thread nD τ).loc a) :=
  fun a ha => (W8_of m ρ c a (hostOps4_args a ha)).trans (W7_args m ρ c a ha)

/-! ## What the TensorCore owes, around the pipelined calls -/

theorem lev_zero_none {d : Dev nD} {p : SemLoc sig × HIx 1}
    (h : (K (F := F)).lev (SparseCore.T d, p.1) p.2 ≤ 0) : p.2 = none := by
  cases hp : p.2 with
  | none => rfl
  | some q => rw [hp] at h; exact absurd (lt_of_lt_of_le ((K (F := F)).lev_some_pos _ q) h) (Nat.lt_irrefl 0)

/-- Before the call the handshakes' state is what the core owes and a rest. -/
theorem tcSt_owes (d : Dev nD) : ((K (F := F)).tcSt EH d 0 : sProp 𝕄) ⊢ iprop(owesTc d ∗ (owesTc d -∗ (K (F := F)).tcSt EH d 0)) := by
  unfold SparseCore.Cfg.tcSt owesTc
  iintro ⟨⟨%W, %hW, HO⟩, Hrest⟩
  isplitl [HO]
  · iexists W; isplitr
    · ipureintro; exact fun p hp => lev_zero_none (hW p hp)
    iexact HO
  iintro ⟨%W', %hW', HO⟩
  isplitl [HO]
  · iexists W'; isplitr
    · ipureintro; intro p hp; show (K (F := F)).lev _ p.2 ≤ _; rw [hW' p hp]; exact Nat.zero_le _
    iexact HO
  iexact Hrest

/-! ## The call's three buffers among the TensorCore's -/

/-- The call's three buffers. -/
def scRefs : Finset (DevRef τ sig) := {Proc.devRef .tc main_v10, Proc.devRef .tc main_v11, Proc.devRef .tc main_v12}
theorem scRefs_sub : scRefs ⊆ Pipeline.ucRefs τ sig := by decide +kernel

theorem held_scRefs (d : Dev nD) (W : Valuation τ sig (Elt F)) :
    (StableHlo.held (d : Thread nD τ) scRefs W : sProp 𝕄)
      = iprop((l10 d ↦{fullShare} W (Proc.devRef .tc main_v10)) ∗ (l11 d ↦{fullShare} W (Proc.devRef .tc main_v11)) ∗ l12 d ↦{fullShare} W (Proc.devRef .tc main_v12)) := by
  unfold StableHlo.held scRefs
  rw [SparseCore.bigSep_insert' (by decide +kernel), SparseCore.bigSep_insert' (by decide +kernel), bigSep_singleton]

theorem v10_ne : (Proc.devRef (τ := τ) (sig := sig) .tc main_v10) ≠ Proc.devRef .tc main_v12 := by decide +kernel
theorem v11_ne : (Proc.devRef (τ := τ) (sig := sig) .tc main_v11) ≠ Proc.devRef .tc main_v12 := by decide +kernel

/-- The call's three buffers at its entry are every tile's parts and, -/
theorem held_in (d : Dev nD) : (StableHlo.held (d : Thread nD τ) scRefs (W6 m ρ d) : sProp 𝕄)
    = bigSep Finset.univ fun c : Fin ((K (F := F)).nCore 0) => (PM m ρ).st 0 d c := by
  rw [held_scRefs]
  exact (whole_parts d (ids6 m ρ d) (wts6 m ρ d) (old6 m ρ d)).trans
    (bigSep_cores fun c => bigSep Finset.univ fun s : Fin 16 => partIn (ids6 m ρ) (wts6 m ρ) (old6 m ρ) d c s).symm
/-- at its exit, the parts handed back. -/
theorem held_out (d : Dev nD) : (bigSep Finset.univ fun c : Fin ((K (F := F)).nCore 0) => (PM m ρ).dn 0 d c)
    = (StableHlo.held (d : Thread nD τ) scRefs (W7 m ρ d) : sProp 𝕄) := by
  rw [held_scRefs, W7_target, W7_ne m ρ d v10_ne, W7_ne m ρ d v11_ne]
  exact (bigSep_cores fun c => bigSep Finset.univ fun s : Fin 16 => partOut (ids6 m ρ) (wts6 m ρ) (old6 m ρ) d c s).trans
    (whole_parts d (ids6 m ρ d) (wts6 m ρ d) (res7 m ρ d)).symm
/-- The rest keep their contents across it. -/
theorem held_rest (d : Dev nD) : (StableHlo.held (d : Thread nD τ) (Pipeline.ucRefs τ sig \ scRefs) (W6 m ρ d) : sProp 𝕄)
    = StableHlo.held (d : Thread nD τ) (Pipeline.ucRefs τ sig \ scRefs) (W7 m ρ d) := by
  unfold StableHlo.held
  refine bigSep_congr fun b hb => ?_
  rw [W7_ne m ρ d fun h => (Finset.mem_sdiff.mp hb).2 (by rw [h]; unfold scRefs; simp)]

/-! ## @main -/

/-- @main as its stretches and calls in order. -/
theorem main_eq (d : Dev nD) : main (F := F) d
    = StableHlo.seq hostOps0 >>= fun _ => Prog.lift (.customCall (SparseCore.inner (Pipeline.entry 0)) ()) >>= fun _ =>
      StableHlo.seq hostOps1 >>= fun _ => Prog.lift (.customCall (SparseCore.inner (Pipeline.entry 1)) ()) >>= fun _ =>
      Prog.lift (.customCall (SparseCore.inner (Pipeline.entry 2)) ()) >>= fun _ =>
      StableHlo.seq hostOps3 >>= fun _ => sc.run d 0 >>= fun _ => StableHlo.seq hostOps4 >>= fun _ => pure ⟨⟩ := rfl

/-- A host stretch at its place. -/
theorem wp_host (d : Dev nD) (ops : List (HloOp τ sig (Elt F))) (hsub : ops.Forall fun op => op.bufs ⊆ StableHlo.tcRefs τ sig)
    (hfresh : ops.Forall fun op => op.fresh = ∅) (V : Valuation τ sig (Elt F)) {α : Type}
    (k : PUnit → Prog (TpuEff nD τ sig (Elt F) (SparseCore.Sig (ΛP (F := F)) 1) .tc) α) (Q : α → sProp 𝕄) :
    iprop(boundary (SparseCore.T d) ∗ StableHlo.held (SparseCore.T d) (Pipeline.ucRefs τ sig) V
        ∗ (iprop(boundary (SparseCore.T d) ∗ StableHlo.held (SparseCore.T d) (Pipeline.ucRefs τ sig) (StableHlo.after ops V))
            -∗ wp frame (wpE ((K (F := F)).defs D) 𝒱 (SparseCore.T d) none) Set.univ (k ⟨⟩) Q))
      ⊢ wp frame (wpE ((K (F := F)).defs D) 𝒱 (SparseCore.T d) none) Set.univ (StableHlo.seq ops >>= k) Q := by
  have h := StableHlo.wp_seq (Ix := HIx 1) (Name := ℕ) (U := UU F) (Lvl := ℕ) (defs := (K (F := F)).defs D) (𝒱 := 𝒱) (bd := none) (E := Set.univ) (K := Q)
    d (Pipeline.ucRefs τ sig) k ops
    (fun op ho => Pipeline.sub_ucRefs op (List.forall_iff_forall_mem.mp hsub op ho)) (List.forall_iff_forall_mem.mp hfresh) V
  iintro ⟨Hb, Hh, Hk⟩
  ihave H := h $$ [Hb Hh]
  · isplitl [Hb]; · iexact Hb
    iexact Hh
  iapply H
  iexact Hk

/-- A pipelined call at its place, from the buffers at `W` to the buffers at `W'`. -/
theorem wp_call {p : Fin 3} (Rg : Pipeline.RegionSeg (pcfgs (F := F)) adm (pdats m ρ) none defs₀ 𝒱₀ (K (F := F)).L (K (F := F)).lev p)
    (c : Dev nD) (W W' : Valuation τ sig (Elt F))
    (hpre : Rg.pre c = iprop(StableHlo.held (SparseCore.T c) (Pipeline.ucRefs τ sig) W ∗ R c))
    (hpost : Rg.post c = iprop(StableHlo.held (SparseCore.T c) (Pipeline.ucRefs τ sig) W' ∗ R c)) {α : Type}
    (k : PUnit → Prog (TpuEff nD τ sig (Elt F) (SparseCore.Sig (ΛP (F := F)) 1) .tc) α) (Q : α → sProp 𝕄) :
    iprop((iprop(boundary (SparseCore.T c) ∗ StableHlo.held (SparseCore.T c) (Pipeline.ucRefs τ sig) W' ∗ R c)
          -∗ wp frame (wpE ((K (F := F)).defs D) 𝒱 (SparseCore.T c) none) Set.univ (k ⟨⟩) Q)
        ∗ boundary (SparseCore.T c) ∗ (StableHlo.held (SparseCore.T c) (Pipeline.ucRefs τ sig) W ∗ R c) ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs D) 𝒱 (SparseCore.T c) none) Set.univ
          (Prog.lift (.customCall (SparseCore.inner (Pipeline.entry p)) ()) >>= k) Q := by
  rw [← hpre, ← hpost]; exact wp_region m ρ Rg c k Q

theorem bigSep_three (Φ : Fin 3 → sProp 𝕄) : bigSep Finset.univ Φ = iprop(Φ 0 ∗ Φ 1 ∗ Φ 2) := by
  rw [show (Finset.univ : Finset (Fin 3)) = {0, 1, 2} from by decide, SparseCore.bigSep_insert' (by decide), SparseCore.bigSep_insert' (by decide), bigSep_singleton]

/-- The pipelines' launch ghost state on one device. -/
def G (d : Dev nD) : sProp 𝕄 :=
  iprop((bigSep Finset.univ fun p : Fin 3 => Pipeline.cellsGhost (Pipeline.pin (pcfgs (F := F)) adm) EP p d)
    ∗ bigSep Finset.univ fun p : Fin 3 => Pipeline.toksInit (Pipeline.pin (pcfgs (F := F)) adm) EP p d)

/-- What @main leaves: every unscoped buffer of its TensorCore at the fold's last contents. -/
def FIN (d : Dev nD) : sProp 𝕄 := StableHlo.held (SparseCore.T d) (Pipeline.ucRefs τ sig) (W8 m ρ d)

/-- @main on device `d`'s TensorCore. -/
theorem hmain (κ : GSem nD τ sig → ℕ) (d : Dev nD) :
    iprop((K (F := F)).ctx EH (PM m ρ) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m ρ d ∗ (K (F := F)).tcEnd d) := by
  unfold SparseCore.Cfg.tcRes SparseCore.Cfg.tcEnd G FIN
  rw [bigSep_three, bigSep_three, main_eq]
  have h0 : (unscopedBufs d (fun b => m ((SparseCore.T d).loc b)) : sProp 𝕄) = StableHlo.held (SparseCore.T d) (Pipeline.ucRefs τ sig) (W0 m ρ d) :=
    Pipeline.unscopedBufs_held d (W0 m ρ d)
  rw [h0]
  iintro ⟨#Hctx, Hst, ⟨Hb, Hh, Hts, Hp⟩, ⟨Hg0, Hg1, Hg2⟩, Ht0, Ht1, Ht2⟩
  ihave #Hlev := (SparseCore.Cfg.ctx_levAts (K := K (F := F)) (EH := EH) (P := PM m ρ) κ) $$ Hctx
  ihave H := (tcSt_owes d) $$ Hst
  icases H with ⟨HO, Hst⟩
  iapply (wp_host d hostOps0 hostOps0_sub hostOps0_fresh (W0 m ρ d) _ _)
  isplitl [Hb]; · iexact Hb
  isplitl [Hh]; · iexact Hh
  iintro ⟨Hb, Hh⟩
  iapply (wp_call m ρ (reg0 m ρ) d (W1 m ρ d) (W2 m ρ d) rfl rfl _ _)
  isplitr [Hb Hh Hp HO Hg0 Ht0]
  rotate_left
  · isplitl [Hb]; · iexact Hb
    isplitl [Hh Hp HO]
    · isplitl [Hh]; · iexact Hh
      isplitl [Hp]; · iexists _; iexact Hp
      iexact HO
    isplitr; · iexact Hlev
    isplitl [Hg0]; · iexact Hg0
    iexact Ht0
  iintro ⟨Hb, Hh, HR⟩
  iapply (wp_host d hostOps1 hostOps1_sub hostOps1_fresh (W2 m ρ d) _ _)
  isplitl [Hb]; · iexact Hb
  isplitl [Hh]; · iexact Hh
  iintro ⟨Hb, Hh⟩
  iapply (wp_call m ρ (reg1 m ρ) d (W3 m ρ d) (W4 m ρ d) rfl rfl _ _)
  isplitr [Hb Hh HR Hg1 Ht1]
  rotate_left
  · isplitl [Hb]; · iexact Hb
    isplitl [Hh HR]
    · isplitl [Hh]; · iexact Hh
      iexact HR
    isplitr; · iexact Hlev
    isplitl [Hg1]; · iexact Hg1
    iexact Ht1
  iintro ⟨Hb, Hh, HR⟩
  iapply (wp_call m ρ (reg2 m ρ) d (W4 m ρ d) (W5 m ρ d) rfl rfl _ _)
  isplitr [Hb Hh HR Hg2 Ht2]
  rotate_left
  · isplitl [Hb]; · iexact Hb
    isplitl [Hh HR]
    · isplitl [Hh]; · iexact Hh
      iexact HR
    isplitr; · iexact Hlev
    isplitl [Hg2]; · iexact Hg2
    iexact Ht2
  iintro ⟨Hb, Hh, -, HO⟩
  iapply (wp_host d hostOps3 hostOps3_sub hostOps3_fresh (W5 m ρ d) _ _)
  isplitl [Hb]; · iexact Hb
  isplitl [Hh]; · iexact Hh
  iintro ⟨Hb, Hh⟩
  ihave Hst := Hst $$ HO
  ihave H := (Entails.of_eq (StableHlo.held_sub_split (SparseCore.T d) scRefs_sub (W6 m ρ d))) $$ Hh
  icases H with ⟨Hsc, Hh⟩
  rw [wp_bind]
  iapply ((K (F := F)).wp_run (D (F := F)) 𝒱 (EH := EH) (P := PM m ρ) κ d 0)
  isplitr; · iexact Hctx
  isplitl [Hst]; · iexact Hst
  isplitl [Hsc]; · iapply (Entails.of_eq (held_in m ρ d)); iexact Hsc
  iintro ⟨Hst, Hdn⟩
  ihave Hsc := (Entails.of_eq (held_out m ρ d)) $$ Hdn
  ihave Hh := (Entails.of_eq (held_rest m ρ d)) $$ Hh
  ihave Hh := (Entails.of_eq (StableHlo.held_sub_split (SparseCore.T d) scRefs_sub (W7 m ρ d)).symm) $$ [Hsc Hh]
  · isplitl [Hsc]; · iexact Hsc
    iexact Hh
  iapply (wp_host d hostOps4 hostOps4_sub hostOps4_fresh (W7 m ρ d) _ _)
  isplitl [Hb]; · iexact Hb
  isplitl [Hh]; · iexact Hh
  iintro ⟨Hb, Hh⟩
  rw [wp_pure]
  imodintro
  isplitl [Hst]; · iexact Hst
  isplitl [Hh]; · iexact Hh
  isplitl [Hb]; · iexact Hb
  iexact Hts

/-! ## The launch -/

/-- The launch element: the handshakes' rounds, the pipelines', and the shared target's write mode. -/
def u₀ : UU F :=
  (initOf (K (F := F)).hsCells (K (F := F)).hsToks,
    (initOf (Pipeline.cells cfgs cellOf_inj) (Pipeline.launchToks cfgs cellOf_inj), (wm₀ nD τ sig (Elt F), 1)))

/-- The program's own element is the pipelines' rounds and the write mode's. -/
theorem own_parts : (BI.own ((embR : Emb (UP × (UW F × Counters)) 𝕄)
      (initOf (Pipeline.cells cfgs cellOf_inj) (Pipeline.launchToks cfgs cellOf_inj), (wm₀ nD τ sig (Elt F), 1))) : sProp 𝕄)
    ⊢ iprop(BI.own ((EP : Emb UP 𝕄) (initOf (Pipeline.cells cfgs cellOf_inj) (Pipeline.launchToks cfgs cellOf_inj))) ∗ ownU (EW (wm₀ nD τ sig (Elt F)))) := by
  have h := own_pair_emb (A := UP) (B := UW F × Counters) (embR : Emb (UP × (UW F × Counters)) 𝕄)
    (initOf (Pipeline.cells cfgs cellOf_inj) (Pipeline.launchToks cfgs cellOf_inj)) (wm₀ nD τ sig (Elt F), 1)
  have e : (BI.own (((Emb.inr : Emb (UW F × Counters) (UP × (UW F × Counters))).trans (embR : Emb (UP × (UW F × Counters)) 𝕄)) (wm₀ nD τ sig (Elt F), 1)) : sProp 𝕄)
      = ownU (EW (wm₀ nD τ sig (Elt F))) := rfl
  rw [e] at h
  exact h

/-- Every thread may hold the write mode's invariant. -/
theorem share_wm : iprop(∃ ι, wmInv (EW (F := F)) ι) ⊢ (bigSep Finset.univ fun thr : Thread nD τ => bigSep Finset.univ fun q : Fin 1 => (PM m ρ).x q thr : sProp 𝕄) := by
  refine BI.bigSep_intro_persistent fun thr _ => BI.bigSep_intro_persistent fun q _ => ?_
  exact .rfl

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PM m ρ).x q thr) := by
  unfold u₀
  iintro Hu
  ihave H := (ownU_pair (initOf (K (F := F)).hsCells (K (F := F)).hsToks) _) $$ Hu
  icases H with ⟨HH, Hr⟩
  ihave H := own_parts $$ Hr
  icases H with ⟨HP, HW⟩
  imod (wmInv_alloc (emb := EW) (s₀ m ρ)) $$ HW with ⟨%ι, H⟩
  imod (Pipeline.fund_ghost (cfgs) EP cellOf_inj) $$ HP with ⟨Hg, Ht⟩
  imodintro
  isplitl [HH]; · iexact HH
  isplitl [Hg Ht]
  · unfold G; rw [bigSep_sep']
    isplitl [Hg]; · iexact Hg
    iexact Ht
  icases H with ⟨-, #Hwm⟩
  iapply (share_wm m ρ)
  iexists ι; iexact Hwm

/-- What the run leaves on a device: every unscoped buffer at the fold's last contents. -/
def fq (d : Dev nD) (s' : Phys nD τ sig (Elt F)) : Prop := ∀ b ∈ Pipeline.ucRefs τ sig, s'.mem.mem (d, b) = W8 m ρ d b

theorem hfin (d : Dev nD) (s' : Phys nD τ sig (Elt F)) : iprop(FIN m ρ d ∗ SI s') ⊢ (⌜fq m ρ d s'⌝ : sProp 𝕄) := by
  unfold FIN StableHlo.held
  exact (pointsTo_read_all (Pipeline.ucRefs τ sig) (fun b => (d, b)) (fun b => W8 m ρ d b) s').trans sep_elim_left

/-- The program's run: it ends with every unscoped buffer of each TensorCore at the fold's last contents, every semaphore at zero. -/
theorem run_main [∀ e, Nonempty (Elt F e)] (hI : ∀ d k, (ids6 m ρ d k).toNat < 42024) :
    θ_run (Cert.KernelIdeal.defs (F := F)) (Cert.KernelIdeal.threads (F := F)) ⟨m, fun _ => 0, ρ⟩
      (fun r => (∀ d, ∀ b ∈ Pipeline.ucRefs τ sig, r.2.mem (d, b) = W8 m ρ d b) ∧ r.2.sem = fun _ => 0) :=
  SparseCore.Cfg.θ_run_sc_quiescent (K := K (F := F)) (D := D (F := F)) (𝒱 := 𝒱) (EH := EH) (P := PM m ρ) (A := ∅) facts v₀
    (fun q hq => match q with | 0 => nomatch hq)
    (fun q _ => match q with | 0 => tileObl (ids6 m ρ) (wts6 m ρ) (old6 m ρ) hI)
    (fun q _ => match q with | 0 => SparseCore.Cfg.VecSplit.of_plain (vecSplit (ids6 m ρ) (wts6 m ρ) (old6 m ρ)))
    m ρ main (fun d => G d) (FIN m ρ) (u₀ (F := F)) (sep_elim_left.trans (hu₀ m ρ)) (hmain m ρ) (fq m ρ) (hfin m ρ) _ (fun _ h hz => ⟨h, hz⟩)

end Cert.Proof.Kern
-- ==== Proof.Same.lean ====
/-
  The printed program and the ideal one run the same bodies: no operation of the printed one has an ideal rewrite, so the
  two tables of bodies are equal, label by label.
-/
module
public import proofs.«01_k».proof.Kernel
public import proofs.«01_k».proof.KernelIdeal
public import proofs.«01_k».proof.Proof.Gen.Kernel
public import proofs.«01_k».proof.Proof.Gen.KernelIdeal
@[expose] public section

set_option maxRecDepth 16384

namespace Cert.Proof.Kern

open Idealize.ShloMosaic

variable {F : FTy → Type} [FloatOps F]

set_option maxHeartbeats 8000000 in
/-- The bodies, -/
theorem defs₀_eq : (@Cert.Kernel.defs₀ F _ Cert.Kernel.Gen.facts) = @Cert.KernelIdeal.defs₀ F _ Cert.KernelIdeal.Gen.facts := by
  funext p ℓ a
  match p, ℓ, a with
  | .tc, ⟨0, _⟩, (t, s) => rfl
  | .tc, ⟨1, _⟩, (t, s) => rfl
  | .tc, ⟨2, _⟩, (t, s) => rfl
  | .tc, ⟨3, _⟩, _ => rfl
  | .scScalar _, ⟨0, _⟩, _ => rfl
  | .scScalar _, ⟨1, _⟩, _ => rfl
  | .scScalar _, ⟨2, _⟩, _ => rfl
  | .scScalar _, ⟨3, _⟩, _ => rfl
  | .scVector _ _, ⟨0, _⟩, _ => rfl
  | .scVector _ _, ⟨1, _⟩, _ => rfl
  | .scVector _ _, ⟨2, _⟩, _ => rfl
  | .scVector _ _, ⟨3, _⟩, _ => rfl
set_option maxHeartbeats 8000000 in
/-- and with the calls around them. -/
theorem defs_eq : (@Cert.Kernel.defs F _ Cert.Kernel.Gen.facts) = @Cert.KernelIdeal.defs F _ Cert.KernelIdeal.Gen.facts := by
  show Cert.Kernel.sc.defs (Pipeline.defs Cert.Kernel.pcfgs Cert.Kernel.defs₀) = _
  rw [defs₀_eq]; rfl

end Cert.Proof.Kern
-- ==== Proof.Frames.lean ====
/-
  The frames: the kernel's two programs from the one run, read at the argument arrays, and the reference's. The
  precondition on `vals` is what makes every index the call reads a column of the target.
-/
module

public import proofs.«01_k».proof.Defs
public import proofs.«01_k».proof.Proof.Main
public import proofs.«01_k».proof.Proof.Same
public import proofs.«01_k».proof.Proof.Gen.Pre_pre_vals
public import proofs.«01_k».proof.Proof.Gen.Kernel
public import proofs.«01_k».proof.Proof.Gen.ReferenceIdeal.Run
public import Idealize.ShloMosaic.Lib.ReduceAll

@[expose] public section

set_option maxRecDepth 16384

noncomputable section

namespace Cert.Proof.Kern

open Cert.KernelIdeal Cert.KernelIdeal.Gen
open Idealize.ShloMosaic Idealize.ShloMosaic.TcCoe
open Idealize.SL.Sem

variable {F : FTy → Type} [FloatOps F]

/-! ## The precondition -/

/-- A word that is at least zero and below 42024 as a signed word is below 42024 as it stands. -/
theorem word_in_range (v : BitVec 32) (e : IntOp.andi (IntOp.cmpi .sge v 0#32) (IntOp.cmpi .slt v 42024#32) = 1#1) : v.toNat < 42024 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton Cert.Pre_pre_vals.S_.Idx := ⟨fun a b => funext fun k => k.elim0⟩

/-- The predicate at all ones bounds every entry of `vals`. -/
theorem vals_of_pre (a0 : FVec F S16x32x1024 .f32) (a1 : FVec F S16x32x32x1024 .f32) (a2 : IVec S16x32x32 32) (a3 : FVec F S16x32x32 .f32)
    (a4 : FVec F S1x2048 .f32) (a5 : FVec F S1 .f32) (a6 : FVec F S1024x2048 .f32) (a7 : FVec F S1024 .f32) (a8 : FVec F S1x1024 .f32) (a9 : FVec F S1 .f32)
    (h : (haveI := Cert.Pre_pre_vals.Gen.facts; Cert.Pre_pre_vals.fn a0 a1 a2 a3 a4 a5 a6 a7 a8 a9) = fun _ => 1#1) (i : S16x32x32.Idx) : (a2 i).toNat < 42024 := by
  have e := congrFun h (fun k => k.elim0)
  unfold Cert.Pre_pre_vals.fn at e
  exact word_in_range _ (Host.reduce_andi_all _ _ _ _ _ e i)

variable (m : (ℓ : Loc nD τ sig) → Buf (Elt F) ℓ) (ρ : Dev nD → PrngReg)

/-- The words the call reads are `vals`, flattened. -/
theorem ids6_eq (d : Dev nD) : ids6 m ρ d = shapeCast S16384 (m ((d : Thread nD τ).loc main_arg2)) shapeCasts_S16x32x32_S16384 := by
  rw [← W5_args m ρ d main_arg2 (by decide)]
  rfl

/-- So each is below the number of words in a row. -/
theorem ids6_lt (hv : ∀ (d : Dev nD) (i : S16x32x32.Idx), (m ((d : Thread nD τ).loc main_arg2) i : BitVec 32).toNat < 42024) (d : Dev nD) (k : S16384.Idx) :
    (ids6 m ρ d k).toNat < 42024 := by
  rw [ids6_eq]; exact hv d _

/-! ## The run read at the arguments -/

/-- Every argument is one of the buffers the run is read at. -/
theorem arg_uc : ∀ a ∈ argRefs, Proc.devRef (τ := τ) .tc a ∈ Pipeline.ucRefs τ sig := ListAll.forall_mem_of_all_decide (by decide +kernel)

/-- The kernel's run, over any float values: the arguments as they were, every semaphore at zero. -/
theorem run_args [∀ e, Nonempty (Elt F e)] (hv : ∀ (d : Dev nD) (i : S16x32x32.Idx), (m ((d : Thread nD τ).loc main_arg2) i : BitVec 32).toNat < 42024) :
    θ_run (Cert.KernelIdeal.defs (F := F)) (Cert.KernelIdeal.threads (F := F)) ⟨m, fun _ => 0, ρ⟩
      (fun r => (∀ d : Dev nD, ∀ a ∈ argRefs, r.2.mem ((d : Thread nD τ).loc a) = m ((d : Thread nD τ).loc a)) ∧ r.2.sem = fun _ => 0) :=
  (θ_run (Cert.KernelIdeal.defs (F := F)) _ _).mono
    (fun r h => ⟨fun d a ha => (h.1 d _ (arg_uc a ha)).trans (W8_args m ρ d a ha), h.2⟩) (run_main m ρ (ids6_lt m ρ hv))

/-- The run as the frames state it. -/
theorem run_frame [∀ e, Nonempty (Elt F e)] (hv : ∀ (d : Dev nD) (i : S16x32x32.Idx), (m ((d : Thread nD τ).loc main_arg2) i : BitVec 32).toNat < 42024) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)
      ∧ r.2.mem ((c.tc : Thread nD τ).loc main_arg6) = m ((c.tc : Thread nD τ).loc main_arg6) ∧ r.2.mem ((c.tc : Thread nD τ).loc main_arg7) = m ((c.tc : Thread nD τ).loc main_arg7)
      ∧ r.2.mem ((c.tc : Thread nD τ).loc main_arg8) = m ((c.tc : Thread nD τ).loc main_arg8) ∧ r.2.mem ((c.tc : Thread nD τ).loc main_arg9) = m ((c.tc : Thread nD τ).loc main_arg9))
      ∧ r.2.sem = fun _ => 0) :=
  (θ_run Cert.KernelIdeal.defs _ _).mono
    (fun r h => ⟨fun c => ⟨h.1 c main_arg0 (by decide), h.1 c main_arg1 (by decide), h.1 c main_arg2 (by decide), h.1 c main_arg3 (by decide),
      h.1 c main_arg4 (by decide), h.1 c main_arg5 (by decide), h.1 c main_arg6 (by decide), h.1 c main_arg7 (by decide), h.1 c main_arg8 (by decide),
      h.1 c main_arg9 (by decide)⟩, h.2⟩)
    (run_args m ρ hv)

/-- The ideal program's frame. -/
theorem frame_kernelIdeal : (haveI := Cert.Pre_pre_vals.Gen.facts; haveI := Cert.KernelIdeal.Gen.facts; Cert.quiescent_KernelIdeal) := fun m ρ hpre =>
  run_frame (F := Ideal) m ρ fun d i => vals_of_pre _ _ _ _ _ _ _ _ _ _ (hpre d) i

/-- The printed program's frame. -/
theorem frame_kernel : (haveI := Cert.Pre_pre_vals.Gen.facts; haveI := Cert.Kernel.Gen.facts; Cert.quiescent_Kernel) := fun m ρ hpre => by
  have h := run_frame (F := Bits) m ρ fun d i => vals_of_pre _ _ _ _ _ _ _ _ _ _ (hpre d) i
  rw [← defs_eq] at h
  exact h

end Cert.Proof.Kern

end
-- ==== Proof.RefFrame.lean ====
/-
  The reference's frame.
-/
module
public import proofs.«01_k».proof.Proof.Gen.ReferenceIdeal
public import proofs.«01_k».proof.Proof.Gen.ReferenceIdeal.Run
public import proofs.«01_k».proof.Defs
public import Idealize.ShloMosaic.Lib.Quiescent
@[expose] public section

namespace Cert.Proof.Kern

open Idealize.ShloMosaic

/-- The reference ends with its arguments unchanged; it has no semaphore at all. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

end Cert.Proof.Kern
-- ==== Proof.Spec.lean ====
/-
  The model, one row at a time, in plain sums over the extended reals.
-/
module

public import Idealize.ShloMosaic.PureOps.Ideal

@[expose] public section

noncomputable section

namespace Cert.Proof.Row

open Idealize.ShloMosaic

/-- The logarithm of the bandwidth: the query's and the mean key's products with the two halves of the weight row. -/
def bwLog (q : Fin 1024 → EReal) (key : Fin 32 → Fin 1024 → EReal) (fw : Fin 2048 → EReal) (fb : EReal) : EReal :=
  (∑ j : Fin 1024, q j * fw ⟨j.val, by omega⟩)
    + (∑ j : Fin 1024, Ideal.div (∑ k : Fin 32, key k j) (Ideal.ofBits .f32 0x42000000#32) * fw ⟨1024 + j.val, by omega⟩) + fb

/-- The scaled distance of a row's entry. -/
def sd (q : Fin 1024 → EReal) (key : Fin 32 → Fin 1024 → EReal) (ds : Fin 32 → EReal) (fw : Fin 2048 → EReal) (fb : EReal) (k : Fin 32) : EReal :=
  Ideal.div (-Ideal.sqrt (ds k)) (Ideal.exp (bwLog q key fw fb))

/-- The weights before they are normalised, by a row's scaled distances, -/
def expo (s : Fin 32 → EReal) (k : Fin 32) : EReal :=
  Ideal.exp (s k - Finset.univ.fold max (Ideal.ofBits .f32 0xFF800000#32) s)

/-- the weights, -/
def weight (s : Fin 32 → EReal) (k : Fin 32) : EReal := Ideal.div (expo s k) (∑ l : Fin 32, expo s l)

/-- the query beside the weighted sum of the keys, -/
def mixed (q : Fin 1024 → EReal) (key : Fin 32 → Fin 1024 → EReal) (w : Fin 32 → EReal) (j : Fin 2048) : EReal :=
  if h : j.val < 1024 then q ⟨j.val, h⟩ else ∑ k : Fin 32, w k * key k ⟨j.val - 1024, by omega⟩

/-- and the mixing coefficient. -/
def lam (x : Fin 2048 → EReal) (w1 : Fin 1024 → Fin 2048 → EReal) (b1 : Fin 1024 → EReal) (w2 : Fin 1024 → EReal) (b2 : EReal) : EReal :=
  Ideal.div 1 (1 + Ideal.exp (-((∑ o : Fin 1024, max ((∑ j : Fin 2048, x j * w1 o j) + b1 o) 0 * w2 o) + b2)))

/-! ## Equal inputs, entry by entry -/

/-- `sd` of equal arguments. -/
theorem sd_congr {q q' : Fin 1024 → EReal} {key key' : Fin 32 → Fin 1024 → EReal} {ds ds' : Fin 32 → EReal} {fw fw' : Fin 2048 → EReal} {fb fb' : EReal}
    (h0 : ∀ j, q j = q' j) (h1 : ∀ k j, key k j = key' k j) (h2 : ∀ k, ds k = ds' k) (h3 : ∀ j, fw j = fw' j) (h4 : fb = fb') :
    sd q key ds fw fb = sd q' key' ds' fw' fb' := by
  obtain rfl := funext h0; obtain rfl := funext fun k => funext (h1 k); obtain rfl := funext h2; obtain rfl := funext h3; rw [h4]

/-- `mixed` of equal arguments. -/
theorem mixed_congr {q q' : Fin 1024 → EReal} {key key' : Fin 32 → Fin 1024 → EReal} {w w' : Fin 32 → EReal}
    (h0 : ∀ j, q j = q' j) (h1 : ∀ k j, key k j = key' k j) (h2 : w = w') : mixed q key w = mixed q' key' w' := by
  obtain rfl := funext h0; obtain rfl := funext fun k => funext (h1 k); rw [h2]

/-- `lam` of equal arguments. -/
theorem lam_congr {x x' : Fin 2048 → EReal} {w1 w1' : Fin 1024 → Fin 2048 → EReal} {b1 b1' w2 w2' : Fin 1024 → EReal} {b2 b2' : EReal}
    (h0 : ∀ j, x j = x' j) (h1 : ∀ o j, w1 o j = w1' o j) (h2 : ∀ o, b1 o = b1' o) (h3 : ∀ o, w2 o = w2' o) (h4 : b2 = b2') :
    lam x w1 b1 w2 b2 = lam x' w1' b1' w2' b2' := by
  obtain rfl := funext h0; obtain rfl := funext fun k => funext (h1 k); obtain rfl := funext h2; obtain rfl := funext h3; rw [h4]

end Cert.Proof.Row
-- ==== Proof.DenseValue.lean ====
/-
  What the first pipelined call stores, at an index.
-/
module

public import proofs.«01_k».proof.Proof.Region0
public import proofs.«01_k».proof.Proof.Spec
public import Idealize.ShloMosaic.Lib.Pointwise
public import Idealize.ShloMosaic.Lib.Pipeline.ValueKit

@[expose] public section

set_option maxRecDepth 16384

noncomputable section

namespace Cert.Proof.Kern

open Cert.KernelIdeal Cert.KernelIdeal.Gen
open Idealize.ShloMosaic

variable (x0 : Vec Ideal S32x1024 .f32) (x1 : Vec Ideal S32x32x1024 .f32) (x2 : Vec Ideal S32x32 .f32) (x3 : Vec Ideal S1x2048 .f32) (x4 : Vec Ideal S1x1 .f32)

/-- The word of a thirty-second, -/
theorem ofBits_inv32 : Ideal.ofBits .f32 0x3D000000#32 = ((1 / 32 : ℝ) : EReal) := by
  simp [Ideal.ofBits, Ideal.ieee]
  rw [← EReal.coe_mul]; norm_num

/-- the word of thirty-two, -/
theorem ofBits_32 : Ideal.ofBits .f32 0x42000000#32 = ((32 : ℝ) : EReal) := by
  simp [Ideal.ofBits, Ideal.ieee]
  rw [← EReal.coe_mul]; norm_num

/-- and the mean by the one or the other. -/
theorem mul_inv32 (x : EReal) : x * Ideal.ofBits .f32 0x3D000000#32 = Ideal.div x (Ideal.ofBits .f32 0x42000000#32) := by
  rw [ofBits_inv32, ofBits_32]
  unfold Ideal.div
  rw [if_neg (by exact_mod_cast (by norm_num : (32 : ℝ) ≠ 0)), ← EReal.coe_inv]
  norm_num

/-- Thirty-two terms added in turn. -/
theorem sum_thirtytwo (f : Fin 32 → EReal) : f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 = ∑ k : Fin 32, f k := by
  simp only [Fin.sum_univ_castSucc, Fin.sum_univ_zero, zero_add]
  rfl

/-- The first result's block is one whole store: -/
theorem out0_5_eq : out0_5 x0 x1 x2 x3 x4 = k0_pay10 (k0_pay24 x0 x1 x2 x3 x4) (k0_pay25 x0 x1 x2 x3 x4) := by
  unfold out0_5; frame_out

/-- at a row and an entry, the row's weight; -/
theorem weights_apply (r k : Fin 32) :
    out0_5 x0 x1 x2 x3 x4 (ix2 r k)
      = Row.weight (Row.sd (fun j => x0 (ix2 r j)) (fun k j => x1 (ix3 r k j)) (fun k => x2 (ix2 r k)) (fun j => x3 (ix2 0 j)) (x4 (ix2 0 0))) k := by
  rw [out0_5_eq]
  unfold k0_pay24 k0_pay25 k0_pay23 k0_pay22 k0_pay21 k0_pay20
  pointwise [k0_pay10, k0_pay9, k0_pay8, k0_pay7, k0_pay6, k0_pay5, k0_pay4, k0_pay3, k0_pay2]
  have hs := fun x : Fin 1024 => sum_thirtytwo fun k => x1 (ix3 r k x)
  unfold Row.weight Row.expo Row.sd Row.bwLog
  simp only [hs, zero_sub, mul_inv32]

/-- and the second's, the query beside the weighted sum of the keys. -/
theorem mixed_apply (r : Fin 32) (j : Fin 2048) :
    out0_6 x0 x1 x2 x3 x4 (ix2 r j)
      = Row.mixed (fun j => x0 (ix2 r j)) (fun k j => x1 (ix3 r k j)) (fun k => out0_5 x0 x1 x2 x3 x4 (ix2 r k)) j := by
  rw [out0_5_eq]
  unfold out0_6 k0_pay26
  generalize k0_pay24 x0 x1 x2 x3 x4 = A
  generalize k0_pay25 x0 x1 x2 x3 x4 = B
  frame_out
  pointwise [k0_pay10, k0_pay1, k0_pay20, k0_pay2, k0_pay17, k0_pay16, k0_pay15, k0_pay14, k0_pay13, k0_pay12, k0_pay11, k0_pay18, k0_pay19]
  unfold Row.mixed
  split
  · rfl
  · rename_i h
    exact (sum_thirtytwo fun k => x1 (ix3 r k ⟨j.val - 1024, by omega⟩) * Ideal.div (A (ix2 r k)) (B (ix1 r))).trans
      (Finset.sum_congr rfl fun k _ => mul_comm _ _)

end Cert.Proof.Kern
-- ==== Proof.MlpValue.lean ====
/-
  What the second and third pipelined calls store, at an index.
-/
module

public import proofs.«01_k».proof.Proof.Region1
public import proofs.«01_k».proof.Proof.Region2
public import proofs.«01_k».proof.Proof.Spec
public import Idealize.ShloMosaic.Lib.Pointwise
public import Idealize.ShloMosaic.Lib.Pipeline.ValueKit

@[expose] public section

set_option maxRecDepth 16384

noncomputable section

namespace Cert.Proof.Kern

open Cert.KernelIdeal Cert.KernelIdeal.Gen
open Idealize.ShloMosaic

/-- The second call's block at a row: the row's mixing coefficient. -/
theorem lam_apply (x0 : Vec Ideal S512x2048 .f32) (x1 : Vec Ideal S1024x2048 .f32) (x2 x3 : Vec Ideal S1x1024 .f32) (x4 : Vec Ideal S1x1 .f32) (r : Fin 512) :
    out1_5 x0 x1 x2 x3 x4 (ix2 r 0)
      = Row.lam (fun j => x0 (ix2 r j)) (fun o j => x1 (ix2 o j)) (fun o => x2 (ix2 0 o)) (fun o => x3 (ix2 0 o)) (x4 (ix2 0 0)) := by
  unfold out1_5
  frame_out
  pointwise [k1_pay1]
  simp only [zero_sub]
  rfl

/-- The third call's block: zeros. -/
theorem zeros_apply (y : S8x42024.Idx) : (out2_0 (F := Ideal)) y = 0 := by
  unfold out2_0
  frame_out
  pointwise [k2_pay1]

end Cert.Proof.Kern
-- ==== Proof.Arrays.lean ====
/-
  The arrays that the three pipelined calls leave, as functions of what they find.
-/
module

public import proofs.«01_k».proof.Proof.DenseValue
public import proofs.«01_k».proof.Proof.MlpValue

@[expose] public section

set_option maxRecDepth 16384

noncomputable section

namespace Cert.Proof.Kern

open Cert.KernelIdeal Cert.KernelIdeal.Gen
open Idealize.ShloMosaic Idealize.ShloMosaic.TcCoe

/-- A row's scaled distances, of the first call's five arrays. -/
def rowSd (q : FVec Ideal S512x1024 .f32) (key : FVec Ideal S512x32x1024 .f32) (ds : FVec Ideal S512x32 .f32) (fw : FVec Ideal S1x2048 .f32)
    (fb : FVec Ideal S1x1 .f32) (r : Fin 512) : Fin 32 → EReal :=
  Row.sd (fun j => q (ix2 r j)) (fun k j => key (ix3 r k j)) (fun k => ds (ix2 r k)) (fun j => fw (ix2 0 j)) (fb (ix2 0 0))

variable (V : (c : Dev nD) → (b : Ref sig .tc) → Buf (Elt Ideal) ((c : Thread nD τ).loc b))

/-- The first call's windows step through the rows, thirty-two at a time; its weights and bias stay. -/
theorem index0_0 : ∀ t : Fin cfg0.N, win0_0.index t = ![t.val, 0] := (by decide +kernel : ∀ t : Fin grid0.N, _)
theorem index0_1 : ∀ t : Fin cfg0.N, win0_1.index t = ![t.val, 0, 0] := (by decide +kernel : ∀ t : Fin grid0.N, _)
theorem index0_2 : ∀ t : Fin cfg0.N, win0_2.index t = ![t.val, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![t.val, 0] := (by decide +kernel : ∀ t : Fin grid0.N, _)
theorem index0_6 : ∀ t : Fin cfg0.N, win0_6.index t = ![t.val, 0] := (by decide +kernel : ∀ t : Fin grid0.N, _)

/-- The row that row `r` of point `t`'s block is. -/
def rowAt (t : Fin cfg0.N) (r : Fin 32) : Fin 512 := ⟨t.val * 32 + r.val, by have := t.isLt; change t.val < 16 at this; omega⟩

/-- The first call's input blocks at an index. -/
theorem blk0_0 (c : Dev nD) (t : Fin cfg0.N) (r : Fin 32) (j : Fin 1024) :
    iblk0 V c 0 t (ix2 r j) = (V c main_v0 : FVec Ideal S512x1024 .f32) (ix2 (rowAt t r) j) := by
  blk_simp [iblk0]
  congr 1
  blk_ext [index0_0 t, rowAt]
theorem blk0_1 (c : Dev nD) (t : Fin cfg0.N) (r k : Fin 32) (j : Fin 1024) :
    iblk0 V c 1 t (ix3 r k j) = (V c main_v1 : FVec Ideal S512x32x1024 .f32) (ix3 (rowAt t r) k j) := by
  blk_simp [iblk0]
  congr 1
  blk_ext [index0_1 t, rowAt]
theorem blk0_2 (c : Dev nD) (t : Fin cfg0.N) (r k : Fin 32) :
    iblk0 V c 2 t (ix2 r k) = (V c main_v2 : FVec Ideal S512x32 .f32) (ix2 (rowAt t r) k) := by
  blk_simp [iblk0]
  congr 1
  blk_ext [index0_2 t, rowAt]
theorem blk0_3 (c : Dev nD) (t : Fin cfg0.N) (j : Fin 2048) :
    iblk0 V c 3 t (ix2 0 j) = (V c main_arg4 : FVec Ideal S1x2048 .f32) (ix2 0 j) := by
  blk_simp [iblk0]
  congr 1
  blk_ext [index0_3 t]
theorem blk0_4 (c : Dev nD) (t : Fin cfg0.N) :
    iblk0 V c 4 t (ix2 0 0) = (V c main_v3 : FVec Ideal S1x1 .f32) (ix2 0 0) := by
  blk_simp [iblk0]
  congr 1
  blk_ext [index0_4 t]

/-- The weights of the row, of the first call's five arrays. -/
def rowW (c : Dev nD) (r : Fin 512) : Fin 32 → EReal := Row.weight (rowSd (V c main_v0) (V c main_v1) (V c main_v2) (V c main_arg4) (V c main_v3) r)

/-- The first call's two blocks at an index. -/
theorem block0_5 (c : Dev nD) (t : Fin cfg0.N) (r k : Fin 32) :
    out0_5 (iblk0 V c 0 t) (iblk0 V c 1 t) (iblk0 V c 2 t) (iblk0 V c 3 t) (iblk0 V c 4 t) (ix2 r k) = rowW V c (rowAt t r) k := by
  rw [weights_apply]
  unfold rowW rowSd
  simp only [blk0_0, blk0_1, blk0_2, blk0_3, blk0_4]
theorem block0_6 (c : Dev nD) (t : Fin cfg0.N) (r : Fin 32) (j : Fin 2048) :
    out0_6 (iblk0 V c 0 t) (iblk0 V c 1 t) (iblk0 V c 2 t) (iblk0 V c 3 t) (iblk0 V c 4 t) (ix2 r j)
      = Row.mixed (fun j => (V c main_v0 : FVec Ideal S512x1024 .f32) (ix2 (rowAt t r) j))
          (fun k j => (V c main_v1 : FVec Ideal S512x32x1024 .f32) (ix3 (rowAt t r) k j)) (rowW V c (rowAt t r)) j := by
  rw [mixed_apply]
  simp only [block0_5, blk0_0, blk0_1]

/-- The first call's first result: every row's weights; -/
theorem arr0_5 (c : Dev nD) : (dat0 V c).arrAt 5 cfg0.N = fun i : S512x32.Idx => rowW V c (i 0) (i 1) := by
  refine (dat0 V c).arrAt_eq_of_covers 5 _ (by decide +kernel) fun t hf y => ?_
  blk_simp
  rw [after0_5]
  have key : ∀ r k : Fin 32, out0_5 (iblk0 V c 0 t) (iblk0 V c 1 t) (iblk0 V c 2 t) (iblk0 V c 3 t) (iblk0 V c 4 t) (ix2 r k)
      = rowW V c ((win0_5.blk t).view.emb (ix2 r k) 0) ((win0_5.blk t).view.emb (ix2 r k) 1) := by
    intro r k
    have e0 : (win0_5.blk t).view.emb (ix2 r k) 0 = rowAt t r := by
      apply Fin.ext
      blk_simp [index0_5 t, rowAt]
    have e1 : (win0_5.blk t).view.emb (ix2 r k) 1 = k := by
      apply Fin.ext
      blk_simp [index0_5 t]
    rw [block0_5, e0, e1]
  have hy : y = ix2 (y 0 : Fin 32) (y 1 : Fin 32) := by funext a; fin_cases a <;> rfl
  rw [hy]
  exact key _ _

/-- its second: the query beside the weighted keys. -/
theorem arr0_6 (c : Dev nD) : (dat0 V c).arrAt 6 cfg0.N
    = fun i : S512x2048.Idx => Row.mixed (fun j => (V c main_v0 : FVec Ideal S512x1024 .f32) (ix2 (i 0) j))
          (fun k j => (V c main_v1 : FVec Ideal S512x32x1024 .f32) (ix3 (i 0) k j)) (rowW V c (i 0)) (i 1) := by
  refine (dat0 V c).arrAt_eq_of_covers 6 _ (by decide +kernel) fun t hf y => ?_
  blk_simp
  rw [after0_6]
  have key : ∀ (r : Fin 32) (j : Fin 2048), out0_6 (iblk0 V c 0 t) (iblk0 V c 1 t) (iblk0 V c 2 t) (iblk0 V c 3 t) (iblk0 V c 4 t) (ix2 r j)
      = Row.mixed (fun j' => (V c main_v0 : FVec Ideal S512x1024 .f32) (ix2 ((win0_6.blk t).view.emb (ix2 r j) 0) j'))
          (fun k j' => (V c main_v1 : FVec Ideal S512x32x1024 .f32) (ix3 ((win0_6.blk t).view.emb (ix2 r j) 0) k j'))
          (rowW V c ((win0_6.blk t).view.emb (ix2 r j) 0)) ((win0_6.blk t).view.emb (ix2 r j) 1) := by
    intro r j
    have e0 : (win0_6.blk t).view.emb (ix2 r j) 0 = rowAt t r := by
      apply Fin.ext
      blk_simp [index0_6 t, rowAt]
    have e1 : (win0_6.blk t).view.emb (ix2 r j) 1 = j := by
      apply Fin.ext
      blk_simp [index0_6 t]
    rw [block0_6, e0, e1]
  have hy : y = ix2 (y 0 : Fin 32) (y 1 : Fin 2048) := by funext a; fin_cases a <;> rfl
  rw [hy]
  exact key _ _

/-- The second call's windows are whole arrays: the block index is zero, -/
theorem index1_0 : ∀ t : Fin cfg1.N, win1_0.index t = ![0, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)

/-- and each block is its array. -/
theorem blk1_0 (c : Dev nD) (t : Fin cfg1.N) (i : S512x2048.Idx) : iblk1 V c 0 t i = (V c main_v4_1 : FVec Ideal S512x2048 .f32) i := by
  blk_simp [iblk1]
  congr 1
  blk_ext [index1_0 t]
theorem blk1_1 (c : Dev nD) (t : Fin cfg1.N) (i : S1024x2048.Idx) : iblk1 V c 1 t i = (V c main_arg6 : FVec Ideal S1024x2048 .f32) i := by
  blk_simp [iblk1]
  congr 1
  blk_ext [index1_1 t]
theorem blk1_2 (c : Dev nD) (t : Fin cfg1.N) (i : S1x1024.Idx) : iblk1 V c 2 t i = (V c main_v5 : FVec Ideal S1x1024 .f32) i := by
  blk_simp [iblk1]
  congr 1
  blk_ext [index1_2 t]
theorem blk1_3 (c : Dev nD) (t : Fin cfg1.N) (i : S1x1024.Idx) : iblk1 V c 3 t i = (V c main_arg8 : FVec Ideal S1x1024 .f32) i := by
  blk_simp [iblk1]
  congr 1
  blk_ext [index1_3 t]
theorem blk1_4 (c : Dev nD) (t : Fin cfg1.N) (i : S1x1.Idx) : iblk1 V c 4 t i = (V c main_v6 : FVec Ideal S1x1 .f32) i := by
  blk_simp [iblk1]
  congr 1
  blk_ext [index1_4 t]

/-- The second call's result: every row's mixing coefficient. -/
theorem arr1_5 (c : Dev nD) : (dat1 V c).arrAt 5 cfg1.N
    = fun i : S512x1.Idx => Row.lam (fun j => (V c main_v4_1 : FVec Ideal S512x2048 .f32) (ix2 (i 0) j)) (fun o j => (V c main_arg6 : FVec Ideal S1024x2048 .f32) (ix2 o j))
        (fun o => (V c main_v5 : FVec Ideal S1x1024 .f32) (ix2 0 o)) (fun o => (V c main_arg8 : FVec Ideal S1x1024 .f32) (ix2 0 o))
        ((V c main_v6 : FVec Ideal S1x1 .f32) (ix2 0 0)) := by
  refine (dat1 V c).arrAt_eq_of_covers 5 _ (by decide +kernel) fun t hf y => ?_
  blk_simp
  rw [after1_5]
  have key : ∀ r : Fin 512, out1_5 (iblk1 V c 0 t) (iblk1 V c 1 t) (iblk1 V c 2 t) (iblk1 V c 3 t) (iblk1 V c 4 t) (ix2 r 0)
      = Row.lam (fun j => (V c main_v4_1 : FVec Ideal S512x2048 .f32) (ix2 ((win1_5.blk t).view.emb (ix2 r 0) 0) j)) (fun o j => (V c main_arg6 : FVec Ideal S1024x2048 .f32) (ix2 o j))
        (fun o => (V c main_v5 : FVec Ideal S1x1024 .f32) (ix2 0 o)) (fun o => (V c main_arg8 : FVec Ideal S1x1024 .f32) (ix2 0 o))
        ((V c main_v6 : FVec Ideal S1x1 .f32) (ix2 0 0)) := by
    intro r
    have e0 : (win1_5.blk t).view.emb (ix2 r 0) 0 = r := by
      apply Fin.ext
      blk_simp [index1_5 t]
    rw [lam_apply, e0]
    simp only [blk1_0, blk1_1, blk1_2, blk1_3, blk1_4]
  have hy : y = ix2 (y 0 : Fin 512) (0 : Fin 1) := by
    funext a
    fin_cases a
    · rfl
    · exact Subsingleton.elim (α := Fin 1) _ _
  rw [hy]
  exact key _

/-- The third call's: zeros. -/
theorem arr2_0 (c : Dev nD) : (dat2 V c).arrAt 0 cfg2.N = fun _ : S512x42024.Idx => (0 : EReal) := by
  refine (dat2 V c).arrAt_eq_of_covers 0 _ (by decide +kernel) fun t hf y => ?_
  blk_simp
  rw [after2_0]
  exact zeros_apply _

end Cert.Proof.Kern
-- ==== Proof.Scatter.lean ====
/-
  The reference's scatter-add at a row and a column, and the SparseCore call's row sum: the same sum over the row's entries.
-/
module

public import proofs.«01_k».proof.Proof.TileValue
public import proofs.«01_k».proof.Proof.Gen.ReferenceIdeal
public import Idealize.ShloMosaic.Lib.Pointwise
public import Idealize.ShloMosaic.Lib.Pointwise.IndexBridge
public import Idealize.ShloMosaic.Lib.Routing.OpsPair

@[expose] public section

set_option maxRecDepth 16384

noncomputable section

namespace Cert.Proof.Kern

open Idealize.ShloMosaic

/-- What the entries of a row add to column `v`. -/
def hits (id : Fin 32 → ℕ) (w : Fin 32 → EReal) (v : ℕ) : EReal := ∑ k : Fin 32, if id k = v then w k else 0

/-- The host's accumulating scatter at an element: the operand's element and the row's entries that name the column. -/
theorem hostScatter_apply (x : FVec Ideal Cert.ReferenceIdeal.S512x42024 .f32) (idx : IVec Cert.ReferenceIdeal.S512x32x2 32)
    (upd : FVec Ideal Cert.ReferenceIdeal.S512x32 .f32) (id : Fin 512 → Fin 32 → ℕ)
    (h0 : ∀ (a : Fin 512) (b : Fin 32), (idx (ix3 a b 0)).toInt = (a.val : ℤ))
    (h1 : ∀ (a : Fin 512) (b : Fin 32), (idx (ix3 a b 1)).toInt = (id a b : ℤ)) (r : Fin 512) (v : Fin 42024) :
    Host.scatterAdd Cert.ReferenceIdeal.scatter_S512x42024_S512x32x2_S512x32_n_01_01_2 x idx upd (ix2 r v)
      = x (ix2 r v) + hits (id r) (fun k => upd (ix2 r k)) v.val := by
  show Ideal.hostScatterAdd _ x idx upd (ix2 r v) = _
  unfold Ideal.hostScatterAdd hits
  have hl : ∀ (a : Fin 512) (b : Fin 32), (Cert.ReferenceIdeal.scatter_S512x42024_S512x32x2_S512x32_n_01_01_2.resultIdx? (ix2 a b) idx = some (ix2 r v)) ↔ (a = r ∧ id a b = v.val) := by
    intro a b
    have h := Routing.scatter_lands2 (R := 512) (C := 42024) (A := 512) (B := 32) Cert.ReferenceIdeal.scatter_S512x42024_S512x32x2_S512x32_n_01_01_2 rfl rfl rfl idx a b r v
    simp only [← ix2_eq_valueIdx, ← ix3_eq_valueIdx] at h
    rw [h0, h1] at h
    rw [h, Fin.ext_iff]; omega
  rw [Finset.sum_filter, sum_idx2]
  simp only [hl]
  congr 1
  rw [Finset.sum_eq_single r]
  · exact Finset.sum_congr rfl fun k _ => by simp
  · intro a _ ha
    exact Finset.sum_eq_zero fun k _ => by simp [ha]
  · intro h; exact absurd (Finset.mem_univ r) h

/-- The call's sum of a row, lanes of the two halves added in turn. -/
theorem rowSum_eq (iv0 iv1 : IVec Cert.KernelIdeal.S16 32) (w0 w1 : FVec Ideal Cert.KernelIdeal.S16 .f32) (v : ℕ) :
    rowSum iv0 iv1 w0 w1 v
      = ∑ j : Fin 16, ((if (iv0 (ln j)).toNat = v then w0 (ln j) else 0) + (if (iv1 (ln j)).toNat = v then w1 (ln j) else (0 : EReal))) := by
  have hs : ∀ (l : List (Fin 16)) (a : EReal), l.foldl (fun a j => addLane (F := Ideal) iv1 w1 v j (addLane (F := Ideal) iv0 w0 v j a)) a
      = a + (l.map fun j => ((if (iv0 (ln j)).toNat = v then w0 (ln j) else 0) + (if (iv1 (ln j)).toNat = v then w1 (ln j) else (0 : EReal)))).sum := by
    intro l
    induction l with
    | nil => intro a; simp
    | cons j l ih =>
      intro a
      rw [List.foldl_cons, ih, List.map_cons, List.sum_cons, ← add_assoc]
      congr 1
      unfold addLane
      show (if _ then (if _ then a + w0 (ln j) else a) + w1 (ln j) else if _ then a + w0 (ln j) else a) = _
      split <;> split <;> simp [add_assoc]
  unfold rowSum
  rw [hs]
  have h0 : (Scalar.ofBits (F := Ideal) .f32 0x00000000#32 : EReal) = 0 := Ideal.ofBits_zero_f32
  rw [h0, zero_add, Fin.sum_univ_def]

/-- The same, over the row's thirty-two entries. -/
theorem rowSum_hits (ids : IVec Cert.KernelIdeal.S16384 32) (wts : FVec Ideal Cert.KernelIdeal.S16384 .f32) (r : ℕ) (v : ℕ) :
    rowSum (cutG ids (32 * r)) (cutG ids (32 * r + 16)) (cutG wts (32 * r)) (cutG wts (32 * r + 16)) v
      = hits (fun k => (ids (at16384 (32 * r + k.val))).toNat) (fun k => wts (at16384 (32 * r + k.val))) v := by
  rw [rowSum_eq, Finset.sum_add_distrib]
  unfold hits
  rw [Fin.sum_univ_two_halves 16 16 rfl]
  have hc : ∀ {α : Type} (f : Cert.KernelIdeal.S16384.Idx → α) (o : ℕ) (j : Fin 16), cutG f o (ln j) = f (at16384 (o + j.val)) := by
    intro α f o j; rfl
  simp only [hc, Nat.add_assoc]

end Cert.Proof.Kern
-- ==== Proof.Values.lean ====
/-
  The kernel's two results, at an index, as functions of its arguments.
-/
module

public import proofs.«01_k».proof.Proof.Arrays
public import proofs.«01_k».proof.Proof.Frames
public import proofs.«01_k».proof.Proof.Scatter

@[expose] public section

set_option maxRecDepth 16384

noncomputable section

namespace Cert.Proof.Kern

open Cert.KernelIdeal Cert.KernelIdeal.Gen
open Idealize.ShloMosaic Idealize.ShloMosaic.TcCoe

/-- The flat row of a batch entry and a position. -/
def row (b : Fin 16) (s : Fin 32) : Fin 512 := ⟨b.val * 32 + s.val, by omega⟩

variable (m : (ℓ : Loc nD τ sig) → Buf (Elt Ideal) ℓ) (ρ : Dev nD → PrngReg) (c : Dev nD)

/-- The kernel's arguments. -/
abbrev g0 : FVec Ideal S16x32x1024 .f32 := m ((c : Thread nD τ).loc main_arg0)
abbrev g1 : FVec Ideal S16x32x32x1024 .f32 := m ((c : Thread nD τ).loc main_arg1)
abbrev g2 : IVec S16x32x32 32 := m ((c : Thread nD τ).loc main_arg2)
abbrev g3 : FVec Ideal S16x32x32 .f32 := m ((c : Thread nD τ).loc main_arg3)
abbrev g4 : FVec Ideal S1x2048 .f32 := m ((c : Thread nD τ).loc main_arg4)
abbrev g5 : FVec Ideal S1 .f32 := m ((c : Thread nD τ).loc main_arg5)
abbrev g6 : FVec Ideal S1024x2048 .f32 := m ((c : Thread nD τ).loc main_arg6)
abbrev g7 : FVec Ideal S1024 .f32 := m ((c : Thread nD τ).loc main_arg7)
abbrev g8 : FVec Ideal S1x1024 .f32 := m ((c : Thread nD τ).loc main_arg8)
abbrev g9 : FVec Ideal S1 .f32 := m ((c : Thread nD τ).loc main_arg9)

/-- What the first call finds, at a row. -/
theorem V1_v0 (b : Fin 16) (s : Fin 32) (j : Fin 1024) : (V1 m ρ c main_v0 : FVec Ideal S512x1024 .f32) (ix2 (row b s) j) = g0 m c (ix3 b s j) := by
  have h : (V1 m ρ c main_v0 : FVec Ideal S512x1024 .f32) = shapeCast S512x1024 (g0 m c) shapeCasts_S16x32x1024_S512x1024 := rfl
  rw [h]
  unfold row
  pointwise
/-- The keys that the first call reads, row by row. -/
theorem V1_v1 (b : Fin 16) (s k : Fin 32) (j : Fin 1024) :
    (V1 m ρ c main_v1 : FVec Ideal S512x32x1024 .f32) (ix3 (row b s) k j) = g1 m c (ix4 b s k j) := by
  have h : (V1 m ρ c main_v1 : FVec Ideal S512x32x1024 .f32) = shapeCast S512x32x1024 (g1 m c) shapeCasts_S16x32x32x1024_S512x32x1024 := rfl
  rw [h]
  unfold row
  pointwise
/-- The distances that it reads. -/
theorem V1_v2 (b : Fin 16) (s k : Fin 32) : (V1 m ρ c main_v2 : FVec Ideal S512x32 .f32) (ix2 (row b s) k) = g3 m c (ix3 b s k) := by
  have h : (V1 m ρ c main_v2 : FVec Ideal S512x32 .f32) = shapeCast S512x32 (g3 m c) shapeCasts_S16x32x32_S512x32 := rfl
  rw [h]
  unfold row
  pointwise
/-- The bias that it reads. -/
theorem V1_v3 : (V1 m ρ c main_v3 : FVec Ideal S1x1 .f32) (ix2 0 0) = g5 m c (ix1 0) := by
  have h : (V1 m ρ c main_v3 : FVec Ideal S1x1 .f32) = shapeCast S1x1 (g5 m c) shapeCasts_S1_S1x1 := rfl
  rw [h]
  pointwise
/-- The bandwidth's weights that it reads. -/
theorem V1_arg4 : (V1 m ρ c main_arg4 : FVec Ideal S1x2048 .f32) = g4 m c := W1_args m ρ c main_arg4 (by decide)

/-- The row's weights, of the arguments. -/
def wOf (b : Fin 16) (s : Fin 32) : Fin 32 → EReal :=
  Row.weight (Row.sd (fun j => g0 m c (ix3 b s j)) (fun k j => g1 m c (ix4 b s k j)) (fun k => g3 m c (ix3 b s k)) (fun j => g4 m c (ix2 0 j)) (g5 m c (ix1 0)))
/-- A row's weights, as the first call makes them, are those of its argument's row. -/
theorem rowW_eq (b : Fin 16) (s : Fin 32) : rowW (V1 m ρ) c (row b s) = wOf m c b s := by
  unfold rowW rowSd wOf
  exact congrArg Row.weight (Row.sd_congr (V1_v0 m ρ c b s) (V1_v1 m ρ c b s) (V1_v2 m ρ c b s) (fun j => congrFun (V1_arg4 m ρ c) _) (V1_v3 m ρ c))

/-- The words, weights and target that the SparseCore call finds. -/
theorem ids6_at (b : Fin 16) (s k : Fin 32) : ids6 m ρ c (at16384 (32 * (row b s).val + k.val)) = g2 m c (ix3 b s k) := by
  rw [ids6_eq]
  have h : at16384 (32 * (row b s).val + k.val) = ix1 (⟨32 * (b.val * 32 + s.val) + k.val, by omega⟩ : Fin 16384) := by
    funext a; fin_cases a; apply Fin.ext; show (32 * (b.val * 32 + s.val) + k.val) % 16384 = 32 * (b.val * 32 + s.val) + k.val; omega
  rw [h]
  pointwise
theorem W2_v4_0 : (W2 m ρ c (Proc.devRef .tc main_v4_0) : FVec Ideal S512x32 .f32) = fun i : S512x32.Idx => rowW (V1 m ρ) c (i 0) (i 1) :=
  (W2_arr m ρ c 5).trans (arr0_5 (V1 m ρ) c)
/-- The later calls leave the weights alone. -/
theorem W5_v4_0 : (W5 m ρ c (Proc.devRef .tc main_v4_0) : FVec Ideal S512x32 .f32) = fun i : S512x32.Idx => rowW (V1 m ρ) c (i 0) (i 1) :=
  (W5_of m ρ c main_v4_0 (by decide +kernel)).trans ((W4_of m ρ c main_v4_0 (by decide +kernel)).trans ((W3_of m ρ c main_v4_0 (by decide +kernel)).trans (W2_v4_0 m ρ c)))
/-- The tiles read the weights flattened, -/
theorem wts6_eq : wts6 m ρ c = shapeCast S16384 (fun i : S512x32.Idx => rowW (V1 m ρ) c (i 0) (i 1)) shapeCasts_S512x32_S16384 := by
  rw [← W5_v4_0 m ρ c]
  rfl
/-- so word `32 R + k` is weight `k` of row `R`. -/
theorem wts6_at (b : Fin 16) (s k : Fin 32) : wts6 m ρ c (at16384 (32 * (row b s).val + k.val)) = wOf m c b s k := by
  rw [wts6_eq, ← rowW_eq m ρ]
  have h : at16384 (32 * (row b s).val + k.val) = ix1 (⟨32 * (b.val * 32 + s.val) + k.val, by omega⟩ : Fin 16384) := by
    funext a; fin_cases a; apply Fin.ext; show (32 * (b.val * 32 + s.val) + k.val) % 16384 = 32 * (b.val * 32 + s.val) + k.val; omega
  rw [h]
  unfold row
  pointwise
  rw [show (⟨(32 * (b.val * 32 + s.val) + k.val) / 32, by omega⟩ : Fin 512) = ⟨b.val * 32 + s.val, by omega⟩ from Fin.ext (by show (32 * (b.val * 32 + s.val) + k.val) / 32 = b.val * 32 + s.val; omega)]
/-- The third call's output is zero everywhere, -/
theorem W5_v8 : (W5 m ρ c (Proc.devRef .tc main_v8) : FVec Ideal S512x42024 .f32) = fun _ : S512x42024.Idx => (0 : EReal) :=
  (W5_arr m ρ c 0).trans (arr2_0 (V4 m ρ) c)
/-- and so is what the tiles write over. -/
theorem old6_eq : old6 m ρ c = fun _ => (0 : EReal) := by
  have h : old6 m ρ c = shapeCast S21516288 (W5 m ρ c (Proc.devRef .tc main_v8) : FVec Ideal S512x42024 .f32) shapeCasts_S512x42024_S21516288 := rfl
  rw [h, W5_v8]
  rfl

/-- The call's result at a row and a column: what the row's entries add to the column. -/
theorem res7_at (b : Fin 16) (s : Fin 32) (o : Fin 42024) :
    res7 m ρ c (ix1 ⟨(b.val * 32 + s.val) * 42024 + o.val, by omega⟩) = hits (fun k => (g2 m c (ix3 b s k)).toNat) (wOf m c b s) o.val := by
  have hq : ((b.val * 32 + s.val) * 42024 + o.val) / 42024 = (row b s).val := by show _ = b.val * 32 + s.val; omega
  have hr : ((b.val * 32 + s.val) * 42024 + o.val) % 42024 = o.val := by omega
  unfold res7 flatRes
  simp only [ix1_0, hq, hr]
  rw [old6_eq, rowSum_hits]
  simp only [ids6_at, wts6_at]
  split
  · rfl
  · rename_i hn
    unfold hits
    symm
    refine Finset.sum_eq_zero fun k _ => if_neg fun e => hn ⟨k.val, k.isLt, ?_⟩
    rw [ids6_at]; exact e

/-- The first result. -/
theorem W8_v13 (b : Fin 16) (s : Fin 32) (o : Fin 42024) :
    (W8 m ρ c (Proc.devRef .tc main_v13) : FVec Ideal S16x32x42024 .f32) (ix3 b s o) = hits (fun k => (g2 m c (ix3 b s k)).toNat) (wOf m c b s) o.val := by
  have h : (W8 m ρ c (Proc.devRef .tc main_v13) : FVec Ideal S16x32x42024 .f32)
      = shapeCast S16x32x42024 (W7 m ρ c (Proc.devRef .tc main_v12) : FVec Ideal S21516288 .f32) shapeCasts_S21516288_S16x32x42024 := rfl
  rw [h, W7_target, ← res7_at m ρ]
  generalize res7 m ρ c = X
  pointwise
  exact congrArg X (congrArg ix1 (Fin.ext (by show b.val * 1344768 + s.val * 42024 + o.val = (b.val * 32 + s.val) * 42024 + o.val; omega)))

/-- What the second call finds, and the second result. -/
theorem V3_v4_1 : (V3 m ρ c main_v4_1 : FVec Ideal S512x2048 .f32)
    = fun i : S512x2048.Idx => Row.mixed (fun j => (V1 m ρ c main_v0 : FVec Ideal S512x1024 .f32) (ix2 (i 0) j))
        (fun k j => (V1 m ρ c main_v1 : FVec Ideal S512x32x1024 .f32) (ix3 (i 0) k j)) (rowW (V1 m ρ) c (i 0)) (i 1) :=
  (W3_of m ρ c main_v4_1 (by decide +kernel)).trans ((W2_arr m ρ c 6).trans (arr0_6 (V1 m ρ) c))
/-- The second call's arguments: the first layer's bias, -/
theorem V3_v5 (o : Fin 1024) : (V3 m ρ c main_v5 : FVec Ideal S1x1024 .f32) (ix2 0 o) = g7 m c (ix1 o) := by
  have h : (V3 m ρ c main_v5 : FVec Ideal S1x1024 .f32) = shapeCast S1x1024 (W2 m ρ c (Proc.devRef .tc main_arg7) : FVec Ideal S1024 .f32) shapeCasts_S1024_S1x1024 := rfl
  rw [h, W2_args m ρ c main_arg7 (by decide)]
  pointwise
/-- the second layer's bias, -/
theorem V3_v6 : (V3 m ρ c main_v6 : FVec Ideal S1x1 .f32) (ix2 0 0) = g9 m c (ix1 0) := by
  have h : (V3 m ρ c main_v6 : FVec Ideal S1x1 .f32) = shapeCast S1x1 (W2 m ρ c (Proc.devRef .tc main_arg9) : FVec Ideal S1 .f32) shapeCasts_S1_S1x1 := rfl
  rw [h, W2_args m ρ c main_arg9 (by decide)]
  pointwise
/-- the first layer's weights -/
theorem V3_arg6 : (V3 m ρ c main_arg6 : FVec Ideal S1024x2048 .f32) = g6 m c := W3_args m ρ c main_arg6 (by decide)
/-- and the second layer's. -/
theorem V3_arg8 : (V3 m ρ c main_arg8 : FVec Ideal S1x1024 .f32) = g8 m c := W3_args m ρ c main_arg8 (by decide)

/-- What the second call stored is still there at the end. -/
theorem W7_v7 : (W7 m ρ c (Proc.devRef .tc main_v7) : FVec Ideal S512x1 .f32) = (dat1 (V3 m ρ) c).arrAt 5 cfg1.N :=
  (W7_ne m ρ c (by decide)).trans ((W6_of m ρ c main_v7 (by decide +kernel)).trans ((W5_of m ρ c main_v7 (by decide +kernel)).trans (W4_arr m ρ c 5)))

/-- The kernel's second result, at an index. -/
theorem W8_v14 (b : Fin 16) (s : Fin 32) :
    (W8 m ρ c (Proc.devRef .tc main_v14) : FVec Ideal S16x32x1 .f32) (ix3 b s 0)
      = Row.lam (Row.mixed (fun j => g0 m c (ix3 b s j)) (fun k j => g1 m c (ix4 b s k j)) (wOf m c b s)) (fun o j => g6 m c (ix2 o j)) (fun o => g7 m c (ix1 o))
          (fun o => g8 m c (ix2 0 o)) (g9 m c (ix1 0)) := by
  have h : (W8 m ρ c (Proc.devRef .tc main_v14) : FVec Ideal S16x32x1 .f32)
      = shapeCast S16x32x1 (W7 m ρ c (Proc.devRef .tc main_v7) : FVec Ideal S512x1 .f32) shapeCasts_S512x1_S16x32x1 := rfl
  rw [h, W7_v7]
  have e : shapeCast S16x32x1 ((dat1 (V3 m ρ) c).arrAt 5 cfg1.N : FVec Ideal S512x1 .f32) shapeCasts_S512x1_S16x32x1 (ix3 b s 0)
      = ((dat1 (V3 m ρ) c).arrAt 5 cfg1.N : FVec Ideal S512x1 .f32) (ix2 (row b s) 0) := by
    generalize ((dat1 (V3 m ρ) c).arrAt 5 cfg1.N : FVec Ideal S512x1 .f32) = X
    unfold row
    pointwise
  rw [e, arr1_5]
  exact Row.lam_congr (fun j => (congrFun (V3_v4_1 m ρ c) _).trans (congrFun (Row.mixed_congr (V1_v0 m ρ c b s) (V1_v1 m ρ c b s) (rowW_eq m ρ c b s)) _))
    (fun o j => congrFun (V3_arg6 m ρ c) _) (V3_v5 m ρ c) (fun o => congrFun (V3_arg8 m ρ c) _) (V3_v6 m ρ c)

end Cert.Proof.Kern
-- ==== Proof.RefTerms.lean ====
/-
  The reference's composed terms in stages, and each stage at an index.
-/
module

public import proofs.«01_k».proof.Proof.Gen.ReferenceIdeal.Run
public import proofs.«01_k».proof.Proof.Scatter
public import proofs.«01_k».proof.Proof.Spec
public import Idealize.ShloMosaic.Lib.Pointwise

@[expose] public section

set_option maxRecDepth 16384

noncomputable section

namespace Cert.Proof.Ref

open Cert.ReferenceIdeal Cert.ReferenceIdeal.Gen
open Idealize.ShloMosaic

/-- The scaled distances, -/
def sdT (a0 : FVec Ideal S16x32x1024 .f32) (a1 : FVec Ideal S16x32x32x1024 .f32) (a3 : FVec Ideal S16x32x32 .f32) (a4 : FVec Ideal S1x2048 .f32)
    (a5 : FVec Ideal S1 .f32) : FVec Ideal S16x32x32 .f32 :=
  Host.divf (Host.negf (Host.sqrt a3)) (broadcastInDim S16x32x32 ![0, 1, 2] bcast_S16x32x1_S16x32x32_0_1_2 (Host.exp (addf
    (Host.dotGeneral dot_S16x32x2048_S2048x1_S16x32x1_2_0_01_1_n_n none
      (concatenate S16x32x2048 2 [⟨S16x32x1024, a0⟩, ⟨S16x32x1024, (Host.divf
        (Host.reduceAdd a1 (constant S_ .f32 0x00000000#32) reducesTo_S16x32x32x1024_S16x32x1024_d2 h_S_)
        (broadcastInDim S16x32x1024 ![] bcast_S_S16x32x1024 (constant S_ .f32 0x42000000#32)))⟩] concatenates_S16x32x1024_S16x32x1024_S16x32x2048_d2)
      (transpose S2048x1 [1, 0] a4 transposes_S1x2048_S2048x1_1_0))
    (broadcastInDim S16x32x1 ![0, 1, 2] bcast_S1x1x1_S16x32x1_0_1_2 (broadcastInDim S1x1x1 ![2] bcast_S1_S1x1x1_2 a5)))))

/-- their exponentials under the row's greatest, -/
def expT (s : FVec Ideal S16x32x32 .f32) : FVec Ideal S16x32x32 .f32 :=
  Host.exp (subf s (broadcastInDim S16x32x32 ![0, 1, 2] bcast_S16x32x1_S16x32x32_0_1_2 (broadcastInDim S16x32x1 ![0, 1] bcast_S16x32_S16x32x1_0_1
    (maximumf (broadcastInDim S16x32 ![] bcast_S_S16x32 (constant S_ .f32 0xFF800000#32))
      (Host.reduce FloatOps.maximumf s (constant S_ .f32 0xFF800000#32) reducesTo_S16x32x32_S16x32_d2 h_S_)))))

/-- the weights, -/
def weightT (s : FVec Ideal S16x32x32 .f32) : FVec Ideal S16x32x32 .f32 :=
  Host.divf (expT s) (broadcastInDim S16x32x32 ![0, 1, 2] bcast_S16x32x1_S16x32x32_0_1_2 (broadcastInDim S16x32x1 ![0, 1] bcast_S16x32_S16x32x1_0_1
    (Host.reduceAdd (expT s) (constant S_ .f32 0x00000000#32) reducesTo_S16x32x32_S16x32_d2 h_S_)))

/-- the query beside the weighted keys, -/
def mixedT (a0 : FVec Ideal S16x32x1024 .f32) (a1 : FVec Ideal S16x32x32x1024 .f32) (w : FVec Ideal S16x32x32 .f32) : FVec Ideal S16x32x2048 .f32 :=
  concatenate S16x32x2048 2 [⟨S16x32x1024, a0⟩, ⟨S16x32x1024, (Host.reduceAdd
    (mulf (broadcastInDim S16x32x32x1024 ![0, 1, 2, 3] bcast_S16x32x32x1_S16x32x32x1024_0_1_2_3 (broadcastInDim S16x32x32x1 ![0, 1, 2] bcast_S16x32x32_S16x32x32x1_0_1_2 w)) a1)
    (constant S_ .f32 0x00000000#32) reducesTo_S16x32x32x1024_S16x32x1024_d2 h_S_)⟩] concatenates_S16x32x1024_S16x32x1024_S16x32x2048_d2

/-- the mixing coefficient, -/
def lamT (x : FVec Ideal S16x32x2048 .f32) (a6 : FVec Ideal S1024x2048 .f32) (a7 : FVec Ideal S1024 .f32) (a8 : FVec Ideal S1x1024 .f32) (a9 : FVec Ideal S1 .f32) :
    FVec Ideal S16x32x1 .f32 :=
  Host.divf (broadcastInDim S16x32x1 ![] bcast_S_S16x32x1 (constant S_ .f32 0x3F800000#32))
    (addf (broadcastInDim S16x32x1 ![] bcast_S_S16x32x1 (constant S_ .f32 0x3F800000#32)) (Host.exp (Host.negf (addf
      (Host.dotGeneral dot_S16x32x1024_S1024x1_S16x32x1_2_0_01_1_n_n none
        (maximumf (addf (Host.dotGeneral dot_S16x32x2048_S2048x1024_S16x32x1024_2_0_01_1_n_n none x (transpose S2048x1024 [1, 0] a6 transposes_S1024x2048_S2048x1024_1_0))
          (broadcastInDim S16x32x1024 ![0, 1, 2] bcast_S1x1x1024_S16x32x1024_0_1_2 (broadcastInDim S1x1x1024 ![2] bcast_S1024_S1x1x1024_2 a7)))
          (broadcastInDim S16x32x1024 ![] bcast_S_S16x32x1024 (constant S_ .f32 0x00000000#32)))
        (transpose S1024x1 [1, 0] a8 transposes_S1x1024_S1024x1_1_0))
      (broadcastInDim S16x32x1 ![0, 1, 2] bcast_S1x1x1_S16x32x1_0_1_2 (broadcastInDim S1x1x1 ![2] bcast_S1_S1x1x1_2 a9))))))

/-- the scatter's index words, -/
def idxT (v : IVec S16x32x32 32) : IVec S512x32x2 32 :=
  concatenate S512x32x2 2 [
    ⟨S512x32x1, (broadcastInDim S512x32x1 ![0, 1] bcast_S512x32_S512x32x1_0_1 (broadcastInDim S512x32 ![0, 1] bcast_S512x1_S512x32_0_1
      (select (cmpi .slt (broadcastInDim S512x1 ![0] bcast_S512_S512x1_0 (iotaInDim S512 32 0)) (broadcastInDim S512x1 ![] bcast_S_S512x1 (constantI S_ 32 0#32)))
        (addi (broadcastInDim S512x1 ![0] bcast_S512_S512x1_0 (iotaInDim S512 32 0)) (broadcastInDim S512x1 ![] bcast_S_S512x1 (constantI S_ 32 512#32)))
        (broadcastInDim S512x1 ![0] bcast_S512_S512x1_0 (iotaInDim S512 32 0)))))⟩,
    ⟨S512x32x1, (broadcastInDim S512x32x1 ![0, 1] bcast_S512x32_S512x32x1_0_1
      (select (cmpi .slt (shapeCast S512x32 v shapeCasts_S16x32x32_S512x32) (broadcastInDim S512x32 ![] bcast_S_S512x32 (constantI S_ 32 0#32)))
        (addi (shapeCast S512x32 v shapeCasts_S16x32x32_S512x32) (broadcastInDim S512x32 ![] bcast_S_S512x32 (constantI S_ 32 42024#32)))
        (shapeCast S512x32 v shapeCasts_S16x32x32_S512x32)))⟩] concatenates_S512x32x1_S512x32x1_S512x32x2_d2

/-- and the probabilities. -/
def probsT (v : IVec S16x32x32 32) (w : FVec Ideal S16x32x32 .f32) : FVec Ideal S16x32x42024 .f32 :=
  shapeCast S16x32x42024 (Host.scatterAdd scatter_S512x42024_S512x32x2_S512x32_n_01_01_2
    (broadcastInDim S512x42024 ![] bcast_S_S512x42024 (constant S_ .f32 0x00000000#32)) (idxT v) (shapeCast S512x32 w shapeCasts_S16x32x32_S512x32))
    shapeCasts_S512x42024_S16x32x42024

variable (a0 : FVec Ideal S16x32x1024 .f32) (a1 : FVec Ideal S16x32x32x1024 .f32) (a3 : FVec Ideal S16x32x32 .f32) (a4 : FVec Ideal S1x2048 .f32) (a5 : FVec Ideal S1 .f32)

/-- The scaled distances at an index, -/
theorem sdT_apply (b : Fin 16) (s k : Fin 32) :
    sdT a0 a1 a3 a4 a5 (ix3 b s k)
      = Row.sd (fun j => a0 (ix3 b s j)) (fun k j => a1 (ix4 b s k j)) (fun k => a3 (ix3 b s k)) (fun j => a4 (ix2 0 j)) (a5 (ix1 0)) k := by
  unfold sdT
  pointwise
  rfl

/-- the exponentials, -/
theorem expT_apply (x : FVec Ideal S16x32x32 .f32) (b : Fin 16) (s k : Fin 32) : expT x (ix3 b s k) = Row.expo (fun k => x (ix3 b s k)) k := by
  unfold expT
  pointwise
  rw [max_eq_right ((Finset.le_fold_max _).2 (Or.inl le_rfl))]
  rfl

/-- the weights, -/
theorem weightT_apply (x : FVec Ideal S16x32x32 .f32) (b : Fin 16) (s k : Fin 32) : weightT x (ix3 b s k) = Row.weight (fun k => x (ix3 b s k)) k := by
  unfold weightT
  pointwise
  simp only [expT_apply]
  rfl

/-- the mixed input, -/
theorem mixedT_apply (w : FVec Ideal S16x32x32 .f32) (b : Fin 16) (s : Fin 32) (j : Fin 2048) :
    mixedT a0 a1 w (ix3 b s j) = Row.mixed (fun j => a0 (ix3 b s j)) (fun k j => a1 (ix4 b s k j)) (fun k => w (ix3 b s k)) j := by
  unfold mixedT
  pointwise
  rfl

/-- the mixing coefficient; -/
theorem lamT_apply (x : FVec Ideal S16x32x2048 .f32) (a6 : FVec Ideal S1024x2048 .f32) (a7 : FVec Ideal S1024 .f32) (a8 : FVec Ideal S1x1024 .f32) (a9 : FVec Ideal S1 .f32)
    (b : Fin 16) (s : Fin 32) :
    lamT x a6 a7 a8 a9 (ix3 b s 0)
      = Row.lam (fun j => x (ix3 b s j)) (fun o j => a6 (ix2 o j)) (fun o => a7 (ix1 o)) (fun o => a8 (ix2 0 o)) (a9 (ix1 0)) := by
  unfold lamT
  pointwise
  rfl

/-- A word that reads as no negative number passes the wrap unchanged. -/
theorem wrap_of_small (x y : BitVec 32) (h : x.toNat < 2 ^ 31) : Scalar.select (IntOp.cmpi .slt x 0#32) y x = x := by
  have hx : x.slt 0#32 = false := by
    rw [BitVec.slt_eq_decide, BitVec.toInt_eq_toNat_of_lt (by omega)]
    simp
  simp [Scalar.select, IntOp.cmpi, hx]

/-- the index words: the row, -/
theorem idxT_row (v : IVec S16x32x32 32) (r : Fin 512) (k : Fin 32) : (idxT v (ix3 r k 0)).toInt = (r.val : ℤ) := by
  have hr : (BitVec.ofNat 32 r.val).toNat = r.val := by rw [BitVec.toNat_ofNat]; omega
  unfold idxT
  pointwise
  rw [wrap_of_small _ _ (by omega), BitVec.toInt_eq_toNat_of_lt (by omega), hr]

/-- and the column. -/
theorem idxT_col (v : IVec S16x32x32 32) (hv : ∀ i, (v i).toNat < 42024) (r : Fin 512) (k : Fin 32) :
    (idxT v (ix3 r k 1)).toInt = ((v (ix3 ⟨r.val / 32, by omega⟩ ⟨r.val % 32, by omega⟩ k)).toNat : ℤ) := by
  have h := hv (ix3 ⟨r.val / 32, by omega⟩ ⟨r.val % 32, by omega⟩ k)
  unfold idxT
  pointwise
  rw [wrap_of_small _ _ (by omega), BitVec.toInt_eq_toNat_of_lt (by omega)]

/-- The probabilities at an element: what the row's entries add to the column. -/
theorem probsT_apply (v : IVec S16x32x32 32) (hv : ∀ i, (v i).toNat < 42024) (w : FVec Ideal S16x32x32 .f32) (b : Fin 16) (s : Fin 32) (o : Fin 42024) :
    probsT v w (ix3 b s o) = Kern.hits (fun k => (v (ix3 b s k)).toNat) (fun k => w (ix3 b s k)) o.val := by
  have hd : (b.val * 32 + s.val) / 32 = b.val := by omega
  have hm : (b.val * 32 + s.val) % 32 = s.val := by omega
  unfold probsT
  generalize hX : Host.scatterAdd (F := Ideal) scatter_S512x42024_S512x32x2_S512x32_n_01_01_2 _ _ _ = X
  have e : shapeCast S16x32x42024 X shapeCasts_S512x42024_S16x32x42024 (ix3 b s o) = X (ix2 ⟨b.val * 32 + s.val, by omega⟩ o) := by
    pointwise
  rw [e, ← hX, Kern.hostScatter_apply _ _ _ (fun r k => (v (ix3 ⟨r.val / 32, by omega⟩ ⟨r.val % 32, by omega⟩ k)).toNat) (idxT_row v) (idxT_col v hv)]
  pointwise
  simp only [hd, hm]

/-- The reference's second result is the last stage of the mixing coefficient, -/
theorem res_lam (m : (ℓ : Loc nD τ sig) → Buf (Elt Ideal) ℓ) (c : Dev nD) :
    Value.res_main_v67 m c = lamT (mixedT (m ((c.tc : Thread nD τ).loc main_arg0)) (m ((c.tc : Thread nD τ).loc main_arg1))
        (weightT (sdT (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)))))
      (m ((c.tc : Thread nD τ).loc main_arg6)) (m ((c.tc : Thread nD τ).loc main_arg7)) (m ((c.tc : Thread nD τ).loc main_arg8)) (m ((c.tc : Thread nD τ).loc main_arg9)) := by
  unfold Value.res_main_v67 lamT mixedT weightT expT sdT
  rfl

/-- and its first the probabilities. -/
theorem res_probs (m : (ℓ : Loc nD τ sig) → Buf (Elt Ideal) ℓ) (c : Dev nD) :
    Value.res_main_v49 m c = probsT (m ((c.tc : Thread nD τ).loc main_arg2))
        (weightT (sdT (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)))) := by
  unfold Value.res_main_v49 probsT idxT weightT expT sdT
  rfl

end Cert.Proof.Ref
-- ==== Proof.Algebraic.lean ====
/-
  The kernel and the reference compute the same two results, over the extended reals.
-/
module

public import proofs.«01_k».proof.Defs
public import proofs.«01_k».proof.Proof.Values
public import proofs.«01_k».proof.Proof.RefTerms
public import proofs.«01_k».proof.Proof.RefFrame

@[expose] public section

set_option maxRecDepth 16384

noncomputable section

namespace Cert.Proof.Kern

open Cert.KernelIdeal Cert.KernelIdeal.Gen
open Idealize.ShloMosaic Idealize.ShloMosaic.TcCoe

variable (m : (ℓ : Loc nD τ sig) → Buf (Elt Ideal) ℓ) (ρ : Dev nD → PrngReg) (c : Dev nD)

/-- The reference's weights are the kernel's. -/
theorem ref_weights (b : Fin 16) (s k : Fin 32) :
    Ref.weightT (Ref.sdT (g0 m c) (g1 m c) (g3 m c) (g4 m c) (g5 m c)) (ix3 b s k) = wOf m c b s k := by
  rw [Ref.weightT_apply]
  exact congrFun (congrArg Row.weight (funext fun l => Ref.sdT_apply _ _ _ _ _ b s l)) k

/-- Two arrays of three dimensions are equal when they are at every place, -/
theorem ext_ix3 {n0 n1 n2 : Nat} {α : Type} {f g : (⟨3, ![n0, n1, n2]⟩ : Shape).Idx → α}
    (h : ∀ (x : Fin n0) (y : Fin n1) (z : Fin n2), f (ix3 x y z) = g (ix3 x y z)) : f = g := by
  funext i
  have hi : i = ix3 (i 0 : Fin n0) (i 1 : Fin n1) (i 2 : Fin n2) := by funext a; fin_cases a <;> rfl
  rw [hi]
  exact h _ _ _

/-- and with one place only in the last dimension, at place 0 of it. -/
theorem ext_ix3_one {n0 n1 : Nat} {α : Type} {f g : (⟨3, ![n0, n1, 1]⟩ : Shape).Idx → α}
    (h : ∀ (x : Fin n0) (y : Fin n1), f (ix3 x y 0) = g (ix3 x y 0)) : f = g :=
  ext_ix3 fun x y z => by rw [Subsingleton.elim z 0]; exact h x y

/-- The first results are equal, -/
theorem probs_eq (hv : ∀ i, (g2 m c i).toNat < 42024) :
    (W8 m ρ c (Proc.devRef .tc main_v13) : FVec Ideal S16x32x42024 .f32)
      = Ref.probsT (g2 m c) (Ref.weightT (Ref.sdT (g0 m c) (g1 m c) (g3 m c) (g4 m c) (g5 m c))) :=
  ext_ix3 (n0 := 16) (n1 := 32) (n2 := 42024) fun b s o => by
    refine (W8_v13 m ρ c b s o).trans (Eq.trans ?_ (Ref.probsT_apply _ hv _ b s o).symm)
    exact congrArg (fun w => hits (fun k => (g2 m c (ix3 b s k)).toNat) w o.val) (funext fun k => (ref_weights m c b s k).symm)

/-- and the second. -/
theorem lam_eq :
    (W8 m ρ c (Proc.devRef .tc main_v14) : FVec Ideal S16x32x1 .f32)
      = Ref.lamT (Ref.mixedT (g0 m c) (g1 m c) (Ref.weightT (Ref.sdT (g0 m c) (g1 m c) (g3 m c) (g4 m c) (g5 m c)))) (g6 m c) (g7 m c) (g8 m c) (g9 m c) :=
  ext_ix3_one (n0 := 16) (n1 := 32) fun b s => by
    refine (W8_v14 m ρ c b s).trans (Eq.trans ?_ (Ref.lamT_apply _ _ _ _ _ b s).symm)
    have hx : Row.mixed (fun j => g0 m c (ix3 b s j)) (fun k j => g1 m c (ix4 b s k j)) (wOf m c b s)
        = fun j => Ref.mixedT (g0 m c) (g1 m c) (Ref.weightT (Ref.sdT (g0 m c) (g1 m c) (g3 m c) (g4 m c) (g5 m c))) (ix3 b s j) := by
      funext j
      refine Eq.trans ?_ (Ref.mixedT_apply _ _ _ b s j).symm
      exact congrArg (fun w => Row.mixed (fun j => g0 m c (ix3 b s j)) (fun k j => g1 m c (ix4 b s k j)) w j)
        (funext fun k => (ref_weights m c b s k).symm)
    rw [hx]

/-- The results are two of the buffers the run is read at. -/
theorem results_uc : ∀ a ∈ [main_v13, main_v14], Proc.devRef (τ := τ) .tc a ∈ Pipeline.ucRefs τ sig := ListAll.forall_mem_of_all_decide (by decide +kernel)

/-- The reference runs under the kernel's range too. -/
theorem frame_reference_pre : Cert.quiescent_ReferenceIdeal_pre_pre_vals (hReferenceIdeal := Cert.ReferenceIdeal.Gen.facts)
    (hPre_pre_vals := Cert.Pre_pre_vals.Gen.facts) :=
  fun m ρ _ => frame_reference m ρ trivial

/-- The kernel's run, with its results. -/
theorem run_results (hv : ∀ (d : Dev nD) (i : S16x32x32.Idx), (m ((d : Thread nD τ).loc main_arg2) i : BitVec 32).toNat < 42024) :
    θ_run (Cert.KernelIdeal.defs (F := Ideal)) (Cert.KernelIdeal.threads (F := Ideal)) ⟨m, fun _ => 0, ρ⟩ (fun r => ∀ d : Dev nD,
      r.2.mem ((d.tc : Thread nD τ).loc main_v13) = W8 m ρ d (Proc.devRef .tc main_v13)
      ∧ r.2.mem ((d.tc : Thread nD τ).loc main_v14) = W8 m ρ d (Proc.devRef .tc main_v14)
      ∧ ∀ a ∈ argRefs, r.2.mem ((d.tc : Thread nD τ).loc a) = m ((d.tc : Thread nD τ).loc a)) :=
  (θ_run Cert.KernelIdeal.defs _ _).mono
    (fun r h d => ⟨h.1 d _ (results_uc main_v13 (by decide)), h.1 d _ (results_uc main_v14 (by decide)), fun a ha => (h.1 d _ (arg_uc a ha)).trans (W8_args m ρ d a ha)⟩)
    (run_main m ρ (ids6_lt m ρ hv))

/-- From equal arguments, the vals in range, the two runs end with equal results. -/
theorem algebraic : (haveI := Cert.Pre_pre_vals.Gen.facts; haveI := Cert.KernelIdeal.Gen.facts; haveI := Cert.ReferenceIdeal.Gen.facts;
    Cert.algebraic_KernelIdeal_ReferenceIdeal) := fun m ρ m' ρ' hpre hagree => by
  have hv : ∀ (d : Dev nD) (i : S16x32x32.Idx), (m ((d : Thread nD τ).loc main_arg2) i : BitVec 32).toNat < 42024 :=
    fun d i => vals_of_pre _ _ _ _ _ _ _ _ _ _ (hpre d) i
  refine ⟨fun d => W8 m ρ d (Proc.devRef .tc main_v13), fun d => W8 m ρ d (Proc.devRef .tc main_v14), ?_, ?_⟩
  · refine (θ_run Cert.KernelIdeal.defs _ _).mono (fun r h d => ?_) (run_results m ρ hv)
    obtain ⟨h0, h1, ha⟩ := h d
    exact ⟨h0, h1, ha main_arg0 (by decide), ha main_arg1 (by decide), ha main_arg2 (by decide), ha main_arg3 (by decide), ha main_arg4 (by decide),
      ha main_arg5 (by decide), ha main_arg6 (by decide), ha main_arg7 (by decide), ha main_arg8 (by decide), ha main_arg9 (by decide)⟩
  · refine (θ_run Cert.ReferenceIdeal.defs _ _).mono (fun r h d => ?_) (Cert.ReferenceIdeal.Value.run m' ρ')
    obtain ⟨h0, h1, ha⟩ := h d
    obtain ⟨e0, e1, e2, e3, e4, e5, e6, e7, e8, e9⟩ := hagree d
    refine ⟨h0.trans ?_, h1.trans ?_, ha⟩
    · rw [Ref.res_probs, e0, e1, e2, e3, e4, e5]
      exact (probs_eq m ρ d (hv d)).symm
    · rw [Ref.res_lam, e0, e1, e3, e4, e5, e6, e7, e8, e9]
      exact (lam_eq m ρ d).symm

end Cert.Proof.Kern
-- ==== Proof.lean ====
module

public import proofs.«01_k».proof.Defs
public import proofs.«01_k».proof.Proof.Frames
public import proofs.«01_k».proof.Proof.RefFrame
public import proofs.«01_k».proof.Proof.Algebraic

@[expose] public section

namespace Cert.Proof

theorem claim : Cert.Claim :=
  ⟨Cert.Kernel.Gen.facts, Cert.KernelIdeal.Gen.facts, Cert.ReferenceIdeal.Gen.facts, Cert.Pre_pre_vals.Gen.facts,
    Kern.frame_kernel, Kern.frame_kernelIdeal, Kern.frame_reference, Kern.frame_reference_pre, trivial, Kern.algebraic⟩

end Cert.Proof
